-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_real_inputs [hPre_real_inputs : Cert.Pre_real_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_real_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_real_inputs [hPre_real_inputs : Cert.Pre_real_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_real_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_real_inputs [hKernelIdeal : Cert.KernelIdeal.Facts] [hPre_real_inputs : Cert.Pre_real_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_real_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_real_inputs [hReferenceIdeal : Cert.ReferenceIdeal.Facts] [hPre_real_inputs : Cert.Pre_real_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_real_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  True

def algebraic_KernelIdeal_ReferenceIdeal_pre_real_inputs [hKernelIdeal : Cert.KernelIdeal.Facts] [hReferenceIdeal : Cert.ReferenceIdeal.Facts] [hPre_real_inputs : Cert.Pre_real_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_real_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v115)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v115) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v203) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_real_inputs : Cert.Pre_real_inputs.Facts),
    quiescent_Kernel (hKernel := hKernel)
    ∧ quiescent_KernelIdeal (hKernelIdeal := hKernelIdeal)
    ∧ quiescent_KernelIdeal_pre_real_inputs (hKernelIdeal := hKernelIdeal) (hPre_real_inputs := hPre_real_inputs)
    ∧ quiescent_ReferenceIdeal (hReferenceIdeal := hReferenceIdeal)
    ∧ quiescent_ReferenceIdeal_pre_real_inputs (hReferenceIdeal := hReferenceIdeal) (hPre_real_inputs := hPre_real_inputs)
    ∧ preserves_Kernel_KernelIdeal
    ∧ algebraic_KernelIdeal_ReferenceIdeal_pre_real_inputs (hKernelIdeal := hKernelIdeal) (hReferenceIdeal := hReferenceIdeal) (hPre_real_inputs := hPre_real_inputs)
-- ==== Pre_real_inputs.lean ====
abbrev S100000x1 : Shape := ⟨2, ![100000, 1]⟩
abbrev S2x1600000 : Shape := ⟨2, ![2, 1600000]⟩
abbrev S1600000 : Shape := ⟨1, ![1600000]⟩
abbrev S1 : Shape := ⟨1, ![1]⟩
abbrev S1x128 : Shape := ⟨2, ![1, 128]⟩
abbrev S8x16 : Shape := ⟨2, ![8, 16]⟩
abbrev S128 : Shape := ⟨1, ![128]⟩
abbrev S128x32 : Shape := ⟨2, ![128, 32]⟩
abbrev S1x32 : Shape := ⟨2, ![1, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S1 : S_.BroadcastsInDim S1 (![] : Fin 0 → Fin S1.rank)
  reducesTo_S1_S_d0 : S1.ReducesTo [0] S_
  bcast_S_S1x128 : S_.BroadcastsInDim S1x128 (![] : Fin 0 → Fin S1x128.rank)
  reducesTo_S1x128_S_d0_1 : S1x128.ReducesTo [0, 1] S_
  bcast_S_S8x16 : S_.BroadcastsInDim S8x16 (![] : Fin 0 → Fin S8x16.rank)
  reducesTo_S8x16_S_d0_1 : S8x16.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S1x32 : S_.BroadcastsInDim S1x32 (![] : Fin 0 → Fin S1x32.rank)
  reducesTo_S1x32_S_d0_1 : S1x32.ReducesTo [0, 1] S_

variable [Facts]

def fn_part3 {F : FTy → Type} [FloatOps F] (main_arg12 : FVec F S1x32 .f32) (main_arg13 : FVec F S1x32 .f32) (main_v48 : IVec S_ 1) (main_v49 : FVec F S128x32 .f32) (main_v50 : FVec F S128x32 .f32) : IVec S_ 1 :=
  let main_v51 : IVec S128x32 1 := cmpf .olt main_v49 main_v50
  let main_c_19 : IVec S_ 1 := constantI S_ 1 1#1
  let main_v52 : IVec S_ 1 := (fun x v => Host.reduce IntOp.andi x v reducesTo_S128x32_S_d0_1 h_S_) main_v51 main_c_19
  let main_v53 : IVec S_ 1 := andi main_v48 main_v52
  let main_v54 : FVec F S1x32 .f32 := Host.absf main_arg12
  let main_cst_20 : FVec F S_ .f32 := constant S_ .f32 0x7F800000#32
  let main_v55 : FVec F S1x32 .f32 := broadcastInDim S1x32 ![] bcast_S_S1x32 main_cst_20
  let main_v56 : IVec S1x32 1 := cmpf .olt main_v54 main_v55
  let main_c_21 : IVec S_ 1 := constantI S_ 1 1#1
  let main_v57 : IVec S_ 1 := (fun x v => Host.reduce IntOp.andi x v reducesTo_S1x32_S_d0_1 h_S_) main_v56 main_c_21
  let main_v58 : IVec S_ 1 := andi main_v53 main_v57
  let main_v59 : FVec F S1x32 .f32 := Host.absf main_arg13
  let main_cst_22 : FVec F S_ .f32 := constant S_ .f32 0x7F800000#32
  let main_v60 : FVec F S1x32 .f32 := broadcastInDim S1x32 ![] bcast_S_S1x32 main_cst_22
  let main_v61 : IVec S1x32 1 := cmpf .olt main_v59 main_v60
  let main_c_23 : IVec S_ 1 := constantI S_ 1 1#1
  let main_v62 : IVec S_ 1 := (fun x v => Host.reduce IntOp.andi x v reducesTo_S1x32_S_d0_1 h_S_) main_v61 main_c_23
  let main_v63 : IVec S_ 1 := andi main_v58 main_v62
  main_v63

def fn_part2 {F : FTy → Type} [FloatOps F] (main_arg8 : FVec F S128 .f32) (main_arg9 : FVec F S128 .f32) (main_arg10 : FVec F S128 .f32) (main_arg11 : FVec F S128x32 .f32) (main_arg12 : FVec F S1x32 .f32) (main_arg13 : FVec F S1x32 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x32 .f32 := Host.absf main_arg11
  let main_cst_18 : FVec F S_ .f32 := constant S_ .f32 0x7F800000#32
  let main_v50 : FVec F S128x32 .f32 := broadcastInDim S128x32 ![] bcast_S_S128x32 main_cst_18
  fn_part3 (F := F) main_arg12 main_arg13 main_v48 main_v49 main_v50

def fn_part1 {F : FTy → Type} [FloatOps F] (main_arg5 : FVec F S1x128 .f32) (main_arg6 : FVec F S8x16 .f32) (main_arg7 : FVec F S8x16 .f32) (main_arg8 : FVec F S128 .f32) (main_arg9 : FVec F S128 .f32) (main_arg10 : FVec F S128 .f32) (main_arg11 : FVec F S128x32 .f32) (main_arg12 : FVec F S1x32 .f32) (main_arg13 : FVec F S1x32 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S1x128 .f32 := Host.absf main_arg5
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S8x16 .f32 := Host.absf main_arg6
  let main_cst_8 : FVec F S_ .f32 := constant S_ .f32 0x7F800000#32
  let main_v25 : FVec F S8x16 .f32 := broadcastInDim S8x16 ![] bcast_S_S8x16 main_cst_8
  let main_v26 : IVec S8x16 1 := cmpf .olt main_v24 main_v25
  let main_c_9 : IVec S_ 1 := constantI S_ 1 1#1
  let main_v27 : IVec S_ 1 := (fun x v => Host.reduce IntOp.andi x v reducesTo_S8x16_S_d0_1 h_S_) main_v26 main_c_9
  let main_v28 : IVec S_ 1 := andi main_v23 main_v27
  let main_v29 : FVec F S8x16 .f32 := Host.absf main_arg7
  let main_cst_10 : FVec F S_ .f32 := constant S_ .f32 0x7F800000#32
  let main_v30 : FVec F S8x16 .f32 := broadcastInDim S8x16 ![] bcast_S_S8x16 main_cst_10
  let main_v31 : IVec S8x16 1 := cmpf .olt main_v29 main_v30
  let main_c_11 : IVec S_ 1 := constantI S_ 1 1#1
  let main_v32 : IVec S_ 1 := (fun x v => Host.reduce IntOp.andi x v reducesTo_S8x16_S_d0_1 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x1 .f32) (main_arg1 : IVec S2x1600000 32) (main_arg2 : FVec F S1600000 .f32) (main_arg3 : FVec F S1 .f32) (main_arg4 : FVec F S1 .f32) (main_arg5 : FVec F S1x128 .f32) (main_arg6 : FVec F S8x16 .f32) (main_arg7 : FVec F S8x16 .f32) (main_arg8 : FVec F S128 .f32) (main_arg9 : FVec F S128 .f32) (main_arg10 : FVec F S128 .f32) (main_arg11 : FVec F S128x32 .f32) (main_arg12 : FVec F S1x32 .f32) (main_arg13 : FVec F S1x32 .f32) (main_arg14 : FVec F S32 .f32) (main_arg15 : FVec F S32x16 .f32) (main_arg16 : FVec F S16 .f32) (main_arg17 : FVec F S16x1 .f32) (main_arg18 : FVec F S1 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S1 .f32 := Host.absf main_arg4
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg5 main_arg6 main_arg7 main_arg8 main_arg9 main_arg10 main_arg11 main_arg12 main_arg13 main_v13 main_v16
-- ==== Kernel.lean ====
abbrev S100000x1 : Shape := ⟨2, ![100000, 1]⟩
abbrev S2x1600000 : Shape := ⟨2, ![2, 1600000]⟩
abbrev S1600000 : Shape := ⟨1, ![1600000]⟩
abbrev S1 : Shape := ⟨1, ![1]⟩
abbrev S1x128 : Shape := ⟨2, ![1, 128]⟩
abbrev S8x16 : Shape := ⟨2, ![8, 16]⟩
abbrev S128 : Shape := ⟨1, ![128]⟩
abbrev S128x32 : Shape := ⟨2, ![128, 32]⟩
abbrev S1x32 : Shape := ⟨2, ![1, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S_ : Shape := ⟨0, ![]⟩
abbrev S1x1 : Shape := ⟨2, ![1, 1]⟩
abbrev S100000 : Shape := ⟨1, ![100000]⟩
abbrev S8 : Shape := ⟨1, ![8]⟩
abbrev S1x1600000 : Shape := ⟨2, ![1, 1600000]⟩
abbrev S1600000x1 : Shape := ⟨2, ![1600000, 1]⟩
abbrev S1x8 : Shape := ⟨2, ![1, 8]⟩
abbrev S1600000x8 : Shape := ⟨2, ![1600000, 8]⟩
abbrev S5000x1 : Shape := ⟨2, ![5000, 1]⟩
abbrev S5000x8 : Shape := ⟨2, ![5000, 8]⟩
abbrev S100000x8 : Shape := ⟨2, ![100000, 8]⟩
abbrev S8x1 : Shape := ⟨2, ![8, 1]⟩
abbrev S100000x32 : Shape := ⟨2, ![100000, 32]⟩
abbrev S1000x8 : Shape := ⟨2, ![1000, 8]⟩
abbrev S1000x32 : Shape := ⟨2, ![1000, 32]⟩
abbrev S1000x1 : Shape := ⟨2, ![1000, 1]⟩
abbrev S1000x8x1 : Shape := ⟨3, ![1000, 8, 1]⟩
abbrev S1x8x1 : Shape := ⟨3, ![1, 8, 1]⟩
abbrev S1x8x16 : Shape := ⟨3, ![1, 8, 16]⟩
abbrev S1000x8x16 : Shape := ⟨3, ![1000, 8, 16]⟩
abbrev S1000x128 : Shape := ⟨2, ![1000, 128]⟩
abbrev S1000 : Shape := ⟨1, ![1000]⟩
abbrev S1600000x32 : Shape := ⟨2, ![1600000, 32]⟩
abbrev S5000x32 : Shape := ⟨2, ![5000, 32]⟩
abbrev S1x16 : Shape := ⟨2, ![1, 16]⟩
abbrev S1000x16 : Shape := ⟨2, ![1000, 16]⟩

abbrev nBuf : Space → Nat
  | .hbm => 209
  | .vmem => 55
  | .smem => 0
  | _ => 0

abbrev hbmTy0_0 (i : Nat) : BufTy := match i % 128 with
  | 0 => ⟨S100000x1, .f32⟩
  | 1 => ⟨S2x1600000, .i32⟩
  | 2 => ⟨S1600000, .f32⟩
  | 3 => ⟨S1, .f32⟩
  | 4 => ⟨S1, .f32⟩
  | 5 => ⟨S1x128, .f32⟩
  | 6 => ⟨S8x16, .f32⟩
  | 7 => ⟨S8x16, .f32⟩
  | 8 => ⟨S128, .f32⟩
  | 9 => ⟨S128, .f32⟩
  | 10 => ⟨S128, .f32⟩
  | 11 => ⟨S128x32, .f32⟩
  | 12 => ⟨S1x32, .f32⟩
  | 13 => ⟨S1x32, .f32⟩
  | 14 => ⟨S32, .f32⟩
  | 15 => ⟨S32x16, .f32⟩
  | 16 => ⟨S16, .f32⟩
  | 17 => ⟨S16x1, .f32⟩
  | 18 => ⟨S1, .f32⟩
  | 19 => ⟨S_, .f32⟩
  | 20 => ⟨S_, .f32⟩
  | 21 => ⟨S_, .f32⟩
  | 22 => ⟨S_, .f32⟩
  | 23 => ⟨S_, .i32⟩
  | 24 => ⟨S_, .f32⟩
  | 25 => ⟨S_, .f32⟩
  | 26 => ⟨S1x1, .f32⟩
  | 27 => ⟨S_, .f32⟩
  | 28 => ⟨S1x1, .f32⟩
  | 29 => ⟨S1x1, .f32⟩
  | 30 => ⟨S100000x1, .f32⟩
  | 31 => ⟨S100000x1, .f32⟩
  | 32 => ⟨S100000x1, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .i1⟩
  | 41 => ⟨S_, .f32⟩
  | 42 => ⟨S_, .f32⟩
  | 43 => ⟨S_, .f32⟩
  | 44 => ⟨S100000x1, .f32⟩
  | 45 => ⟨S100000x1, .f32⟩
  | 46 => ⟨S_, .f32⟩
  | 47 => ⟨S_, .f32⟩
  | 48 => ⟨S_, .f32⟩
  | 49 => ⟨S100000x1, .f32⟩
  | 50 => ⟨S100000x1, .f32⟩
  | 51 => ⟨S_, .f32⟩
  | 52 => ⟨S100000x1, .f32⟩
  | 53 => ⟨S100000x1, .f32⟩
  | 54 => ⟨S_, .f32⟩
  | 55 => ⟨S100000x1, .f32⟩
  | 56 => ⟨S100000x1, .f32⟩
  | 57 => ⟨S100000, .f32⟩
  | 58 => ⟨S8x16, .f32⟩
  | 59 => ⟨S8x16, .f32⟩
  | 60 => ⟨S_, .f32⟩
  | 61 => ⟨S8, .f32⟩
  | 62 => ⟨S8x16, .f32⟩
  | 63 => ⟨S_, .f32⟩
  | 64 => ⟨S8, .f32⟩
  | 65 => ⟨S1x1600000, .i32⟩
  | 66 => ⟨S1600000, .i32⟩
  | 67 => ⟨S1x1600000, .i32⟩
  | 68 => ⟨S1600000, .i32⟩
  | 69 => ⟨S1600000x1, .f32⟩
  | 70 => ⟨S100000, .f32⟩
  | 71 => ⟨S_, .f32⟩
  | 72 => ⟨S_, .f32⟩
  | 73 => ⟨S8, .f32⟩
  | 74 => ⟨S8, .f32⟩
  | 75 => ⟨S8, .f32⟩
  | 76 => ⟨S8, .f32⟩
  | 77 => ⟨S8, .f32⟩
  | 78 => ⟨S_, .f32⟩
  | 79 => ⟨S_, .f32⟩
  | 80 => ⟨S_, .f32⟩
  | 81 => ⟨S_, .f32⟩
  | 82 => ⟨S_, .i32⟩
  | 83 => ⟨S1600000, .i32⟩
  | 84 => ⟨S1600000, .i1⟩
  | 85 => ⟨S_, .i32⟩
  | 86 => ⟨S1600000, .i32⟩
  | 87 => ⟨S1600000, .i32⟩
  | 88 => ⟨S1600000, .i32⟩
  | 89 => ⟨S1600000x1, .i32⟩
  | 90 => ⟨S1600000, .f32⟩
  | 91 => ⟨S1600000x1, .f32⟩
  | 92 => ⟨S_, .i32⟩
  | 93 => ⟨S1600000, .i32⟩
  | 94 => ⟨S1600000, .i1⟩
  | 95 => ⟨S_, .i32⟩
  | 96 => ⟨S1600000, .i32⟩
  | 97 => ⟨S1600000, .i32⟩
  | 98 => ⟨S1600000, .i32⟩
  | 99 => ⟨S1600000x1, .i32⟩
  | 100 => ⟨S1600000, .f32⟩
  | 101 => ⟨S1600000x1, .f32⟩
  | 102 => ⟨S1x8, .f32⟩
  | 103 => ⟨S1x8, .f32⟩
  | 104 => ⟨S1x1, .f32⟩
  | 105 => ⟨S1600000x8, .f32⟩
  | 106 => ⟨S1600000x8, .f32⟩
  | 107 => ⟨S_, .f32⟩
  | 108 => ⟨S100000x8, .f32⟩
  | 109 => ⟨S1600000x1, .i32⟩
  | 110 => ⟨S100000x8, .f32⟩
  | 111 => ⟨S_, .f32⟩
  | 112 => ⟨S100000x8, .f32⟩
  | 113 => ⟨S1600000x1, .i32⟩
  | 114 => ⟨S100000x8, .f32⟩
  | 115 => ⟨S_, .f32⟩
  | 116 => ⟨S100000x8, .f32⟩
  | 117 => ⟨S100000x8, .f32⟩
  | 118 => ⟨S100000x8, .f32⟩
  | 119 => ⟨S_, .f32⟩
  | 120 => ⟨S8, .f32⟩
  | 121 => ⟨S_, .f32⟩
  | 122 => ⟨S8, .f32⟩
  | 123 => ⟨S8, .f32⟩
  | 124 => ⟨S_, .i32⟩
  | 125 => ⟨S_, .f32⟩
  | 126 => ⟨S8, .f32⟩
  | 127 => ⟨S1x8, .f32⟩
  | _ => ⟨S100000x1, .f32⟩

abbrev hbmTy0_1 (i : Nat) : BufTy := match i % 128 with
  | 0 => ⟨S_, .f32⟩
  | 1 => ⟨S1x8, .f32⟩
  | 2 => ⟨S1x8, .f32⟩
  | 3 => ⟨S100000x8, .f32⟩
  | 4 => ⟨S100000x8, .f32⟩
  | 5 => ⟨S100000x8, .f32⟩
  | 6 => ⟨S_, .f32⟩
  | 7 => ⟨S_, .f32⟩
  | 8 => ⟨S_, .f32⟩
  | 9 => ⟨S_, .f32⟩
  | 10 => ⟨S8, .f32⟩
  | 11 => ⟨S8, .f32⟩
  | 12 => ⟨S8, .f32⟩
  | 13 => ⟨S_, .f32⟩
  | 14 => ⟨S_, .i1⟩
  | 15 => ⟨S_, .f32⟩
  | 16 => ⟨S_, .f32⟩
  | 17 => ⟨S8, .f32⟩
  | 18 => ⟨S8, .f32⟩
  | 19 => ⟨S8x16, .f32⟩
  | 20 => ⟨S8x16, .f32⟩
  | 21 => ⟨S8x1, .f32⟩
  | 22 => ⟨S8x16, .f32⟩
  | 23 => ⟨S8x1, .f32⟩
  | 24 => ⟨S8x16, .f32⟩
  | 25 => ⟨S100000x32, .f32⟩
  | 26 => ⟨S100000x1, .f32⟩
  | 27 => ⟨S100000x1, .f32⟩
  | 28 => ⟨S100000, .f32⟩
  | 29 => ⟨S100000, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S1600000x1, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000, .f32⟩
  | 56 => ⟨S1600000x1, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x32, .f32⟩
  | 66 => ⟨S1x1, .f32⟩
  | 67 => ⟨S1600000x1, .f32⟩
  | 68 => ⟨S1600000x32, .f32⟩
  | 69 => ⟨S_, .f32⟩
  | 70 => ⟨S100000x1, .f32⟩
  | 71 => ⟨S1600000x1, .i32⟩
  | 72 => ⟨S100000x1, .f32⟩
  | 73 => ⟨S_, .f32⟩
  | 74 => ⟨S100000x32, .f32⟩
  | 75 => ⟨S1600000x1, .i32⟩
  | 76 => ⟨S100000x32, .f32⟩
  | 77 => ⟨S1x32, .f32⟩
  | 78 => ⟨S1x16, .f32⟩
  | 79 => ⟨S1x1, .f32⟩
  | 80 => ⟨S100000x1, .f32⟩
  | _ => ⟨S100000x1, .f32⟩

abbrev hbmTy (i : Nat) : BufTy := match i / 128 with
  | 0 => hbmTy0_0 i
  | 1 => hbmTy0_1 i
  | _ => ⟨S100000x1, .f32⟩

abbrev bufTy : (tb : Table) → Fin (tcTables nBuf tb) → BufTy
  | .hbm, ⟨i, _⟩ => hbmTy i
  | .local _ .vmem, ⟨0, _⟩ => ⟨S5000x1, .f32⟩
  | .local _ .vmem, ⟨1, _⟩ => ⟨S5000x1, .f32⟩
  | .local _ .vmem, ⟨2, _⟩ => ⟨S5000x1, .f32⟩
  | .local _ .vmem, ⟨3, _⟩ => ⟨S5000x1, .f32⟩
  | .local _ .vmem, ⟨4, _⟩ => ⟨S5000x1, .f32⟩
  | .local _ .vmem, ⟨5, _⟩ => ⟨S5000x1, .f32⟩
  | .local _ .vmem, ⟨6, _⟩ => ⟨S1x8, .f32⟩
  | .local _ .vmem, ⟨7, _⟩ => ⟨S1x8, .f32⟩
  | .local _ .vmem, ⟨8, _⟩ => ⟨S1x1, .f32⟩
  | .local _ .vmem, ⟨9, _⟩ => ⟨S5000x8, .f32⟩
  | .local _ .vmem, ⟨10, _⟩ => ⟨S5000x8, .f32⟩
  | .local _ .vmem, ⟨11, _⟩ => ⟨S5000x8, .f32⟩
  | .local _ .vmem, ⟨12, _⟩ => ⟨S5000x8, .f32⟩
  | .local _ .vmem, ⟨13, _⟩ => ⟨S1000x8, .f32⟩
  | .local _ .vmem, ⟨14, _⟩ => ⟨S1000x8, .f32⟩
  | .local _ .vmem, ⟨15, _⟩ => ⟨S1000x8, .f32⟩
  | .local _ .vmem, ⟨16, _⟩ => ⟨S1000x8, .f32⟩
  | .local _ .vmem, ⟨17, _⟩ => ⟨S8x16, .f32⟩
  | .local _ .vmem, ⟨18, _⟩ => ⟨S8x16, .f32⟩
  | .local _ .vmem, ⟨19, _⟩ => ⟨S8x16, .f32⟩
  | .local _ .vmem, ⟨20, _⟩ => ⟨S128x32, .f32⟩
  | .local _ .vmem, ⟨21, _⟩ => ⟨S1x32, .f32⟩
  | .local _ .vmem, ⟨22, _⟩ => ⟨S1x32, .f32⟩
  | .local _ .vmem, ⟨23, _⟩ => ⟨S8x16, .f32⟩
  | .local _ .vmem, ⟨24, _⟩ => ⟨S8x16, .f32⟩
  | .local _ .vmem, ⟨25, _⟩ => ⟨S1000x32, .f32⟩
  | .local _ .vmem, ⟨26, _⟩ => ⟨S1000x32, .f32⟩
  | .local _ .vmem, ⟨27, _⟩ => ⟨S1000x1, .f32⟩
  | .local _ .vmem, ⟨28, _⟩ => ⟨S1000x1, .f32⟩
  | .local _ .vmem, ⟨29, _⟩ => ⟨S1000x1, .f32⟩
  | .local _ .vmem, ⟨30, _⟩ => ⟨S1000x1, .f32⟩
  | .local _ .vmem, ⟨31, _⟩ => ⟨S5000x1, .f32⟩
  | .local _ .vmem, ⟨32, _⟩ => ⟨S5000x1, .f32⟩
  | .local _ .vmem, ⟨33, _⟩ => ⟨S5000x1, .f32⟩
  | .local _ .vmem, ⟨34, _⟩ => ⟨S5000x1, .f32⟩
  | .local _ .vmem, ⟨35, _⟩ => ⟨S5000x1, .f32⟩
  | .local _ .vmem, ⟨36, _⟩ => ⟨S5000x1, .f32⟩
  | .local _ .vmem, ⟨37, _⟩ => ⟨S5000x32, .f32⟩
  | .local _ .vmem, ⟨38, _⟩ => ⟨S5000x32, .f32⟩
  | .local _ .vmem, ⟨39, _⟩ => ⟨S1x1, .f32⟩
  | .local _ .vmem, ⟨40, _⟩ => ⟨S5000x1, .f32⟩
  | .local _ .vmem, ⟨41, _⟩ => ⟨S5000x1, .f32⟩
  | .local _ .vmem, ⟨42, _⟩ => ⟨S5000x32, .f32⟩
  | .local _ .vmem, ⟨43, _⟩ => ⟨S5000x32, .f32⟩
  | .local _ .vmem, ⟨44, _⟩ => ⟨S1000x1, .f32⟩
  | .local _ .vmem, ⟨45, _⟩ => ⟨S1000x1, .f32⟩
  | .local _ .vmem, ⟨46, _⟩ => ⟨S1000x32, .f32⟩
  | .local _ .vmem, ⟨47, _⟩ => ⟨S1000x32, .f32⟩
  | .local _ .vmem, ⟨48, _⟩ => ⟨S1x32, .f32⟩
  | .local _ .vmem, ⟨49, _⟩ => ⟨S32x16, .f32⟩
  | .local _ .vmem, ⟨50, _⟩ => ⟨S1x16, .f32⟩
  | .local _ .vmem, ⟨51, _⟩ => ⟨S16x1, .f32⟩
  | .local _ .vmem, ⟨52, _⟩ => ⟨S1x1, .f32⟩
  | .local _ .vmem, ⟨53, _⟩ => ⟨S1000x1, .f32⟩
  | .local _ .vmem, ⟨54, _⟩ => ⟨S1000x1, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_cst_0 : Ref sig .tc := ⟨.hbm, 21, rfl⟩
abbrev main_v1 : Ref sig .tc := ⟨.hbm, 22, rfl⟩
abbrev main_c : Ref sig .tc := ⟨.hbm, 23, rfl⟩
abbrev main_call0_cst : Ref sig .tc := ⟨.hbm, 24, rfl⟩
abbrev main_call0_v0 : Ref sig .tc := ⟨.hbm, 25, rfl⟩
abbrev main_call0_v1 : Ref sig .tc := ⟨.hbm, 26, rfl⟩
abbrev main_call0_cst_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_cst_1 : Ref sig .tc := ⟨.hbm, 34, rfl⟩
abbrev main_call0_v8 : Ref sig .tc := ⟨.hbm, 35, rfl⟩
abbrev main_call0_cst_2 : Ref sig .tc := ⟨.hbm, 36, rfl⟩
abbrev main_call0_v9 : Ref sig .tc := ⟨.hbm, 37, rfl⟩
abbrev main_call0_v10 : Ref sig .tc := ⟨.hbm, 38, rfl⟩
abbrev main_call0_cst_3 : Ref sig .tc := ⟨.hbm, 39, rfl⟩
abbrev main_call0_v11 : Ref sig .tc := ⟨.hbm, 40, rfl⟩
abbrev main_call0_cst_4 : Ref sig .tc := ⟨.hbm, 41, rfl⟩
abbrev main_call0_call0_v0 : Ref sig .tc := ⟨.hbm, 42, rfl⟩
abbrev main_v2 : Ref sig .tc := ⟨.hbm, 43, rfl⟩
abbrev main_v3 : Ref sig .tc := ⟨.hbm, 44, rfl⟩
abbrev main_v4 : Ref sig .tc := ⟨.hbm, 45, rfl⟩
abbrev main_cst_1 : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_cst_2 : Ref sig .tc := ⟨.hbm, 60, rfl⟩
abbrev main_v18 : Ref sig .tc := ⟨.hbm, 61, rfl⟩
abbrev main_v19 : Ref sig .tc := ⟨.hbm, 62, rfl⟩
abbrev main_cst_3 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_cst_4 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_cst_5 : Ref sig .tc := ⟨.hbm, 78, rfl⟩
abbrev main_v33 : Ref sig .tc := ⟨.hbm, 79, rfl⟩
abbrev main_cst_6 : Ref sig .tc := ⟨.hbm, 80, rfl⟩
abbrev main_v34 : Ref sig .tc := ⟨.hbm, 81, rfl⟩
abbrev main_c_7 : Ref sig .tc := ⟨.hbm, 82, rfl⟩
abbrev main_v35 : Ref sig .tc := ⟨.hbm, 83, rfl⟩
abbrev main_v36 : Ref sig .tc := ⟨.hbm, 84, rfl⟩
abbrev main_c_8 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_c_9 : Ref sig .tc := ⟨.hbm, 92, rfl⟩
abbrev main_v43 : Ref sig .tc := ⟨.hbm, 93, rfl⟩
abbrev main_v44 : Ref sig .tc := ⟨.hbm, 94, rfl⟩
abbrev main_c_10 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54_0 : Ref sig .tc := ⟨.hbm, 105, rfl⟩
abbrev main_v54_1 : Ref sig .tc := ⟨.hbm, 106, rfl⟩
abbrev main_cst_11 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_cst_12 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_cst_13 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_cst_14 : Ref sig .tc := ⟨.hbm, 119, rfl⟩
abbrev main_v64 : Ref sig .tc := ⟨.hbm, 120, rfl⟩
abbrev main_cst_15 : Ref sig .tc := ⟨.hbm, 121, rfl⟩
abbrev main_v65 : Ref sig .tc := ⟨.hbm, 122, rfl⟩
abbrev main_v66 : Ref sig .tc := ⟨.hbm, 123, rfl⟩
abbrev main_c_16 : Ref sig .tc := ⟨.hbm, 124, rfl⟩
abbrev main_call1_cst : Ref sig .tc := ⟨.hbm, 125, rfl⟩
abbrev main_call1_v0 : Ref sig .tc := ⟨.hbm, 126, rfl⟩
abbrev main_call1_v1 : Ref sig .tc := ⟨.hbm, 127, rfl⟩
abbrev main_call1_cst_0 : Ref sig .tc := ⟨.hbm, 128, rfl⟩
abbrev main_call1_v2 : Ref sig .tc := ⟨.hbm, 129, rfl⟩
abbrev main_call1_v3 : Ref sig .tc := ⟨.hbm, 130, rfl⟩
abbrev main_call1_v4 : Ref sig .tc := ⟨.hbm, 131, rfl⟩
abbrev main_call1_v5 : Ref sig .tc := ⟨.hbm, 132, rfl⟩
abbrev main_call1_v6 : Ref sig .tc := ⟨.hbm, 133, rfl⟩
abbrev main_call1_v7 : Ref sig .tc := ⟨.hbm, 134, rfl⟩
abbrev main_call1_cst_1 : Ref sig .tc := ⟨.hbm, 135, rfl⟩
abbrev main_call1_v8 : Ref sig .tc := ⟨.hbm, 136, rfl⟩
abbrev main_call1_cst_2 : Ref sig .tc := ⟨.hbm, 137, rfl⟩
abbrev main_call1_v9 : Ref sig .tc := ⟨.hbm, 138, rfl⟩
abbrev main_call1_v10 : Ref sig .tc := ⟨.hbm, 139, rfl⟩
abbrev main_call1_v11 : Ref sig .tc := ⟨.hbm, 140, rfl⟩
abbrev main_call1_cst_3 : Ref sig .tc := ⟨.hbm, 141, rfl⟩
abbrev main_call1_v12 : Ref sig .tc := ⟨.hbm, 142, rfl⟩
abbrev main_call1_cst_4 : Ref sig .tc := ⟨.hbm, 143, rfl⟩
abbrev main_call1_call0_v0 : Ref sig .tc := ⟨.hbm, 144, rfl⟩
abbrev main_call1_call0_v1 : Ref sig .tc := ⟨.hbm, 145, rfl⟩
abbrev main_v67 : Ref sig .tc := ⟨.hbm, 146, rfl⟩
abbrev main_v68 : Ref sig .tc := ⟨.hbm, 147, rfl⟩
abbrev main_v69 : Ref sig .tc := ⟨.hbm, 148, rfl⟩
abbrev main_v70 : Ref sig .tc := ⟨.hbm, 149, rfl⟩
abbrev main_v71 : Ref sig .tc := ⟨.hbm, 150, rfl⟩
abbrev main_v72 : Ref sig .tc := ⟨.hbm, 151, rfl⟩
abbrev main_v73 : Ref sig .tc := ⟨.hbm, 152, rfl⟩
abbrev main_v74_0 : Ref sig .tc := ⟨.hbm, 153, rfl⟩
abbrev main_v74_1 : Ref sig .tc := ⟨.hbm, 154, rfl⟩
abbrev main_v74_2 : Ref sig .tc := ⟨.hbm, 155, rfl⟩
abbrev main_v75 : Ref sig .tc := ⟨.hbm, 156, rfl⟩
abbrev main_v76 : Ref sig .tc := ⟨.hbm, 157, rfl⟩
abbrev main_cst_17 : Ref sig .tc := ⟨.hbm, 158, rfl⟩
abbrev main_v77 : Ref sig .tc := ⟨.hbm, 159, rfl⟩
abbrev main_cst_18 : Ref sig .tc := ⟨.hbm, 160, rfl⟩
abbrev main_v78 : Ref sig .tc := ⟨.hbm, 161, rfl⟩
abbrev main_v79 : Ref sig .tc := ⟨.hbm, 162, rfl⟩
abbrev main_cst_19 : Ref sig .tc := ⟨.hbm, 163, rfl⟩
abbrev main_v80 : Ref sig .tc := ⟨.hbm, 164, rfl⟩
abbrev main_c_20 : Ref sig .tc := ⟨.hbm, 165, rfl⟩
abbrev main_v81 : Ref sig .tc := ⟨.hbm, 166, rfl⟩
abbrev main_v82 : Ref sig .tc := ⟨.hbm, 167, rfl⟩
abbrev main_c_21 : Ref sig .tc := ⟨.hbm, 168, rfl⟩
abbrev main_v83 : Ref sig .tc := ⟨.hbm, 169, rfl⟩
abbrev main_v84 : Ref sig .tc := ⟨.hbm, 170, rfl⟩
abbrev main_v85 : Ref sig .tc := ⟨.hbm, 171, rfl⟩
abbrev main_v86 : Ref sig .tc := ⟨.hbm, 172, rfl⟩
abbrev main_v87 : Ref sig .tc := ⟨.hbm, 173, rfl⟩
abbrev main_v88 : Ref sig .tc := ⟨.hbm, 174, rfl⟩
abbrev main_c_22 : Ref sig .tc := ⟨.hbm, 175, rfl⟩
abbrev main_v89 : Ref sig .tc := ⟨.hbm, 176, rfl⟩
abbrev main_v90 : Ref sig .tc := ⟨.hbm, 177, rfl⟩
abbrev main_c_23 : Ref sig .tc := ⟨.hbm, 178, rfl⟩
abbrev main_v91 : Ref sig .tc := ⟨.hbm, 179, rfl⟩
abbrev main_v92 : Ref sig .tc := ⟨.hbm, 180, rfl⟩
abbrev main_v93 : Ref sig .tc := ⟨.hbm, 181, rfl⟩
abbrev main_v94 : Ref sig .tc := ⟨.hbm, 182, rfl⟩
abbrev main_v95 : Ref sig .tc := ⟨.hbm, 183, rfl⟩
abbrev main_v96 : Ref sig .tc := ⟨.hbm, 184, rfl⟩
abbrev main_c_24 : Ref sig .tc := ⟨.hbm, 185, rfl⟩
abbrev main_v97 : Ref sig .tc := ⟨.hbm, 186, rfl⟩
abbrev main_v98 : Ref sig .tc := ⟨.hbm, 187, rfl⟩
abbrev main_c_25 : Ref sig .tc := ⟨.hbm, 188, rfl⟩
abbrev main_v99 : Ref sig .tc := ⟨.hbm, 189, rfl⟩
abbrev main_v100 : Ref sig .tc := ⟨.hbm, 190, rfl⟩
abbrev main_v101 : Ref sig .tc := ⟨.hbm, 191, rfl⟩
abbrev main_v102 : Ref sig .tc := ⟨.hbm, 192, rfl⟩
abbrev main_v103 : Ref sig .tc := ⟨.hbm, 193, rfl⟩
abbrev main_v104 : Ref sig .tc := ⟨.hbm, 194, rfl⟩
abbrev main_v105_0 : Ref sig .tc := ⟨.hbm, 195, rfl⟩
abbrev main_v105_1 : Ref sig .tc := ⟨.hbm, 196, rfl⟩
abbrev main_cst_26 : Ref sig .tc := ⟨.hbm, 197, rfl⟩
abbrev main_v106 : Ref sig .tc := ⟨.hbm, 198, rfl⟩
abbrev main_v107 : Ref sig .tc := ⟨.hbm, 199, rfl⟩
abbrev main_v108 : Ref sig .tc := ⟨.hbm, 200, rfl⟩
abbrev main_cst_27 : Ref sig .tc := ⟨.hbm, 201, rfl⟩
abbrev main_v109 : Ref sig .tc := ⟨.hbm, 202, rfl⟩
abbrev main_v110 : Ref sig .tc := ⟨.hbm, 203, rfl⟩
abbrev main_v111 : Ref sig .tc := ⟨.hbm, 204, rfl⟩
abbrev main_v112 : Ref sig .tc := ⟨.hbm, 205, rfl⟩
abbrev main_v113 : Ref sig .tc := ⟨.hbm, 206, rfl⟩
abbrev main_v114 : Ref sig .tc := ⟨.hbm, 207, rfl⟩
abbrev main_v115 : Ref sig .tc := ⟨.hbm, 208, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg10_0 : Ref sig .tc := ⟨.vmem, 25, rfl⟩
abbrev cc1_stg10_1 : Ref sig .tc := ⟨.vmem, 26, rfl⟩
abbrev cc1_stg11_0 : Ref sig .tc := ⟨.vmem, 27, rfl⟩
abbrev cc1_stg11_1 : Ref sig .tc := ⟨.vmem, 28, rfl⟩
abbrev cc1_stg12_0 : Ref sig .tc := ⟨.vmem, 29, rfl⟩
abbrev cc1_stg12_1 : Ref sig .tc := ⟨.vmem, 30, rfl⟩
abbrev cc2_stg0_0 : Ref sig .tc := ⟨.vmem, 31, rfl⟩
abbrev cc2_stg0_1 : Ref sig .tc := ⟨.vmem, 32, rfl⟩
abbrev cc2_stg1_0 : Ref sig .tc := ⟨.vmem, 33, rfl⟩
abbrev cc2_stg1_1 : Ref sig .tc := ⟨.vmem, 34, rfl⟩
abbrev cc2_stg2_0 : Ref sig .tc := ⟨.vmem, 35, rfl⟩
abbrev cc2_stg2_1 : Ref sig .tc := ⟨.vmem, 36, rfl⟩
abbrev cc2_stg3_0 : Ref sig .tc := ⟨.vmem, 37, rfl⟩
abbrev cc2_stg3_1 : Ref sig .tc := ⟨.vmem, 38, rfl⟩
abbrev cc2_stg4_0 : Ref sig .tc := ⟨.vmem, 39, rfl⟩
abbrev cc2_stg5_0 : Ref sig .tc := ⟨.vmem, 40, rfl⟩
abbrev cc2_stg5_1 : Ref sig .tc := ⟨.vmem, 41, rfl⟩
abbrev cc2_stg6_0 : Ref sig .tc := ⟨.vmem, 42, rfl⟩
abbrev cc2_stg6_1 : Ref sig .tc := ⟨.vmem, 43, rfl⟩
abbrev cc3_stg0_0 : Ref sig .tc := ⟨.vmem, 44, rfl⟩
abbrev cc3_stg0_1 : Ref sig .tc := ⟨.vmem, 45, rfl⟩
abbrev cc3_stg1_0 : Ref sig .tc := ⟨.vmem, 46, rfl⟩
abbrev cc3_stg1_1 : Ref sig .tc := ⟨.vmem, 47, rfl⟩
abbrev cc3_stg2_0 : Ref sig .tc := ⟨.vmem, 48, rfl⟩
abbrev cc3_stg3_0 : Ref sig .tc := ⟨.vmem, 49, rfl⟩
abbrev cc3_stg4_0 : Ref sig .tc := ⟨.vmem, 50, rfl⟩
abbrev cc3_stg5_0 : Ref sig .tc := ⟨.vmem, 51, rfl⟩
abbrev cc3_stg6_0 : Ref sig .tc := ⟨.vmem, 52, rfl⟩
abbrev cc3_stg7_0 : Ref sig .tc := ⟨.vmem, 53, rfl⟩
abbrev cc3_stg7_1 : Ref sig .tc := ⟨.vmem, 54, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem10_0 : DmaSem sig := 25
abbrev cc1_sem10_1 : DmaSem sig := 26
abbrev cc1_sem11_0 : DmaSem sig := 27
abbrev cc1_sem11_1 : DmaSem sig := 28
abbrev cc1_sem12_0 : DmaSem sig := 29
abbrev cc1_sem12_1 : DmaSem sig := 30
abbrev cc2_sem0_0 : DmaSem sig := 31
abbrev cc2_sem0_1 : DmaSem sig := 32
abbrev cc2_sem1_0 : DmaSem sig := 33
abbrev cc2_sem1_1 : DmaSem sig := 34
abbrev cc2_sem2_0 : DmaSem sig := 35
abbrev cc2_sem2_1 : DmaSem sig := 36
abbrev cc2_sem3_0 : DmaSem sig := 37
abbrev cc2_sem3_1 : DmaSem sig := 38
abbrev cc2_sem4_0 : DmaSem sig := 39
abbrev cc2_sem5_0 : DmaSem sig := 40
abbrev cc2_sem5_1 : DmaSem sig := 41
abbrev cc2_sem6_0 : DmaSem sig := 42
abbrev cc2_sem6_1 : DmaSem sig := 43
abbrev cc3_sem0_0 : DmaSem sig := 44
abbrev cc3_sem0_1 : DmaSem sig := 45
abbrev cc3_sem1_0 : DmaSem sig := 46
abbrev cc3_sem1_1 : DmaSem sig := 47
abbrev cc3_sem2_0 : DmaSem sig := 48
abbrev cc3_sem3_0 : DmaSem sig := 49
abbrev cc3_sem4_0 : DmaSem sig := 50
abbrev cc3_sem5_0 : DmaSem sig := 51
abbrev cc3_sem6_0 : DmaSem sig := 52
abbrev cc3_sem7_0 : DmaSem sig := 53
abbrev cc3_sem7_1 : DmaSem sig := 54

abbrev nD : Nat := 1
abbrev τ : Topo := Topo.v7x

variable {F : FTy → Type} [FloatOps F]

abbrev grid0 : Pipeline.Grid := ⟨1, ![320], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x8 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S5000x8 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x8 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S8x16 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S8x16 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S1000x32 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S1000x1 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S1000x1 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev grid2 : Pipeline.Grid := ⟨1, ![320], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S5000x32 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x1 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S32x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x16 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S16x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S1000x1 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]
-- ==== ReferenceIdeal.lean ====
abbrev S100000x1 : Shape := ⟨2, ![100000, 1]⟩
abbrev S2x1600000 : Shape := ⟨2, ![2, 1600000]⟩
abbrev S1600000 : Shape := ⟨1, ![1600000]⟩
abbrev S1 : Shape := ⟨1, ![1]⟩
abbrev S1x128 : Shape := ⟨2, ![1, 128]⟩
abbrev S8x16 : Shape := ⟨2, ![8, 16]⟩
abbrev S128 : Shape := ⟨1, ![128]⟩
abbrev S128x32 : Shape := ⟨2, ![128, 32]⟩
abbrev S1x32 : Shape := ⟨2, ![1, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S_ : Shape := ⟨0, ![]⟩
abbrev S1x1 : Shape := ⟨2, ![1, 1]⟩
abbrev S100000x128 : Shape := ⟨2, ![100000, 128]⟩
abbrev S100000x8x16 : Shape := ⟨3, ![100000, 8, 16]⟩
abbrev S1x1600000 : Shape := ⟨2, ![1, 1600000]⟩
abbrev S1x8x16 : Shape := ⟨3, ![1, 8, 16]⟩
abbrev S100000x8 : Shape := ⟨2, ![100000, 8]⟩
abbrev S1600000x1 : Shape := ⟨2, ![1600000, 1]⟩
abbrev S1600000x8 : Shape := ⟨2, ![1600000, 8]⟩
abbrev S8 : Shape := ⟨1, ![8]⟩
abbrev S1600000x8x16 : Shape := ⟨3, ![1600000, 8, 16]⟩
abbrev S1600000x8x1 : Shape := ⟨3, ![1600000, 8, 1]⟩
abbrev S1600000x1x1 : Shape := ⟨3, ![1600000, 1, 1]⟩
abbrev S100000x32 : Shape := ⟨2, ![100000, 32]⟩
abbrev S100000x1x32 : Shape := ⟨3, ![100000, 1, 32]⟩
abbrev S1x1x32 : Shape := ⟨3, ![1, 1, 32]⟩
abbrev S1600000x1x32 : Shape := ⟨3, ![1600000, 1, 32]⟩
abbrev S100000x16 : Shape := ⟨2, ![100000, 16]⟩
abbrev S1x16 : Shape := ⟨2, ![1, 16]⟩

abbrev nBuf : Space → Nat
  | .hbm => 313
  | .vmem => 0
  | .smem => 0
  | _ => 0

abbrev hbmTy0_0 (i : Nat) : BufTy := match i % 128 with
  | 0 => ⟨S100000x1, .f32⟩
  | 1 => ⟨S2x1600000, .i32⟩
  | 2 => ⟨S1600000, .f32⟩
  | 3 => ⟨S1, .f32⟩
  | 4 => ⟨S1, .f32⟩
  | 5 => ⟨S1x128, .f32⟩
  | 6 => ⟨S8x16, .f32⟩
  | 7 => ⟨S8x16, .f32⟩
  | 8 => ⟨S128, .f32⟩
  | 9 => ⟨S128, .f32⟩
  | 10 => ⟨S128, .f32⟩
  | 11 => ⟨S128x32, .f32⟩
  | 12 => ⟨S1x32, .f32⟩
  | 13 => ⟨S1x32, .f32⟩
  | 14 => ⟨S32, .f32⟩
  | 15 => ⟨S32x16, .f32⟩
  | 16 => ⟨S16, .f32⟩
  | 17 => ⟨S16x1, .f32⟩
  | 18 => ⟨S1, .f32⟩
  | 19 => ⟨S_, .f32⟩
  | 20 => ⟨S1, .f32⟩
  | 21 => ⟨S_, .f32⟩
  | 22 => ⟨S1, .f32⟩
  | 23 => ⟨S1, .f32⟩
  | 24 => ⟨S_, .i32⟩
  | 25 => ⟨S_, .f32⟩
  | 26 => ⟨S1, .f32⟩
  | 27 => ⟨S1x1, .f32⟩
  | 28 => ⟨S_, .f32⟩
  | 29 => ⟨S1x1, .f32⟩
  | 30 => ⟨S1x1, .f32⟩
  | 31 => ⟨S100000x1, .f32⟩
  | 32 => ⟨S100000x1, .f32⟩
  | 33 => ⟨S100000x1, .f32⟩
  | 34 => ⟨S_, .f32⟩
  | 35 => ⟨S_, .f32⟩
  | 36 => ⟨S_, .f32⟩
  | 37 => ⟨S_, .f32⟩
  | 38 => ⟨S1, .f32⟩
  | 39 => ⟨S1, .f32⟩
  | 40 => ⟨S1, .f32⟩
  | 41 => ⟨S_, .f32⟩
  | 42 => ⟨S_, .i1⟩
  | 43 => ⟨S_, .f32⟩
  | 44 => ⟨S_, .f32⟩
  | 45 => ⟨S1, .f32⟩
  | 46 => ⟨S1, .f32⟩
  | 47 => ⟨S1x1, .f32⟩
  | 48 => ⟨S100000x1, .f32⟩
  | 49 => ⟨S100000x1, .f32⟩
  | 50 => ⟨S_, .f32⟩
  | 51 => ⟨S1, .f32⟩
  | 52 => ⟨S1, .f32⟩
  | 53 => ⟨S1, .f32⟩
  | 54 => ⟨S1x1, .f32⟩
  | 55 => ⟨S100000x1, .f32⟩
  | 56 => ⟨S100000x1, .f32⟩
  | 57 => ⟨S1x1, .f32⟩
  | 58 => ⟨S100000x1, .f32⟩
  | 59 => ⟨S100000x1, .f32⟩
  | 60 => ⟨S1x1, .f32⟩
  | 61 => ⟨S100000x1, .f32⟩
  | 62 => ⟨S100000x1, .f32⟩
  | 63 => ⟨S100000x128, .f32⟩
  | 64 => ⟨S100000x8x16, .f32⟩
  | 65 => ⟨S1x1600000, .i32⟩
  | 66 => ⟨S1600000, .i32⟩
  | 67 => ⟨S1x1600000, .i32⟩
  | 68 => ⟨S1600000, .i32⟩
  | 69 => ⟨S1x8x16, .f32⟩
  | 70 => ⟨S100000x8x16, .f32⟩
  | 71 => ⟨S100000x8x16, .f32⟩
  | 72 => ⟨S_, .f32⟩
  | 73 => ⟨S100000x8, .f32⟩
  | 74 => ⟨S1x8x16, .f32⟩
  | 75 => ⟨S100000x8x16, .f32⟩
  | 76 => ⟨S100000x8x16, .f32⟩
  | 77 => ⟨S_, .f32⟩
  | 78 => ⟨S100000x8, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000x8, .f32⟩
  | 88 => ⟨S_, .i32⟩
  | 89 => ⟨S1600000, .i32⟩
  | 90 => ⟨S1600000, .i1⟩
  | 91 => ⟨S_, .i32⟩
  | 92 => ⟨S1600000, .i32⟩
  | 93 => ⟨S1600000, .i32⟩
  | 94 => ⟨S1600000, .i32⟩
  | 95 => ⟨S1600000x1, .i32⟩
  | 96 => ⟨S1600000x8, .f32⟩
  | 97 => ⟨S1600000x8, .f32⟩
  | 98 => ⟨S_, .f32⟩
  | 99 => ⟨S1600000x8, .f32⟩
  | 100 => ⟨S1600000x8, .i1⟩
  | 101 => ⟨S_, .f32⟩
  | 102 => ⟨S1600000x8, .f32⟩
  | 103 => ⟨S1600000x8, .f32⟩
  | 104 => ⟨S1600000x8, .f32⟩
  | 105 => ⟨S100000x8, .f32⟩
  | 106 => ⟨S_, .f32⟩
  | 107 => ⟨S8, .f32⟩
  | 108 => ⟨S100000x8, .f32⟩
  | 109 => ⟨S_, .f32⟩
  | 110 => ⟨S8, .f32⟩
  | 111 => ⟨S8, .f32⟩
  | 112 => ⟨S_, .f32⟩
  | 113 => ⟨S_, .f32⟩
  | 114 => ⟨S1600000x8, .f32⟩
  | 115 => ⟨S1600000x8, .f32⟩
  | 116 => ⟨S1600000x8, .f32⟩
  | 117 => ⟨S_, .f32⟩
  | 118 => ⟨S100000x8, .f32⟩
  | 119 => ⟨S1600000x1, .i32⟩
  | 120 => ⟨S100000x8, .f32⟩
  | 121 => ⟨S_, .i32⟩
  | 122 => ⟨S1600000, .i32⟩
  | 123 => ⟨S1600000, .i1⟩
  | 124 => ⟨S_, .i32⟩
  | 125 => ⟨S1600000, .i32⟩
  | 126 => ⟨S1600000, .i32⟩
  | 127 => ⟨S1600000, .i32⟩
  | _ => ⟨S100000x1, .f32⟩

abbrev hbmTy0_1 (i : Nat) : BufTy := match i % 128 with
  | 0 => ⟨S1600000x1, .i32⟩
  | 1 => ⟨S1600000x8, .f32⟩
  | 2 => ⟨S_, .f32⟩
  | 3 => ⟨S1600000x8, .f32⟩
  | 4 => ⟨S1600000x8, .f32⟩
  | 5 => ⟨S1600000x8, .f32⟩
  | 6 => ⟨S_, .i32⟩
  | 7 => ⟨S1600000, .i32⟩
  | 8 => ⟨S1600000, .i1⟩
  | 9 => ⟨S_, .i32⟩
  | 10 => ⟨S1600000, .i32⟩
  | 11 => ⟨S1600000, .i32⟩
  | 12 => ⟨S1600000, .i32⟩
  | 13 => ⟨S1600000x1, .i32⟩
  | 14 => ⟨S1600000x8x16, .f32⟩
  | 15 => ⟨S1600000x8x1, .f32⟩
  | 16 => ⟨S1600000x8x16, .f32⟩
  | 17 => ⟨S1600000x8x16, .f32⟩
  | 18 => ⟨S1600000x1x1, .f32⟩
  | 19 => ⟨S1600000x8x16, .f32⟩
  | 20 => ⟨S1600000x8x16, .f32⟩
  | 21 => ⟨S_, .f32⟩
  | 22 => ⟨S100000x8x16, .f32⟩
  | 23 => ⟨S1600000x1, .i32⟩
  | 24 => ⟨S100000x8x16, .f32⟩
  | 25 => ⟨S100000x128, .f32⟩
  | 26 => ⟨S1x128, .f32⟩
  | 27 => ⟨S100000x128, .f32⟩
  | 28 => ⟨S100000x128, .f32⟩
  | 29 => ⟨S_, .f32⟩
  | 30 => ⟨S128, .f32⟩
  | 31 => ⟨S_, .f32⟩
  | 32 => ⟨S128, .f32⟩
  | 33 => ⟨S128, .f32⟩
  | 34 => ⟨S_, .i32⟩
  | 35 => ⟨S_, .f32⟩
  | 36 => ⟨S128, .f32⟩
  | 37 => ⟨S1x128, .f32⟩
  | 38 => ⟨S_, .f32⟩
  | 39 => ⟨S1x128, .f32⟩
  | 40 => ⟨S1x128, .f32⟩
  | 41 => ⟨S100000x128, .f32⟩
  | 42 => ⟨S100000x128, .f32⟩
  | 43 => ⟨S100000x128, .f32⟩
  | 44 => ⟨S_, .f32⟩
  | 45 => ⟨S_, .f32⟩
  | 46 => ⟨S_, .f32⟩
  | 47 => ⟨S_, .f32⟩
  | 48 => ⟨S128, .f32⟩
  | 49 => ⟨S128, .f32⟩
  | 50 => ⟨S128, .f32⟩
  | 51 => ⟨S_, .f32⟩
  | 52 => ⟨S_, .i1⟩
  | 53 => ⟨S_, .f32⟩
  | 54 => ⟨S_, .f32⟩
  | 55 => ⟨S128, .f32⟩
  | 56 => ⟨S128, .f32⟩
  | 57 => ⟨S1x128, .f32⟩
  | 58 => ⟨S100000x128, .f32⟩
  | 59 => ⟨S100000x128, .f32⟩
  | 60 => ⟨S_, .f32⟩
  | 61 => ⟨S128, .f32⟩
  | 62 => ⟨S128, .f32⟩
  | 63 => ⟨S128, .f32⟩
  | 64 => ⟨S1x128, .f32⟩
  | 65 => ⟨S100000x128, .f32⟩
  | 66 => ⟨S100000x128, .f32⟩
  | 67 => ⟨S1x128, .f32⟩
  | 68 => ⟨S100000x128, .f32⟩
  | 69 => ⟨S100000x128, .f32⟩
  | 70 => ⟨S1x128, .f32⟩
  | 71 => ⟨S100000x128, .f32⟩
  | 72 => ⟨S100000x128, .f32⟩
  | 73 => ⟨S_, .f32⟩
  | 74 => ⟨S100000x128, .f32⟩
  | 75 => ⟨S100000x128, .f32⟩
  | 76 => ⟨S100000x32, .f32⟩
  | 77 => ⟨S100000x1x32, .f32⟩
  | 78 => ⟨S1x1600000, .i32⟩
  | 79 => ⟨S1600000, .i32⟩
  | 80 => ⟨S1x1600000, .i32⟩
  | 81 => ⟨S1600000, .i32⟩
  | 82 => ⟨S1x1x32, .f32⟩
  | 83 => ⟨S100000x1x32, .f32⟩
  | 84 => ⟨S100000x1x32, .f32⟩
  | 85 => ⟨S_, .f32⟩
  | 86 => ⟨S100000x1, .f32⟩
  | 87 => ⟨S1x1x32, .f32⟩
  | 88 => ⟨S100000x1x32, .f32⟩
  | 89 => ⟨S100000x1x32, .f32⟩
  | 90 => ⟨S_, .f32⟩
  | 91 => ⟨S100000x1, .f32⟩
  | 92 => ⟨S_, .i32⟩
  | 93 => ⟨S1600000, .i32⟩
  | 94 => ⟨S1600000, .i1⟩
  | 95 => ⟨S_, .i32⟩
  | 96 => ⟨S1600000, .i32⟩
  | 97 => ⟨S1600000, .i32⟩
  | 98 => ⟨S1600000, .i32⟩
  | 99 => ⟨S1600000x1, .i32⟩
  | 100 => ⟨S1600000x1, .f32⟩
  | 101 => ⟨S_, .i32⟩
  | 102 => ⟨S1600000, .i32⟩
  | 103 => ⟨S1600000, .i1⟩
  | 104 => ⟨S_, .i32⟩
  | 105 => ⟨S1600000, .i32⟩
  | 106 => ⟨S1600000, .i32⟩
  | 107 => ⟨S1600000, .i32⟩
  | 108 => ⟨S1600000x1, .i32⟩
  | 109 => ⟨S1600000x1, .f32⟩
  | 110 => ⟨S1600000x1, .f32⟩
  | 111 => ⟨S_, .f32⟩
  | 112 => ⟨S1600000x1, .f32⟩
  | 113 => ⟨S1600000x1, .i1⟩
  | 114 => ⟨S_, .f32⟩
  | 115 => ⟨S1600000x1, .f32⟩
  | 116 => ⟨S1600000x1, .f32⟩
  | 117 => ⟨S1600000x1, .f32⟩
  | 118 => ⟨S_, .f32⟩
  | 119 => ⟨S1, .f32⟩
  | 120 => ⟨S_, .f32⟩
  | 121 => ⟨S1, .f32⟩
  | 122 => ⟨S1, .f32⟩
  | 123 => ⟨S_, .f32⟩
  | 124 => ⟨S1, .f32⟩
  | 125 => ⟨S1, .f32⟩
  | 126 => ⟨S_, .f32⟩
  | 127 => ⟨S_, .f32⟩
  | _ => ⟨S100000x1, .f32⟩

abbrev hbmTy0_2 (i : Nat) : BufTy := match i % 128 with
  | 0 => ⟨S1600000x1, .f32⟩
  | 1 => ⟨S1600000x1, .f32⟩
  | 2 => ⟨S1600000x1, .f32⟩
  | 3 => ⟨S_, .f32⟩
  | 4 => ⟨S100000x1, .f32⟩
  | 5 => ⟨S1600000x1, .i32⟩
  | 6 => ⟨S100000x1, .f32⟩
  | 7 => ⟨S_, .i32⟩
  | 8 => ⟨S1600000, .i32⟩
  | 9 => ⟨S1600000, .i1⟩
  | 10 => ⟨S_, .i32⟩
  | 11 => ⟨S1600000, .i32⟩
  | 12 => ⟨S1600000, .i32⟩
  | 13 => ⟨S1600000, .i32⟩
  | 14 => ⟨S1600000x1, .i32⟩
  | 15 => ⟨S1600000x1, .f32⟩
  | 16 => ⟨S_, .f32⟩
  | 17 => ⟨S1600000x1, .f32⟩
  | 18 => ⟨S1600000x1, .f32⟩
  | 19 => ⟨S1600000x1, .f32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1600000x1x32, .f32⟩
  | 29 => ⟨S1600000x1x1, .f32⟩
  | 30 => ⟨S1600000x1x32, .f32⟩
  | 31 => ⟨S1600000x1x32, .f32⟩
  | 32 => ⟨S1600000x1x1, .f32⟩
  | 33 => ⟨S1600000x1x32, .f32⟩
  | 34 => ⟨S1600000x1x32, .f32⟩
  | 35 => ⟨S_, .f32⟩
  | 36 => ⟨S100000x1x32, .f32⟩
  | 37 => ⟨S1600000x1, .i32⟩
  | 38 => ⟨S100000x1x32, .f32⟩
  | 39 => ⟨S100000x32, .f32⟩
  | 40 => ⟨S1x32, .f32⟩
  | 41 => ⟨S100000x32, .f32⟩
  | 42 => ⟨S100000x32, .f32⟩
  | 43 => ⟨S_, .f32⟩
  | 44 => ⟨S100000x32, .f32⟩
  | 45 => ⟨S100000x32, .f32⟩
  | 46 => ⟨S100000x16, .f32⟩
  | 47 => ⟨S1x16, .f32⟩
  | 48 => ⟨S100000x16, .f32⟩
  | 49 => ⟨S100000x16, .f32⟩
  | 50 => ⟨S_, .f32⟩
  | 51 => ⟨S100000x16, .f32⟩
  | 52 => ⟨S100000x16, .f32⟩
  | 53 => ⟨S100000x1, .f32⟩
  | 54 => ⟨S1x1, .f32⟩
  | 55 => ⟨S100000x1, .f32⟩
  | 56 => ⟨S100000x1, .f32⟩
  | _ => ⟨S100000x1, .f32⟩

abbrev hbmTy (i : Nat) : BufTy := match i / 128 with
  | 0 => hbmTy0_0 i
  | 1 => hbmTy0_1 i
  | 2 => hbmTy0_2 i
  | _ => ⟨S100000x1, .f32⟩

abbrev bufTy : (tb : Table) → Fin (tcTables nBuf tb) → BufTy
  | .hbm, ⟨i, _⟩ => hbmTy i
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_cst_0 : Ref sig .tc := ⟨.hbm, 21, rfl⟩
abbrev main_v1 : Ref sig .tc := ⟨.hbm, 22, rfl⟩
abbrev main_v2 : Ref sig .tc := ⟨.hbm, 23, rfl⟩
abbrev main_c : Ref sig .tc := ⟨.hbm, 24, rfl⟩
abbrev main_call0_cst : Ref sig .tc := ⟨.hbm, 25, rfl⟩
abbrev main_call0_v0 : Ref sig .tc := ⟨.hbm, 26, rfl⟩
abbrev main_call0_v1 : Ref sig .tc := ⟨.hbm, 27, rfl⟩
abbrev main_call0_cst_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_cst_1 : Ref sig .tc := ⟨.hbm, 35, rfl⟩
abbrev main_call0_v8 : Ref sig .tc := ⟨.hbm, 36, rfl⟩
abbrev main_call0_cst_2 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_cst_3 : Ref sig .tc := ⟨.hbm, 41, rfl⟩
abbrev main_call0_v12 : Ref sig .tc := ⟨.hbm, 42, rfl⟩
abbrev main_call0_cst_4 : Ref sig .tc := ⟨.hbm, 43, rfl⟩
abbrev main_call0_call0_v0 : Ref sig .tc := ⟨.hbm, 44, rfl⟩
abbrev main_call0_call0_v1 : Ref sig .tc := ⟨.hbm, 45, rfl⟩
abbrev main_v3 : Ref sig .tc := ⟨.hbm, 46, rfl⟩
abbrev main_v4 : Ref sig .tc := ⟨.hbm, 47, rfl⟩
abbrev main_v5 : Ref sig .tc := ⟨.hbm, 48, rfl⟩
abbrev main_v6 : Ref sig .tc := ⟨.hbm, 49, rfl⟩
abbrev main_cst_1 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_cst_2 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_cst_3 : Ref sig .tc := ⟨.hbm, 77, rfl⟩
abbrev main_v32 : Ref sig .tc := ⟨.hbm, 78, rfl⟩
abbrev main_c_4 : Ref sig .tc := ⟨.hbm, 79, rfl⟩
abbrev main_v33 : Ref sig .tc := ⟨.hbm, 80, rfl⟩
abbrev main_v34 : Ref sig .tc := ⟨.hbm, 81, rfl⟩
abbrev main_c_5 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_c_6 : Ref sig .tc := ⟨.hbm, 88, rfl⟩
abbrev main_v40 : Ref sig .tc := ⟨.hbm, 89, rfl⟩
abbrev main_v41 : Ref sig .tc := ⟨.hbm, 90, rfl⟩
abbrev main_c_7 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_cst_8 : Ref sig .tc := ⟨.hbm, 98, rfl⟩
abbrev main_v48 : Ref sig .tc := ⟨.hbm, 99, rfl⟩
abbrev main_v49 : Ref sig .tc := ⟨.hbm, 100, rfl⟩
abbrev main_cst_9 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_cst_10 : Ref sig .tc := ⟨.hbm, 106, rfl⟩
abbrev main_v54 : Ref sig .tc := ⟨.hbm, 107, rfl⟩
abbrev main_v55 : Ref sig .tc := ⟨.hbm, 108, rfl⟩
abbrev main_cst_11 : Ref sig .tc := ⟨.hbm, 109, rfl⟩
abbrev main_v56 : Ref sig .tc := ⟨.hbm, 110, rfl⟩
abbrev main_v57 : Ref sig .tc := ⟨.hbm, 111, rfl⟩
abbrev main_cst_12 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_cst_13 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_c_14 : Ref sig .tc := ⟨.hbm, 121, rfl⟩
abbrev main_v65 : Ref sig .tc := ⟨.hbm, 122, rfl⟩
abbrev main_v66 : Ref sig .tc := ⟨.hbm, 123, rfl⟩
abbrev main_c_15 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_cst_16 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_c_17 : Ref sig .tc := ⟨.hbm, 134, rfl⟩
abbrev main_v75 : Ref sig .tc := ⟨.hbm, 135, rfl⟩
abbrev main_v76 : Ref sig .tc := ⟨.hbm, 136, rfl⟩
abbrev main_c_18 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_cst_19 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_cst_20 : Ref sig .tc := ⟨.hbm, 157, rfl⟩
abbrev main_v95 : Ref sig .tc := ⟨.hbm, 158, rfl⟩
abbrev main_cst_21 : Ref sig .tc := ⟨.hbm, 159, rfl⟩
abbrev main_v96 : Ref sig .tc := ⟨.hbm, 160, rfl⟩
abbrev main_v97 : Ref sig .tc := ⟨.hbm, 161, rfl⟩
abbrev main_c_22 : Ref sig .tc := ⟨.hbm, 162, rfl⟩
abbrev main_call2_cst : Ref sig .tc := ⟨.hbm, 163, rfl⟩
abbrev main_call2_v0 : Ref sig .tc := ⟨.hbm, 164, rfl⟩
abbrev main_call2_v1 : Ref sig .tc := ⟨.hbm, 165, rfl⟩
abbrev main_call2_cst_0 : Ref sig .tc := ⟨.hbm, 166, rfl⟩
abbrev main_call2_v2 : Ref sig .tc := ⟨.hbm, 167, rfl⟩
abbrev main_call2_v3 : Ref sig .tc := ⟨.hbm, 168, rfl⟩
abbrev main_call2_v4 : Ref sig .tc := ⟨.hbm, 169, rfl⟩
abbrev main_call2_v5 : Ref sig .tc := ⟨.hbm, 170, rfl⟩
abbrev main_call2_v6 : Ref sig .tc := ⟨.hbm, 171, rfl⟩
abbrev main_call2_v7 : Ref sig .tc := ⟨.hbm, 172, rfl⟩
abbrev main_call2_cst_1 : Ref sig .tc := ⟨.hbm, 173, rfl⟩
abbrev main_call2_v8 : Ref sig .tc := ⟨.hbm, 174, rfl⟩
abbrev main_call2_cst_2 : Ref sig .tc := ⟨.hbm, 175, rfl⟩
abbrev main_call2_v9 : Ref sig .tc := ⟨.hbm, 176, rfl⟩
abbrev main_call2_v10 : Ref sig .tc := ⟨.hbm, 177, rfl⟩
abbrev main_call2_v11 : Ref sig .tc := ⟨.hbm, 178, rfl⟩
abbrev main_call2_cst_3 : Ref sig .tc := ⟨.hbm, 179, rfl⟩
abbrev main_call2_v12 : Ref sig .tc := ⟨.hbm, 180, rfl⟩
abbrev main_call2_cst_4 : Ref sig .tc := ⟨.hbm, 181, rfl⟩
abbrev main_call2_call0_v0 : Ref sig .tc := ⟨.hbm, 182, rfl⟩
abbrev main_call2_call0_v1 : Ref sig .tc := ⟨.hbm, 183, rfl⟩
abbrev main_v98 : Ref sig .tc := ⟨.hbm, 184, rfl⟩
abbrev main_v99 : Ref sig .tc := ⟨.hbm, 185, rfl⟩
abbrev main_v100 : Ref sig .tc := ⟨.hbm, 186, rfl⟩
abbrev main_v101 : Ref sig .tc := ⟨.hbm, 187, rfl⟩
abbrev main_cst_23 : Ref sig .tc := ⟨.hbm, 188, rfl⟩
abbrev main_v102 : Ref sig .tc := ⟨.hbm, 189, rfl⟩
abbrev main_v103 : Ref sig .tc := ⟨.hbm, 190, rfl⟩
abbrev main_v104 : Ref sig .tc := ⟨.hbm, 191, rfl⟩
abbrev main_v105 : Ref sig .tc := ⟨.hbm, 192, rfl⟩
abbrev main_v106 : Ref sig .tc := ⟨.hbm, 193, rfl⟩
abbrev main_v107 : Ref sig .tc := ⟨.hbm, 194, rfl⟩
abbrev main_v108 : Ref sig .tc := ⟨.hbm, 195, rfl⟩
abbrev main_v109 : Ref sig .tc := ⟨.hbm, 196, rfl⟩
abbrev main_v110 : Ref sig .tc := ⟨.hbm, 197, rfl⟩
abbrev main_v111 : Ref sig .tc := ⟨.hbm, 198, rfl⟩
abbrev main_v112 : Ref sig .tc := ⟨.hbm, 199, rfl⟩
abbrev main_v113 : Ref sig .tc := ⟨.hbm, 200, rfl⟩
abbrev main_cst_24 : Ref sig .tc := ⟨.hbm, 201, rfl⟩
abbrev main_v114 : Ref sig .tc := ⟨.hbm, 202, rfl⟩
abbrev main_v115 : Ref sig .tc := ⟨.hbm, 203, rfl⟩
abbrev main_v116 : Ref sig .tc := ⟨.hbm, 204, rfl⟩
abbrev main_v117 : Ref sig .tc := ⟨.hbm, 205, rfl⟩
abbrev main_v118 : Ref sig .tc := ⟨.hbm, 206, rfl⟩
abbrev main_v119 : Ref sig .tc := ⟨.hbm, 207, rfl⟩
abbrev main_v120 : Ref sig .tc := ⟨.hbm, 208, rfl⟩
abbrev main_v121 : Ref sig .tc := ⟨.hbm, 209, rfl⟩
abbrev main_v122 : Ref sig .tc := ⟨.hbm, 210, rfl⟩
abbrev main_v123 : Ref sig .tc := ⟨.hbm, 211, rfl⟩
abbrev main_v124 : Ref sig .tc := ⟨.hbm, 212, rfl⟩
abbrev main_cst_25 : Ref sig .tc := ⟨.hbm, 213, rfl⟩
abbrev main_v125 : Ref sig .tc := ⟨.hbm, 214, rfl⟩
abbrev main_v126 : Ref sig .tc := ⟨.hbm, 215, rfl⟩
abbrev main_v127 : Ref sig .tc := ⟨.hbm, 216, rfl⟩
abbrev main_v128 : Ref sig .tc := ⟨.hbm, 217, rfl⟩
abbrev main_cst_26 : Ref sig .tc := ⟨.hbm, 218, rfl⟩
abbrev main_v129 : Ref sig .tc := ⟨.hbm, 219, rfl⟩
abbrev main_c_27 : Ref sig .tc := ⟨.hbm, 220, rfl⟩
abbrev main_v130 : Ref sig .tc := ⟨.hbm, 221, rfl⟩
abbrev main_v131 : Ref sig .tc := ⟨.hbm, 222, rfl⟩
abbrev main_c_28 : Ref sig .tc := ⟨.hbm, 223, rfl⟩
abbrev main_v132 : Ref sig .tc := ⟨.hbm, 224, rfl⟩
abbrev main_v133 : Ref sig .tc := ⟨.hbm, 225, rfl⟩
abbrev main_v134 : Ref sig .tc := ⟨.hbm, 226, rfl⟩
abbrev main_v135 : Ref sig .tc := ⟨.hbm, 227, rfl⟩
abbrev main_v136 : Ref sig .tc := ⟨.hbm, 228, rfl⟩
abbrev main_c_29 : Ref sig .tc := ⟨.hbm, 229, rfl⟩
abbrev main_v137 : Ref sig .tc := ⟨.hbm, 230, rfl⟩
abbrev main_v138 : Ref sig .tc := ⟨.hbm, 231, rfl⟩
abbrev main_c_30 : Ref sig .tc := ⟨.hbm, 232, rfl⟩
abbrev main_v139 : Ref sig .tc := ⟨.hbm, 233, rfl⟩
abbrev main_v140 : Ref sig .tc := ⟨.hbm, 234, rfl⟩
abbrev main_v141 : Ref sig .tc := ⟨.hbm, 235, rfl⟩
abbrev main_v142 : Ref sig .tc := ⟨.hbm, 236, rfl⟩
abbrev main_v143 : Ref sig .tc := ⟨.hbm, 237, rfl⟩
abbrev main_v144 : Ref sig .tc := ⟨.hbm, 238, rfl⟩
abbrev main_cst_31 : Ref sig .tc := ⟨.hbm, 239, rfl⟩
abbrev main_v145 : Ref sig .tc := ⟨.hbm, 240, rfl⟩
abbrev main_v146 : Ref sig .tc := ⟨.hbm, 241, rfl⟩
abbrev main_cst_32 : Ref sig .tc := ⟨.hbm, 242, rfl⟩
abbrev main_v147 : Ref sig .tc := ⟨.hbm, 243, rfl⟩
abbrev main_v148 : Ref sig .tc := ⟨.hbm, 244, rfl⟩
abbrev main_v149 : Ref sig .tc := ⟨.hbm, 245, rfl⟩
abbrev main_cst_33 : Ref sig .tc := ⟨.hbm, 246, rfl⟩
abbrev main_v150 : Ref sig .tc := ⟨.hbm, 247, rfl⟩
abbrev main_cst_34 : Ref sig .tc := ⟨.hbm, 248, rfl⟩
abbrev main_v151 : Ref sig .tc := ⟨.hbm, 249, rfl⟩
abbrev main_v152 : Ref sig .tc := ⟨.hbm, 250, rfl⟩
abbrev main_cst_35 : Ref sig .tc := ⟨.hbm, 251, rfl⟩
abbrev main_v153 : Ref sig .tc := ⟨.hbm, 252, rfl⟩
abbrev main_v154 : Ref sig .tc := ⟨.hbm, 253, rfl⟩
abbrev main_cst_36 : Ref sig .tc := ⟨.hbm, 254, rfl⟩
abbrev main_v155 : Ref sig .tc := ⟨.hbm, 255, rfl⟩
abbrev main_v156 : Ref sig .tc := ⟨.hbm, 256, rfl⟩
abbrev main_v157 : Ref sig .tc := ⟨.hbm, 257, rfl⟩
abbrev main_v158 : Ref sig .tc := ⟨.hbm, 258, rfl⟩
abbrev main_cst_37 : Ref sig .tc := ⟨.hbm, 259, rfl⟩
abbrev main_v159 : Ref sig .tc := ⟨.hbm, 260, rfl⟩
abbrev main_v160 : Ref sig .tc := ⟨.hbm, 261, rfl⟩
abbrev main_v161 : Ref sig .tc := ⟨.hbm, 262, rfl⟩
abbrev main_c_38 : Ref sig .tc := ⟨.hbm, 263, rfl⟩
abbrev main_v162 : Ref sig .tc := ⟨.hbm, 264, rfl⟩
abbrev main_v163 : Ref sig .tc := ⟨.hbm, 265, rfl⟩
abbrev main_c_39 : Ref sig .tc := ⟨.hbm, 266, rfl⟩
abbrev main_v164 : Ref sig .tc := ⟨.hbm, 267, rfl⟩
abbrev main_v165 : Ref sig .tc := ⟨.hbm, 268, rfl⟩
abbrev main_v166 : Ref sig .tc := ⟨.hbm, 269, rfl⟩
abbrev main_v167 : Ref sig .tc := ⟨.hbm, 270, rfl⟩
abbrev main_v168 : Ref sig .tc := ⟨.hbm, 271, rfl⟩
abbrev main_cst_40 : Ref sig .tc := ⟨.hbm, 272, rfl⟩
abbrev main_v169 : Ref sig .tc := ⟨.hbm, 273, rfl⟩
abbrev main_v170 : Ref sig .tc := ⟨.hbm, 274, rfl⟩
abbrev main_v171 : Ref sig .tc := ⟨.hbm, 275, rfl⟩
abbrev main_c_41 : Ref sig .tc := ⟨.hbm, 276, rfl⟩
abbrev main_v172 : Ref sig .tc := ⟨.hbm, 277, rfl⟩
abbrev main_v173 : Ref sig .tc := ⟨.hbm, 278, rfl⟩
abbrev main_c_42 : Ref sig .tc := ⟨.hbm, 279, rfl⟩
abbrev main_v174 : Ref sig .tc := ⟨.hbm, 280, rfl⟩
abbrev main_v175 : Ref sig .tc := ⟨.hbm, 281, rfl⟩
abbrev main_v176 : Ref sig .tc := ⟨.hbm, 282, rfl⟩
abbrev main_v177 : Ref sig .tc := ⟨.hbm, 283, rfl⟩
abbrev main_v178 : Ref sig .tc := ⟨.hbm, 284, rfl⟩
abbrev main_v179 : Ref sig .tc := ⟨.hbm, 285, rfl⟩
abbrev main_v180 : Ref sig .tc := ⟨.hbm, 286, rfl⟩
abbrev main_v181 : Ref sig .tc := ⟨.hbm, 287, rfl⟩
abbrev main_v182 : Ref sig .tc := ⟨.hbm, 288, rfl⟩
abbrev main_v183 : Ref sig .tc := ⟨.hbm, 289, rfl⟩
abbrev main_v184 : Ref sig .tc := ⟨.hbm, 290, rfl⟩
abbrev main_cst_43 : Ref sig .tc := ⟨.hbm, 291, rfl⟩
abbrev main_v185 : Ref sig .tc := ⟨.hbm, 292, rfl⟩
abbrev main_v186 : Ref sig .tc := ⟨.hbm, 293, rfl⟩
abbrev main_v187 : Ref sig .tc := ⟨.hbm, 294, rfl⟩
abbrev main_v188 : Ref sig .tc := ⟨.hbm, 295, rfl⟩
abbrev main_v189 : Ref sig .tc := ⟨.hbm, 296, rfl⟩
abbrev main_v190 : Ref sig .tc := ⟨.hbm, 297, rfl⟩
abbrev main_v191 : Ref sig .tc := ⟨.hbm, 298, rfl⟩
abbrev main_cst_44 : Ref sig .tc := ⟨.hbm, 299, rfl⟩
abbrev main_v192 : Ref sig .tc := ⟨.hbm, 300, rfl⟩
abbrev main_v193 : Ref sig .tc := ⟨.hbm, 301, rfl⟩
abbrev main_v194 : Ref sig .tc := ⟨.hbm, 302, rfl⟩
abbrev main_v195 : Ref sig .tc := ⟨.hbm, 303, rfl⟩
abbrev main_v196 : Ref sig .tc := ⟨.hbm, 304, rfl⟩
abbrev main_v197 : Ref sig .tc := ⟨.hbm, 305, rfl⟩
abbrev main_cst_45 : Ref sig .tc := ⟨.hbm, 306, rfl⟩
abbrev main_v198 : Ref sig .tc := ⟨.hbm, 307, rfl⟩
abbrev main_v199 : Ref sig .tc := ⟨.hbm, 308, rfl⟩
abbrev main_v200 : Ref sig .tc := ⟨.hbm, 309, rfl⟩
abbrev main_v201 : Ref sig .tc := ⟨.hbm, 310, rfl⟩
abbrev main_v202 : Ref sig .tc := ⟨.hbm, 311, rfl⟩
abbrev main_v203 : Ref sig .tc := ⟨.hbm, 312, rfl⟩

abbrev nD : Nat := 1
abbrev τ : Topo := Topo.v7x

variable {F : FTy → Type} [FloatOps F]
-- ==== Proof.KernelRun.lean ====
/- The kernel's run over the extended reals: it terminates, leaves its arguments, and its result is the last boundary's contents. -/
module

public import proofs.«01_k».proof.Proof.Gen.KernelIdeal.Frame

@[expose] public section

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- The launch of the segments, read at the result and at the arguments. -/
theorem run : θ_run defs (onTc (τ := τ) (main (F := F))) ⟨m, fun _ => 0, ρ⟩ (fun r => ∀ c : Dev nD,
      r.2.mem ((c.tc : Thread nD τ).loc main_v115) = W12 m ρ c (Proc.devRef .tc main_v115)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h _ c =>
      ⟨h c _ (mem_uc main_v115 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c),
       (h c _ (mem_uc main_arg17 (by decide))).trans (W12_main_arg17 m ρ c),
       (h c _ (mem_uc main_arg18 (by decide))).trans (W12_main_arg18 m ρ c)⟩)

end Cert.KernelIdeal.Gen
-- ==== Proof.Spec.lean ====
/- The network over the real numbers: two layers of graph attention with a batch norm before each, written as functions
   of a node, an edge, a head and a channel. `Net` holds the real inputs and the graph; the definitions follow the order
   of the computation, layer 1 in the form in which every head's message is one number (the input has one feature, so
   the transformed feature of head `h`, channel `c` is `xn n * W1 h c`). The second half shows that the attention layer as usually written
   — every edge's weight divided by its target's total before the sum, the bias added, the batch norm over the sum — is the same function. -/
module

public import Idealize.ShloMosaic.PureOps.Ideal.Laws

@[expose] public section

noncomputable section

namespace Cert.Graph

open scoped BigOperators

/-- The number of nodes and of edges. -/
abbrev NN : Nat := 100000
abbrev NE : Nat := 1600000

section Stats
variable {n : Nat}

/-- The mean over the nodes. -/
def mean (f : Fin NN → ℝ) : ℝ := (∑ i, f i) / 100000

/-- The mean squared distance from the mean. -/
def var (f : Fin NN → ℝ) : ℝ := (∑ i, (f i - mean f) * (f i - mean f)) / 100000

theorem var_nonneg (f : Fin NN → ℝ) : 0 ≤ var f :=
  div_nonneg (Finset.sum_nonneg fun _ _ => mul_self_nonneg _) (by norm_num)

theorem mean_affine (w b : ℝ) (f : Fin NN → ℝ) : mean (fun i => w * f i + b) = w * mean f + b := by
  unfold mean
  rw [Finset.sum_add_distrib, ← Finset.mul_sum, Finset.sum_const, Finset.card_univ, Fintype.card_fin, nsmul_eq_mul]
  push_cast
  ring

theorem var_affine (w b : ℝ) (f : Fin NN → ℝ) : var (fun i => w * f i + b) = var f * (w * w) := by
  unfold var
  rw [mean_affine]
  have : ∀ i, (w * f i + b - (w * mean f + b)) * (w * f i + b - (w * mean f + b))
      = (w * w) * ((f i - mean f) * (f i - mean f)) := fun i => by ring
  simp only [this]
  rw [← Finset.mul_sum]
  ring

/-- The largest value. -/
def top [NeZero n] (f : Fin n → ℝ) : ℝ := Finset.univ.sup' Finset.univ_nonempty f

theorem le_top [NeZero n] (f : Fin n → ℝ) (i : Fin n) : f i ≤ top f := Finset.le_sup' f (Finset.mem_univ i)

theorem exists_top [NeZero n] (f : Fin n → ℝ) : ∃ i, top f = f i := by
  obtain ⟨i, _, h⟩ := Finset.exists_mem_eq_sup' Finset.univ_nonempty f
  exact ⟨i, h⟩

theorem top_mul [NeZero n] (f : Fin n → ℝ) {c : ℝ} (hc : 0 ≤ c) : top (fun i => f i * c) = top f * c := by
  obtain ⟨i, hi⟩ := exists_top f
  obtain ⟨j, hj⟩ := exists_top fun i => f i * c
  refine le_antisymm ?_ ?_
  · rw [hj]; exact mul_le_mul_of_nonneg_right (le_top f j) hc
  · rw [hi]; exact le_top (fun i => f i * c) i

theorem top_nonneg [NeZero n] (f : Fin n → ℝ) (h : ∀ i, 0 ≤ f i) : 0 ≤ top f := (h 0).trans (le_top f 0)

end Stats

/-- The leaky rectifier with slope `r`. -/
def leaky (r x : ℝ) : ℝ := if 0 < x then x else r * x

theorem leaky_of_le (r x : ℝ) : (if 0 ≤ x then x else r * x) = leaky r x := by
  unfold leaky
  rcases lt_trichotomy x 0 with h | h | h
  · rw [if_neg (not_le.mpr h), if_neg (not_lt.mpr h.le)]
  · subst h; simp
  · rw [if_pos h.le, if_pos h]

/-- The constants of the network, its graph and its real inputs. -/
structure Net where
  /-- added to a variance -/
  e5 : ℝ
  /-- added to a softmax's total -/
  e16 : ℝ
  /-- the slope of the leaky rectifier -/
  r : ℝ
  e5_pos : 0 < e5
  e16_pos : 0 < e16
  /-- the source and the target an edge reads -/
  s : Fin NE → Fin NN
  d : Fin NE → Fin NN
  /-- the edges summed at a node -/
  into : Fin NN → Finset (Fin NE)
  d_into : ∀ n e, e ∈ into n → d e = n
  x : Fin NN → ℝ
  ew : Fin NE → ℝ
  g0 : ℝ
  b0 : ℝ
  W1 : Fin 8 → Fin 16 → ℝ
  as1 : Fin 8 → Fin 16 → ℝ
  ad1 : Fin 8 → Fin 16 → ℝ
  b1 : Fin 8 → Fin 16 → ℝ
  g1 : Fin 8 → Fin 16 → ℝ
  be1 : Fin 8 → Fin 16 → ℝ
  W2 : Fin 128 → Fin 32 → ℝ
  as2 : Fin 32 → ℝ
  ad2 : Fin 32 → ℝ

/-- The head and the channel of a flat feature, and the flat feature of a head and a channel. -/
def hd (k : Fin 128) : Fin 8 := ⟨k.val / 16, by omega⟩
def ch (k : Fin 128) : Fin 16 := ⟨k.val % 16, by omega⟩
def fl (h : Fin 8) (c : Fin 16) : Fin 128 := ⟨h.val * 16 + c.val, by omega⟩

theorem hd_fl (h : Fin 8) (c : Fin 16) : hd (fl h c) = h := Fin.ext (by show (h.val * 16 + c.val) / 16 = h.val; omega)
theorem ch_fl (h : Fin 8) (c : Fin 16) : ch (fl h c) = c := Fin.ext (by show (h.val * 16 + c.val) % 16 = c.val; omega)

namespace Net
variable (a : Net)

/-- The normalized input. -/
def xn (n : Fin NN) : ℝ := (a.x n - mean a.x) / Real.sqrt (var a.x + a.e5) * a.g0 + a.b0

/-- What a head's attention weighs a source and a target by. -/
def cs (h : Fin 8) : ℝ := ∑ c, a.W1 h c * a.as1 h c
def cd (h : Fin 8) : ℝ := ∑ c, a.W1 h c * a.ad1 h c

/-- Layer 1's bound on the attention logits. -/
def m1 : ℝ := max (top fun h => top (fun n => |a.xn n|) * (|a.cs h| + |a.cd h|)) 0

/-- The attention logit of an edge, and its exponential. -/
def al1 (e : Fin NE) (h : Fin 8) : ℝ := a.xn (a.s e) * a.cs h + a.xn (a.d e) * a.cd h
def ex1 (e : Fin NE) (h : Fin 8) : ℝ := Real.exp (leaky a.r (a.al1 e h) - a.m1)

/-- The sums at a node, and their quotient. -/
def den1 (n : Fin NN) (h : Fin 8) : ℝ := ∑ e ∈ a.into n, a.ex1 e h
def num1 (n : Fin NN) (h : Fin 8) : ℝ := ∑ e ∈ a.into n, a.ex1 e h * (a.xn (a.s e) * a.ew e)
def s1 (n : Fin NN) (h : Fin 8) : ℝ := a.num1 n h / (a.den1 n h + a.e16)

/-- The second batch norm, and the rectifier. -/
def mh (h : Fin 8) : ℝ := mean fun n => a.s1 n h
def vh (h : Fin 8) : ℝ := var fun n => a.s1 n h
def h2 (n : Fin NN) (h : Fin 8) (c : Fin 16) : ℝ :=
  max ((a.s1 n h - a.mh h) * a.W1 h c / Real.sqrt (a.vh h * (a.W1 h c * a.W1 h c) + a.e5) * a.g1 h c + a.be1 h c) 0

/-- Layer 2's features, and what a node adds to the logit of an edge out of it and into it. -/
def h2w (n : Fin NN) (o : Fin 32) : ℝ := ∑ k, a.h2 n (hd k) (ch k) * a.W2 k o
def asv (n : Fin NN) : ℝ := ∑ o, a.h2w n o * a.as2 o
def adv (n : Fin NN) : ℝ := ∑ o, a.h2w n o * a.ad2 o

/-- Layer 2's bound on the attention logits. -/
def m2 : ℝ := max (top a.asv + top a.adv) 0

def al2 (e : Fin NE) : ℝ := a.asv (a.s e) + a.adv (a.d e)
def ex2 (e : Fin NE) : ℝ := Real.exp (leaky a.r (a.al2 e) - a.m2)
def den2 (n : Fin NN) : ℝ := ∑ e ∈ a.into n, a.ex2 e
def num2 (n : Fin NN) (o : Fin 32) : ℝ := ∑ e ∈ a.into n, a.h2w (a.s e) o * (a.ex2 e * a.ew e)

/-- Layer 2's attention, without its bias. -/
def g (n : Fin NN) (o : Fin 32) : ℝ := a.num2 n o / (a.den2 n + a.e16)

/-! ### Nothing divides by zero -/

theorem ex1_pos (e h) : 0 < a.ex1 e h := Real.exp_pos _
theorem ex2_pos (e) : 0 < a.ex2 e := Real.exp_pos _
theorem den1_pos (n h) : 0 < a.den1 n h + a.e16 :=
  add_pos_of_nonneg_of_pos (Finset.sum_nonneg fun e _ => (a.ex1_pos e h).le) a.e16_pos
theorem den2_pos (n) : 0 < a.den2 n + a.e16 :=
  add_pos_of_nonneg_of_pos (Finset.sum_nonneg fun e _ => (a.ex2_pos e).le) a.e16_pos
theorem var0_pos : 0 < var a.x + a.e5 := add_pos_of_nonneg_of_pos (var_nonneg _) a.e5_pos
theorem vh_pos (h c) : 0 < a.vh h * (a.W1 h c * a.W1 h c) + a.e5 :=
  add_pos_of_nonneg_of_pos (mul_nonneg (var_nonneg _) (mul_self_nonneg _)) a.e5_pos

/-! ### The attention layer as usually written -/

/-- A head's weight of a node, from the node's transformed features. -/
theorem src_eq (n h) : ∑ c, a.xn n * a.W1 h c * a.as1 h c = a.xn n * a.cs h := by
  rw [cs, Finset.mul_sum]; exact Finset.sum_congr rfl fun c _ => by ring

theorem dst_eq (n h) : ∑ c, a.xn n * a.W1 h c * a.ad1 h c = a.xn n * a.cd h := by
  rw [cd, Finset.mul_sum]; exact Finset.sum_congr rfl fun c _ => by ring

/-- The largest magnitudes of the two halves of a logit, added and maximized over the heads, are the bound `m1`. -/
theorem bound_eq : top (fun h => top (fun n => |a.xn n * a.cs h|) + top (fun n => |a.xn n * a.cd h|)) = a.m1 := by
  have h0 : ∀ h, top (fun n => |a.xn n * a.cs h|) + top (fun n => |a.xn n * a.cd h|)
      = top (fun n => |a.xn n|) * (|a.cs h| + |a.cd h|) := fun h => by
    simp only [abs_mul]
    rw [top_mul _ (abs_nonneg _), top_mul _ (abs_nonneg _), mul_add]
  simp only [h0]
  exact (max_eq_left (top_nonneg _ fun h => mul_nonneg (top_nonneg _ fun _ => abs_nonneg _)
    (add_nonneg (abs_nonneg _) (abs_nonneg _)))).symm

/-- Every edge's weight divided by its target's total, times its message, summed at a node. -/
theorem layer1_eq (n h c) : ∑ e ∈ a.into n, a.xn (a.s e) * a.W1 h c * (a.ex1 e h / (a.den1 (a.d e) h + a.e16)) * a.ew e
    = a.W1 h c * a.s1 n h := by
  rw [s1, num1, mul_div_assoc', Finset.mul_sum, Finset.sum_div]
  refine Finset.sum_congr rfl fun e he => ?_
  rw [a.d_into n e he]
  ring

theorem layer2_eq (n o) : ∑ e ∈ a.into n, a.h2w (a.s e) o * (a.ex2 e / (a.den2 (a.d e) + a.e16)) * a.ew e = a.g n o := by
  rw [g, num2, Finset.sum_div]
  refine Finset.sum_congr rfl fun e he => ?_
  rw [a.d_into n e he]
  ring

/-- The layer's output at a flat feature, with its bias. -/
def o1 (n : Fin NN) (k : Fin 128) : ℝ := a.W1 (hd k) (ch k) * a.s1 n (hd k) + a.b1 (hd k) (ch k)

theorem mean_o1 (k) : mean (fun n => a.o1 n k) = a.W1 (hd k) (ch k) * a.mh (hd k) + a.b1 (hd k) (ch k) := mean_affine _ _ _
theorem var_o1 (k) : var (fun n => a.o1 n k) = a.vh (hd k) * (a.W1 (hd k) (ch k) * a.W1 (hd k) (ch k)) := var_affine _ _ _

theorem var_o1_pos (k) : 0 < var (fun n => a.o1 n k) + a.e5 := by rw [var_o1]; exact a.vh_pos _ _

/-- The batch norm of the layer's output: the bias goes out with the mean, the weight comes out of the deviation. -/
theorem norm_o1 (n k) : max ((a.o1 n k - mean fun n => a.o1 n k) / Real.sqrt (var (fun n => a.o1 n k) + a.e5) * a.g1 (hd k) (ch k)
    + a.be1 (hd k) (ch k)) 0 = a.h2 n (hd k) (ch k) := by
  rw [h2, mean_o1, var_o1, o1]
  congr 4
  ring

end Net

end Cert.Graph
-- ==== Proof.Lift.lean ====
/- The extended-real operations of the programs at real arguments: each gives the real operation's value. -/
module

public import proofs.«01_k».proof.Proof.Spec
public import Idealize.ShloMosaic.PureOps.Ideal.Laws

@[expose] public section

noncomputable section

namespace Cert.Graph

open Idealize.ShloMosaic
open scoped BigOperators

theorem coe_sum {ι : Type} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

theorem sum_real {ι : Type} {s : Finset ι} {x : ι → EReal} {f : ι → ℝ} (h : ∀ i ∈ s, x i = f i) :
    ∑ i ∈ s, x i = ((∑ i ∈ s, f i : ℝ) : EReal) := by rw [← coe_sum]; exact Finset.sum_congr rfl h

theorem max_real (x y : ℝ) : max (x : EReal) y = ((max x y : ℝ) : EReal) := by
  rcases le_total x y with h | h
  · rw [max_eq_right h, max_eq_right (EReal.coe_le_coe_iff.mpr h)]
  · rw [max_eq_left h, max_eq_left (EReal.coe_le_coe_iff.mpr h)]

theorem max_real_zero (x : ℝ) : max (x : EReal) 0 = ((max x 0 : ℝ) : EReal) := max_real x 0

theorem abs_real (x : ℝ) : max (x : EReal) (-(x : EReal)) = ((|x| : ℝ) : EReal) := by
  rw [← EReal.coe_neg, max_real]; rfl

theorem div_real (x : ℝ) {y : ℝ} (h : y ≠ 0) : Ideal.div x y = ((x / y : ℝ) : EReal) := by
  rw [Ideal.div_coe h, ← EReal.coe_mul, mul_one_div]

theorem sqrt_real {x : ℝ} (h : 0 ≤ x) : Ideal.sqrt x = ((Real.sqrt x : ℝ) : EReal) := by
  rw [Ideal.sqrt_coe, if_neg (not_lt.mpr h)]

theorem fold_max_real {n : Nat} [NeZero n] (f : Fin n → ℝ) :
    Finset.univ.fold max (⊥ : EReal) (fun k => (f k : EReal)) = ((top f : ℝ) : EReal) := by
  refine le_antisymm ?_ ?_
  · rw [Finset.fold_max_le]
    exact ⟨bot_le, fun i _ => EReal.coe_le_coe_iff.mpr (le_top f i)⟩
  · obtain ⟨i, hi⟩ := exists_top f
    rw [hi, Finset.le_fold_max]
    exact Or.inr ⟨i, Finset.mem_univ i, le_rfl⟩

theorem fold_real {n : Nat} [NeZero n] {x : Fin n → EReal} {f : Fin n → ℝ} (h : ∀ i, x i = f i) :
    Finset.univ.fold max (⊥ : EReal) x = ((top f : ℝ) : EReal) := by rw [funext h, fold_max_real]

theorem cmp_gt_zero (x : ℝ) : Ideal.cmp .ogt (x : EReal) 0 = BitVec.ofBool (decide (0 < x)) := by
  show BitVec.ofBool (decide ((0 : EReal) < x)) = _
  simp only [EReal.coe_pos]

theorem cmp_ge_zero (x : ℝ) : Ideal.cmp .oge (x : EReal) 0 = BitVec.ofBool (decide (0 ≤ x)) := by
  show BitVec.ofBool (decide ((0 : EReal) ≤ x)) = _
  simp only [EReal.coe_nonneg]

/-! ### The constants -/

/-- The constant added to a variance, the constant added to a softmax's total, the rectifier's slope. -/
def e5 : ℝ := 2 ^ (-40 : Int) * 10995116
def e16 : ℝ := 2 ^ (-77 : Int) * 15111573
def slope : ℝ := 2 ^ (-26 : Int) * 13421773

theorem e5_pos : 0 < e5 := by unfold e5; positivity
theorem e16_pos : 0 < e16 := by unfold e16; positivity

theorem word_e5 : Ideal.ofBits .f32 0x3727C5AC#32 = ((e5 : ℝ) : EReal) := by
  simp [Ideal.ofBits, Ideal.ieee, e5, -EReal.coe_mul]; norm_num

theorem word_e16 : Ideal.ofBits .f32 0x24E69595#32 = ((e16 : ℝ) : EReal) := by
  simp [Ideal.ofBits, Ideal.ieee, e16, -EReal.coe_mul]; norm_num

theorem word_slope : Ideal.ofBits .f32 0x3E4CCCCD#32 = ((slope : ℝ) : EReal) := by
  simp [Ideal.ofBits, Ideal.ieee, slope, -EReal.coe_mul]; norm_num

theorem word_count : Ideal.ofBits .f32 0x47C35000#32 = ((100000 : ℝ) : EReal) := by
  simp [Ideal.ofBits, Ideal.ieee, -EReal.coe_mul]; norm_num

theorem word_bot : Ideal.ofBits .f32 0xFF800000#32 = (⊥ : EReal) := by
  simp [Ideal.ofBits, Ideal.ieee, -EReal.coe_mul]

theorem word_top : Ideal.ofBits .f32 0x7F800000#32 = (⊤ : EReal) := by
  simp [Ideal.ofBits, Ideal.ieee, -EReal.coe_mul]

end Cert.Graph
-- ==== Proof.Index.lean ====
/- Rows taken out of an array by a column of index words (`stablehlo.gather`), and rows added into an array at the rows
   that a column of index words names (`stablehlo.scatter` with an `add` body), each read at one element. The sizes are
   variables; the dimension numbers are those of `x[idx]` and of a segment sum. -/
module

public import Idealize.ShloMosaic.Lib.Routing.OpsPair
public import Idealize.ShloMosaic.Lib.Pointwise.Index
public import Idealize.ShloMosaic.PureOps.Ideal.Laws

@[expose] public section

namespace Cert.Graph

open Idealize.ShloMosaic
open scoped BigOperators

/-- The row that an index word names: read signed, a word below zero as row 0 and one past the end as the last row. -/
def row (N : Nat) (hN : 0 < N) {w : Nat} (b : BitVec w) : Fin N := ⟨min b.toInt.toNat (N - 1), by omega⟩

section Gather
variable {α : Type} {N E w : Nat}

/-- `x[idx]` for a vector `x`. -/
abbrev take1 (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

theorem take1_apply (hN : 0 < N) (wf) (x : (⟨1, ![N]⟩ : Shape).Idx → α) (idx : IVec ⟨2, ![E, 1]⟩ w) (e : Fin E) :
    Host.gather (take1 (N := N) (E := E) wf) x idx (ix1 e) = x (ix1 (row N hN (idx (ix2 e 0)))) := by
  unfold Host.gather
  refine congrArg x (funext fun a => Fin.ext ?_)
  match a with
  | ⟨0, _⟩ =>
    show (take1 wf).start (ix1 e) idx 0 + (take1 wf).batchCoord (ix1 e) 0 + (take1 wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 1) ∈ (take1 wf).startIndexMap from List.mem_singleton.mpr rfl)]
    have hsi : (take1 wf).siIdx (ix1 e) ⟨List.idxOf (0 : Fin 1) (take1 wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]; rfl

/-- `x[idx]` for a matrix `x`: whole rows. -/
abbrev take2 {C : Nat} (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

theorem take2_apply {C : Nat} (hN : 0 < N) (wf) (x : (⟨2, ![N, C]⟩ : Shape).Idx → α) (idx : IVec ⟨2, ![E, 1]⟩ w)
    (e : Fin E) (c : Fin C) :
    Host.gather (take2 (N := N) (E := E) (C := C) wf) x idx (ix2 e c) = x (ix2 (row N hN (idx (ix2 e 0))) c) := by
  unfold Host.gather
  refine congrArg x (funext fun a => Fin.ext ?_)
  match a with
  | ⟨0, _⟩ =>
    show (take2 wf).start (ix2 e c) idx 0 + (take2 wf).batchCoord (ix2 e c) 0 + (take2 wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ (take2 wf).startIndexMap from List.mem_singleton.mpr rfl)]
    have hsi : (take2 wf).siIdx (ix2 e c) ⟨List.idxOf (0 : Fin 2) (take2 wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]; rfl
  | ⟨1, _⟩ =>
    show (take2 wf).start (ix2 e c) idx 1 + (take2 wf).batchCoord (ix2 e c) 1 + (take2 wf).offCoord (ix2 e c) 1 = c.val
    rw [GatherDims.batchCoord_eq_zero _ _ _ List.not_mem_nil]
    unfold GatherDims.start
    rw [dif_neg (show (1 : Fin 2) ∉ (take2 wf).startIndexMap from fun h => by simp at h)]
    have : (take2 wf).offCoord (ix2 e c) 1 = c.val := rfl
    omega

/-- `x[idx]` for a rank-3 array `x`: whole slabs. -/
abbrev take3 {A B : Nat} (wf : GatherDims.WF ⟨3, ![N, A, B]⟩ ⟨2, ![E, 1]⟩ ⟨3, ![E, A, B]⟩ [1, 2] [0] [] [0] [] 1 ![1, A, B]) :
    GatherDims ⟨3, ![N, A, B]⟩ ⟨2, ![E, 1]⟩ ⟨3, ![E, A, B]⟩ where
  offsetDims := [1, 2]
  collapsedSliceDims := [0]
  operandBatchingDims := []
  startIndicesBatchingDims := []
  startIndexMap := [0]
  indexVectorDim := 1
  sliceSizes := ![1, A, B]
  wf := wf

theorem take3_apply {A B : Nat} (hN : 0 < N) (wf) (x : (⟨3, ![N, A, B]⟩ : Shape).Idx → α) (idx : IVec ⟨2, ![E, 1]⟩ w)
    (e : Fin E) (p : Fin A) (q : Fin B) :
    Host.gather (take3 (N := N) (E := E) (A := A) (B := B) wf) x idx (ix3 e p q) = x (ix3 (row N hN (idx (ix2 e 0))) p q) := by
  unfold Host.gather
  refine congrArg x (funext fun a => Fin.ext ?_)
  match a with
  | ⟨0, _⟩ =>
    show (take3 wf).start (ix3 e p q) idx 0 + (take3 wf).batchCoord (ix3 e p q) 0 + (take3 wf).offCoord (ix3 e p q) 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 3) ∈ (take3 wf).startIndexMap from List.mem_singleton.mpr rfl)]
    have hsi : (take3 wf).siIdx (ix3 e p q) ⟨List.idxOf (0 : Fin 3) (take3 wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]; rfl
  | ⟨1, _⟩ =>
    show (take3 wf).start (ix3 e p q) idx 1 + (take3 wf).batchCoord (ix3 e p q) 1 + (take3 wf).offCoord (ix3 e p q) 1 = p.val
    rw [GatherDims.batchCoord_eq_zero _ _ _ List.not_mem_nil]
    unfold GatherDims.start
    rw [dif_neg (show (1 : Fin 3) ∉ (take3 wf).startIndexMap from fun h => by simp at h)]
    have : (take3 wf).offCoord (ix3 e p q) 1 = p.val := rfl
    omega
  | ⟨2, _⟩ =>
    show (take3 wf).start (ix3 e p q) idx 2 + (take3 wf).batchCoord (ix3 e p q) 2 + (take3 wf).offCoord (ix3 e p q) 2 = q.val
    rw [GatherDims.batchCoord_eq_zero _ _ _ List.not_mem_nil]
    unfold GatherDims.start
    rw [dif_neg (show (2 : Fin 3) ∉ (take3 wf).startIndexMap from fun h => by simp at h)]
    have : (take3 wf).offCoord (ix3 e p q) 2 = q.val := rfl
    omega

end Gather

section Scatter
variable {N E w : Nat}

/-- The edges whose index word, read signed, is row `n`. -/
def into (idx : IVec ⟨2, ![E, 1]⟩ w) (n : Fin N) : Finset (Fin E) :=
  Finset.univ.filter fun e => (idx (ix2 e 0)).toInt = (n.val : Int)

theorem mem_into {idx : IVec ⟨2, ![E, 1]⟩ w} {n : Fin N} {e : Fin E} :
    e ∈ into idx n ↔ (idx (ix2 e 0)).toInt = (n.val : Int) := by simp [into]

/-- A word that names row `n` also reads row `n`. -/
theorem row_of_mem_into (hN : 0 < N) {idx : IVec ⟨2, ![E, 1]⟩ w} {n : Fin N} {e : Fin E} (h : e ∈ into idx n) :
    row N hN (idx (ix2 e 0)) = n := by
  rw [mem_into] at h
  refine Fin.ext ?_
  show min (idx (ix2 e 0)).toInt.toNat (N - 1) = n.val
  have := n.isLt
  omega

/-- A segment sum of the rows of a matrix. -/
abbrev segment2 {C : Nat} (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

theorem segment2_lands {C : Nat} (wf) (idx : IVec ⟨2, ![E, 1]⟩ w) (e : Fin E) (c' : Fin C) (n : Fin N) (c : Fin C) :
    (segment2 (N := N) (E := E) (C := C) wf).resultIdx? (ix2 e c') idx = some (ix2 n c)
      ↔ (idx (ix2 e 0)).toInt = (n.val : Int) ∧ c' = c := by
  rw [Routing.resultIdx?_eq_some]
  have h0 : (segment2 (N := N) (E := E) (C := C) wf).start (ix2 e c') idx 0 = (idx (ix2 e 0)).toInt := by
    unfold ScatterDims.start
    rw [dif_pos (show (0 : Fin 2) ∈ (segment2 wf).scatterDimsToOperandDims from List.mem_singleton.mpr rfl)]
    refine congrArg BitVec.toInt (congrArg idx (funext fun b => Fin.ext ?_))
    match b with
    | ⟨0, _⟩ => rfl
    | ⟨1, _⟩ => rfl
  have h1 : (segment2 (N := N) (E := E) (C := C) wf).start (ix2 e c') idx 1 = 0 := by
    unfold ScatterDims.start
    rw [dif_neg (show (1 : Fin 2) ∉ (segment2 wf).scatterDimsToOperandDims from fun h => by simp at h)]
  have w0 : (segment2 (N := N) (E := E) (C := C) wf).window (ix2 e c') 0 = 0 := rfl
  have w1 : (segment2 (N := N) (E := E) (C := C) wf).window (ix2 e c') 1 = c'.val := rfl
  constructor
  · intro h
    have a0 := h 0
    have a1 := h 1
    rw [h0, w0] at a0
    rw [h1, w1] at a1
    refine ⟨?_, Fin.ext ?_⟩
    · have : ((ix2 n c) 0 : Fin N).val = n.val := rfl
      simpa using a0
    · have : (((ix2 n c) 1 : Fin C).val : Int) = c.val := rfl
      have : (c'.val : Int) = c.val := by simpa using a1
      exact_mod_cast this
  · rintro ⟨h, rfl⟩ a
    match a with
    | ⟨0, _⟩ =>
      show (segment2 (N := N) (E := E) (C := C) wf).start (ix2 e c') idx 0 + ((segment2 (N := N) (E := E) (C := C) wf).window (ix2 e c') 0 : Int) = (n.val : Int)
      rw [h0, w0, h]; simp
    | ⟨1, _⟩ =>
      show (segment2 (N := N) (E := E) (C := C) wf).start (ix2 e c') idx 1 + ((segment2 (N := N) (E := E) (C := C) wf).window (ix2 e c') 1 : Int) = (c'.val : Int)
      rw [h1, w1]; simp

/-- A segment sum at row `n`: the operand's element plus the sum over the edges into `n`. -/
theorem segment2_apply {C : Nat} {φ : FTy} (wf) (x : FVec Ideal ⟨2, ![N, C]⟩ φ) (idx : IVec ⟨2, ![E, 1]⟩ w)
    (upd : FVec Ideal ⟨2, ![E, C]⟩ φ) (n : Fin N) (c : Fin C) :
    Host.scatterAdd (segment2 (N := N) (E := E) (C := C) wf) x idx upd (ix2 n c)
      = x (ix2 n c) + ∑ e ∈ into idx n, (upd (ix2 e c) : EReal) := by
  show Ideal.hostScatterAdd (segment2 (N := N) (E := E) (C := C) wf) x idx upd (ix2 n c) = _
  unfold Ideal.hostScatterAdd
  refine congrArg (x (ix2 n c) + ·) ?_
  rw [Finset.sum_filter, sum_idx2, into, Finset.sum_filter]
  refine Finset.sum_congr rfl fun e _ => ?_
  simp only [segment2_lands, ite_and]
  by_cases h : (idx (ix2 e 0)).toInt = (n.val : Int)
  · simp [h]
  · simp [h]

/-- A segment sum of the slabs of a rank-3 array. -/
abbrev segment3 {A B : Nat} (wf : ScatterDims.WF ⟨3, ![N, A, B]⟩ ⟨2, ![E, 1]⟩ ⟨3, ![E, A, B]⟩ [1, 2] [0] [0] 1) :
    ScatterDims ⟨3, ![N, A, B]⟩ ⟨2, ![E, 1]⟩ ⟨3, ![E, A, B]⟩ where
  updateWindowDims := [1, 2]
  insertedWindowDims := [0]
  scatterDimsToOperandDims := [0]
  indexVectorDim := 1
  wf := wf

theorem segment3_lands {A B : Nat} (wf) (idx : IVec ⟨2, ![E, 1]⟩ w) (e : Fin E) (p' : Fin A) (q' : Fin B) (n : Fin N)
    (p : Fin A) (q : Fin B) :
    (segment3 (N := N) (E := E) (A := A) (B := B) wf).resultIdx? (ix3 e p' q') idx = some (ix3 n p q)
      ↔ (idx (ix2 e 0)).toInt = (n.val : Int) ∧ p' = p ∧ q' = q := by
  rw [Routing.resultIdx?_eq_some]
  have h0 : (segment3 (N := N) (E := E) (A := A) (B := B) wf).start (ix3 e p' q') idx 0 = (idx (ix2 e 0)).toInt := by
    unfold ScatterDims.start
    rw [dif_pos (show (0 : Fin 3) ∈ (segment3 wf).scatterDimsToOperandDims from List.mem_singleton.mpr rfl)]
    refine congrArg BitVec.toInt (congrArg idx (funext fun b => Fin.ext ?_))
    match b with
    | ⟨0, _⟩ => rfl
    | ⟨1, _⟩ => rfl
  have h1 : (segment3 (N := N) (E := E) (A := A) (B := B) wf).start (ix3 e p' q') idx 1 = 0 := by
    unfold ScatterDims.start
    rw [dif_neg (show (1 : Fin 3) ∉ (segment3 wf).scatterDimsToOperandDims from fun h => by simp at h)]
  have h2 : (segment3 (N := N) (E := E) (A := A) (B := B) wf).start (ix3 e p' q') idx 2 = 0 := by
    unfold ScatterDims.start
    rw [dif_neg (show (2 : Fin 3) ∉ (segment3 wf).scatterDimsToOperandDims from fun h => by simp at h)]
  have w0 : (segment3 (N := N) (E := E) (A := A) (B := B) wf).window (ix3 e p' q') 0 = 0 := rfl
  have w1 : (segment3 (N := N) (E := E) (A := A) (B := B) wf).window (ix3 e p' q') 1 = p'.val := rfl
  have w2 : (segment3 (N := N) (E := E) (A := A) (B := B) wf).window (ix3 e p' q') 2 = q'.val := rfl
  constructor
  · intro h
    have a0 := h 0
    have a1 := h 1
    have a2 := h 2
    rw [h0, w0] at a0
    rw [h1, w1] at a1
    rw [h2, w2] at a2
    refine ⟨by simpa using a0, Fin.ext ?_, Fin.ext ?_⟩
    · have : (p'.val : Int) = p.val := by simpa using a1
      exact_mod_cast this
    · have : (q'.val : Int) = q.val := by simpa using a2
      exact_mod_cast this
  · rintro ⟨h, rfl, rfl⟩ a
    match a with
    | ⟨0, _⟩ =>
      show (segment3 (N := N) (E := E) (A := A) (B := B) wf).start (ix3 e p' q') idx 0 + ((segment3 (N := N) (E := E) (A := A) (B := B) wf).window (ix3 e p' q') 0 : Int) = (n.val : Int)
      rw [h0, w0, h]; simp
    | ⟨1, _⟩ =>
      show (segment3 (N := N) (E := E) (A := A) (B := B) wf).start (ix3 e p' q') idx 1 + ((segment3 (N := N) (E := E) (A := A) (B := B) wf).window (ix3 e p' q') 1 : Int) = (p'.val : Int)
      rw [h1, w1]; simp
    | ⟨2, _⟩ =>
      show (segment3 (N := N) (E := E) (A := A) (B := B) wf).start (ix3 e p' q') idx 2 + ((segment3 (N := N) (E := E) (A := A) (B := B) wf).window (ix3 e p' q') 2 : Int) = (q'.val : Int)
      rw [h2, w2]; simp

/-- The same at one element of a slab. -/
theorem segment3_apply {A B : Nat} {φ : FTy} (wf) (x : FVec Ideal ⟨3, ![N, A, B]⟩ φ) (idx : IVec ⟨2, ![E, 1]⟩ w)
    (upd : FVec Ideal ⟨3, ![E, A, B]⟩ φ) (n : Fin N) (p : Fin A) (q : Fin B) :
    Host.scatterAdd (segment3 (N := N) (E := E) (A := A) (B := B) wf) x idx upd (ix3 n p q)
      = x (ix3 n p q) + ∑ e ∈ into idx n, (upd (ix3 e p q) : EReal) := by
  show Ideal.hostScatterAdd (segment3 (N := N) (E := E) (A := A) (B := B) wf) x idx upd (ix3 n p q) = _
  unfold Ideal.hostScatterAdd
  refine congrArg (x (ix3 n p q) + ·) ?_
  rw [Finset.sum_filter, sum_idx3, into, Finset.sum_filter]
  refine Finset.sum_congr rfl fun e _ => ?_
  simp only [segment3_lands, ite_and]
  by_cases h : (idx (ix2 e 0)).toInt = (n.val : Int)
  · simp [h]
  · simp [h]

end Scatter

end Cert.Graph
-- ==== Proof.Inputs.lean ====
/- The argument arrays of the two programs, read as one graph network over the reals. -/
module

public import proofs.«01_k».proof.Proof.Lift
public import proofs.«01_k».proof.Proof.Index
public import Idealize.ShloMosaic.Lib.ReduceAll

@[expose] public section

noncomputable section

namespace Cert.Graph

open Idealize.ShloMosaic
open scoped BigOperators

/-- An array of the ideal instance: extended reals. -/
abbrev Arr (s : Shape) : Type := s.Idx → EReal

/-- The index word a gather is given: a word below zero counts from the end. -/
def wrap (w : BitVec 32) : BitVec 32 := Scalar.select (IntOp.cmpi .slt w 0#32) (IntOp.addi w 100000#32) w

theorem NN_pos : 0 < 100000 := by decide

/-- The node an index word makes a gather read. -/
def node (w : BitVec 32) : Fin NN := row 100000 NN_pos (wrap w)

theorem wrap_of_nonneg {w : BitVec 32} (h : 0 ≤ w.toInt) : wrap w = w := by
  unfold wrap
  have : IntOp.cmpi .slt w 0#32 ≠ 1 := fun e => by
    have := IntOp.cmpi_slt.1 e
    have : (0#32 : BitVec 32).toInt = 0 := by decide
    omega
  rw [Scalar.select, if_neg this]

/-- A word that names a node makes a gather read that node. -/
theorem node_of_toInt {w : BitVec 32} {n : Fin NN} (h : w.toInt = (n.val : Int)) : node w = n := by
  have hn : n.val < 100000 := n.isLt
  rw [node, wrap_of_nonneg (by omega)]
  refine Fin.ext ?_
  show min w.toInt.toNat (100000 - 1) = n.val
  omega

/-- The argument arrays hold the network `a`: the edge words name its sources and targets, the real arrays its weights. -/
structure Holds (a : Net) (x0 : Arr ⟨2, ![100000, 1]⟩) (x1 : IVec ⟨2, ![2, 1600000]⟩ 32) (x2 : Arr ⟨1, ![1600000]⟩)
    (x3 x4 : Arr ⟨1, ![1]⟩) (x5 : Arr ⟨2, ![1, 128]⟩) (x6 x7 : Arr ⟨2, ![8, 16]⟩) (x8 x9 x10 : Arr ⟨1, ![128]⟩)
    (x11 : Arr ⟨2, ![128, 32]⟩) (x12 x13 : Arr ⟨2, ![1, 32]⟩) : Prop where
  he5 : a.e5 = e5
  he16 : a.e16 = e16
  hr : a.r = slope
  hsrc : ∀ e : Fin 1600000, node (x1 (ix2 0 e)) = a.s e
  hdst : ∀ e : Fin 1600000, node (x1 (ix2 1 e)) = a.d e
  hinto : ∀ (n : Fin 100000) (e : Fin 1600000), e ∈ a.into n ↔ (x1 (ix2 1 e)).toInt = (n.val : Int)
  h0 : ∀ n : Fin 100000, x0 (ix2 n 0) = (a.x n : EReal)
  h2 : ∀ e : Fin 1600000, x2 (ix1 e) = (a.ew e : EReal)
  h3 : x3 (ix1 0) = (a.g0 : EReal)
  h4 : x4 (ix1 0) = (a.b0 : EReal)
  h5 : ∀ (h : Fin 8) (c : Fin 16), x5 (ix2 0 (fl h c)) = (a.W1 h c : EReal)
  h6 : ∀ (h : Fin 8) (c : Fin 16), x6 (ix2 h c) = (a.as1 h c : EReal)
  h7 : ∀ (h : Fin 8) (c : Fin 16), x7 (ix2 h c) = (a.ad1 h c : EReal)
  h8 : ∀ (h : Fin 8) (c : Fin 16), x8 (ix1 (fl h c)) = (a.b1 h c : EReal)
  h9 : ∀ (h : Fin 8) (c : Fin 16), x9 (ix1 (fl h c)) = (a.g1 h c : EReal)
  h10 : ∀ (h : Fin 8) (c : Fin 16), x10 (ix1 (fl h c)) = (a.be1 h c : EReal)
  h11 : ∀ (k : Fin 128) (o : Fin 32), x11 (ix2 k o) = (a.W2 k o : EReal)
  h12 : ∀ o : Fin 32, x12 (ix2 0 o) = (a.as2 o : EReal)
  h13 : ∀ o : Fin 32, x13 (ix2 0 o) = (a.ad2 o : EReal)

theorem fl_hd_ch (k : Fin 128) : fl (hd k) (ch k) = k := Fin.ext (by show k.val / 16 * 16 + k.val % 16 = k.val; omega)

section Flat
variable {a : Net} {x0 : Arr ⟨2, ![100000, 1]⟩} {x1 : IVec ⟨2, ![2, 1600000]⟩ 32} {x2 : Arr ⟨1, ![1600000]⟩}
  {x3 x4 : Arr ⟨1, ![1]⟩} {x5 : Arr ⟨2, ![1, 128]⟩} {x6 x7 : Arr ⟨2, ![8, 16]⟩} {x8 x9 x10 : Arr ⟨1, ![128]⟩}
  {x11 : Arr ⟨2, ![128, 32]⟩} {x12 x13 : Arr ⟨2, ![1, 32]⟩} (H : Holds a x0 x1 x2 x3 x4 x5 x6 x7 x8 x9 x10 x11 x12 x13)
include H

theorem Holds.flat5 (k : Fin 128) : x5 (ix2 0 k) = (a.W1 (hd k) (ch k) : EReal) := by rw [← H.h5, fl_hd_ch]
theorem Holds.flat8 (k : Fin 128) : x8 (ix1 k) = (a.b1 (hd k) (ch k) : EReal) := by rw [← H.h8, fl_hd_ch]
theorem Holds.flat9 (k : Fin 128) : x9 (ix1 k) = (a.g1 (hd k) (ch k) : EReal) := by rw [← H.h9, fl_hd_ch]
theorem Holds.flat10 (k : Fin 128) : x10 (ix1 k) = (a.be1 (hd k) (ch k) : EReal) := by rw [← H.h10, fl_hd_ch]

end Flat

/-- Every element of an array is a real number. -/
def AllReal {s : Shape} (x : Arr s) : Prop := ∀ i, ∃ r : ℝ, x i = (r : EReal)

/-- Real argument arrays hold a network. -/
theorem exists_holds (x0 : Arr ⟨2, ![100000, 1]⟩) (x1 : IVec ⟨2, ![2, 1600000]⟩ 32) (x2 : Arr ⟨1, ![1600000]⟩)
    (x3 x4 : Arr ⟨1, ![1]⟩) (x5 : Arr ⟨2, ![1, 128]⟩) (x6 x7 : Arr ⟨2, ![8, 16]⟩) (x8 x9 x10 : Arr ⟨1, ![128]⟩)
    (x11 : Arr ⟨2, ![128, 32]⟩) (x12 x13 : Arr ⟨2, ![1, 32]⟩)
    (h0 : AllReal x0) (h2 : AllReal x2) (h3 : AllReal x3) (h4 : AllReal x4) (h5 : AllReal x5) (h6 : AllReal x6)
    (h7 : AllReal x7) (h8 : AllReal x8) (h9 : AllReal x9) (h10 : AllReal x10) (h11 : AllReal x11) (h12 : AllReal x12)
    (h13 : AllReal x13) : ∃ a : Net, Holds a x0 x1 x2 x3 x4 x5 x6 x7 x8 x9 x10 x11 x12 x13 := by
  have back : ∀ {y : EReal}, (∃ r : ℝ, y = r) → y = (y.toReal : EReal) := by
    rintro y ⟨r, rfl⟩; rw [EReal.toReal_coe]
  refine ⟨{ e5 := e5, e16 := e16, r := slope, e5_pos := e5_pos, e16_pos := e16_pos
            s := fun e => node (x1 (ix2 0 e)), d := fun e => node (x1 (ix2 1 e))
            into := fun n => Finset.univ.filter fun e => (x1 (ix2 1 e)).toInt = (n.val : Int)
            d_into := fun n e h => node_of_toInt (Finset.mem_filter.mp h).2
            x := fun n => (x0 (ix2 n 0)).toReal, ew := fun e => (x2 (ix1 e)).toReal
            g0 := (x3 (ix1 0)).toReal, b0 := (x4 (ix1 0)).toReal
            W1 := fun h c => (x5 (ix2 0 (fl h c))).toReal, as1 := fun h c => (x6 (ix2 h c)).toReal
            ad1 := fun h c => (x7 (ix2 h c)).toReal, b1 := fun h c => (x8 (ix1 (fl h c))).toReal
            g1 := fun h c => (x9 (ix1 (fl h c))).toReal, be1 := fun h c => (x10 (ix1 (fl h c))).toReal
            W2 := fun k o => (x11 (ix2 k o)).toReal, as2 := fun o => (x12 (ix2 0 o)).toReal
            ad2 := fun o => (x13 (ix2 0 o)).toReal },
    { he5 := rfl, he16 := rfl, hr := rfl, hsrc := fun _ => rfl, hdst := fun _ => rfl
      hinto := fun n e => by simp
      h0 := fun _ => back (h0 _), h2 := fun _ => back (h2 _), h3 := back (h3 _), h4 := back (h4 _)
      h5 := fun _ _ => back (h5 _), h6 := fun _ _ => back (h6 _), h7 := fun _ _ => back (h7 _)
      h8 := fun _ _ => back (h8 _), h9 := fun _ _ => back (h9 _), h10 := fun _ _ => back (h10 _)
      h11 := fun _ _ => back (h11 _), h12 := fun _ => back (h12 _), h13 := fun _ => back (h13 _) }⟩

end Cert.Graph
-- ==== Proof.Formulas.lean ====
/- The programs' recurring formulas at real arguments: mean, variance, normalization, leaky rectifier, quotient. -/
module

public import proofs.«01_k».proof.Proof.Lift

@[expose] public section

noncomputable section

namespace Cert.Graph

open Idealize.ShloMosaic
open scoped BigOperators

theorem exp_real (x : ℝ) : Ideal.exp (x : EReal) = ((Real.exp x : ℝ) : EReal) := by simp

theorem mean_real {y : Fin 100000 → EReal} {f : Fin NN → ℝ} (h : ∀ i, y i = f i) :
    Ideal.div (∑ i, y i) (Ideal.ofBits FTy.f32 0x47C35000#32) = ((mean f : ℝ) : EReal) := by
  rw [sum_real (f := f) fun i _ => h i, word_count, div_real _ (by norm_num)]; rfl

/-- The count less a correction of zero. -/
theorem count_real : Ideal.ofBits FTy.f32 0x47C35000#32 - FloatOps.sitofp (F := Ideal) FTy.f32 0#32 = ((100000 : ℝ) : EReal) := by
  rw [word_count]
  show ((100000 : ℝ) : EReal) - (((0#32 : BitVec 32).toInt : ℝ) : EReal) = _
  rw [show (0#32 : BitVec 32).toInt = 0 from by decide, ← EReal.coe_sub]
  norm_num

theorem var_real {y : Fin 100000 → EReal} {f : Fin NN → ℝ} (h : ∀ i, y i = f i) (z : EReal) :
    (if 0 < Ideal.ofBits FTy.f32 0x47C35000#32 - FloatOps.sitofp (F := Ideal) FTy.f32 0#32 then
      Ideal.div (∑ x, (y x - Ideal.div (∑ x, y x) (Ideal.ofBits FTy.f32 0x47C35000#32))
          * (y x - Ideal.div (∑ x, y x) (Ideal.ofBits FTy.f32 0x47C35000#32)))
        (Ideal.ofBits FTy.f32 0x47C35000#32 - FloatOps.sitofp (F := Ideal) FTy.f32 0#32)
    else z) = ((var f : ℝ) : EReal) := by
  rw [count_real, if_pos (EReal.coe_pos.mpr (by norm_num)), mean_real h,
    sum_real (f := fun x => (f x - mean f) * (f x - mean f)) fun x _ => by
      rw [h x, ← EReal.coe_sub, ← EReal.coe_mul],
    div_real _ (by norm_num)]
  rfl

theorem norm_real (x m v e g b : ℝ) (h : 0 < v + e) :
    Ideal.div ((x : EReal) - m) (Ideal.sqrt ((v : EReal) + e)) * g + b
      = (((x - m) / Real.sqrt (v + e) * g + b : ℝ) : EReal) := by
  rw [← EReal.coe_add, sqrt_real h.le, ← EReal.coe_sub, div_real _ (Real.sqrt_pos.mpr h).ne', ← EReal.coe_mul, ← EReal.coe_add]

theorem quot_real (x d e : ℝ) (h : 0 < d + e) : Ideal.div (x : EReal) ((d : EReal) + e) = ((x / (d + e) : ℝ) : EReal) := by
  rw [← EReal.coe_add, div_real _ h.ne']

/-- The leaky rectifier tested with `≥`, and tested with `>`. -/
theorem leaky_ge (r x : ℝ) : (if 0 ≤ (x : EReal) then (x : EReal) else (r : EReal) * x) = ((leaky r x : ℝ) : EReal) := by
  rw [← leaky_of_le]
  by_cases h : 0 ≤ x
  · rw [if_pos h, if_pos (EReal.coe_nonneg.mpr h)]
  · rw [if_neg h, if_neg (fun h' => h (EReal.coe_nonneg.mp h')), EReal.coe_mul]

theorem leaky_gt (r x : ℝ) : (if 0 < (x : EReal) then (x : EReal) else (r : EReal) * x) = ((leaky r x : ℝ) : EReal) := by
  unfold leaky
  by_cases h : 0 < x
  · rw [if_pos h, if_pos (EReal.coe_pos.mpr h)]
  · rw [if_neg h, if_neg (fun h' => h (EReal.coe_pos.mp h')), EReal.coe_mul]

end Cert.Graph
-- ==== Proof.HostForm2.lean ====
/- What the kernel's host operations before its third launch leave in each array, as a formula in earlier arrays. -/
module

public import proofs.«01_k».proof.Proof.Gen.KernelIdeal.Frame
public import proofs.«01_k».proof.Proof.Inputs
public import proofs.«01_k».proof.Proof.Formulas
public import Idealize.ShloMosaic.Lib.StableHlo.RunRead
public import Idealize.ShloMosaic.Lib.Pointwise

@[expose] public section

noncomputable section

namespace Cert.Graph

open Idealize.ShloMosaic Idealize.ShloMosaic.StableHlo Cert.KernelIdeal Cert.KernelIdeal.Gen
open scoped BigOperators

theorem kform_v75 (n : Fin 100000) (y_v74_1 : FVec Ideal S100000x1 .f32) :
    ((shapeCast _ y_v74_1 shapeCasts_S100000x1_S100000 : FVec Ideal S100000 .f32) (ix1 n) : EReal)
      = y_v74_1 (ix2 n 0) := by
  pointwise []

theorem read_v75 (V : Valuation τ sig (Elt Ideal)) :
    (StableHlo.after (hostOps2 (F := Ideal)) V (Proc.devRef .tc main_v75) : FVec Ideal S100000 .f32)
      = (shapeCast _ (V (Proc.devRef .tc main_v74_1) : FVec Ideal S100000x1 .f32) shapeCasts_S100000x1_S100000 : FVec Ideal S100000 .f32) := by
  after_reads_simp <;> rfl

theorem kform_v76 (n : Fin 100000) (y_v74_2 : FVec Ideal S100000x1 .f32) :
    ((shapeCast _ y_v74_2 shapeCasts_S100000x1_S100000 : FVec Ideal S100000 .f32) (ix1 n) : EReal)
      = y_v74_2 (ix2 n 0) := by
  pointwise []

theorem read_v76 (V : Valuation τ sig (Elt Ideal)) :
    (StableHlo.after (hostOps2 (F := Ideal)) V (Proc.devRef .tc main_v76) : FVec Ideal S100000 .f32)
      = (shapeCast _ (V (Proc.devRef .tc main_v74_2) : FVec Ideal S100000x1 .f32) shapeCasts_S100000x1_S100000 : FVec Ideal S100000 .f32) := by
  after_reads_simp <;> rfl

theorem kform_v77 (y_v75 : FVec Ideal S100000 .f32) :
    ((Host.reduce FloatOps.maximumf y_v75 (constant S_ .f32 0xFF800000#32 : FVec Ideal S_ .f32) reducesTo_S100000_S_d0 h_S_ : FVec Ideal S_ .f32) (ix0) : EReal)
      = Finset.fold max (Ideal.ofBits FTy.f32 0xFF800000#32) (fun n => y_v75 (ix1 n)) Finset.univ := by
  pointwise []

theorem read_v77 (V : Valuation τ sig (Elt Ideal)) :
    (StableHlo.after (hostOps2 (F := Ideal)) V (Proc.devRef .tc main_v77) : FVec Ideal S_ .f32)
      = (Host.reduce FloatOps.maximumf (StableHlo.after (hostOps2 (F := Ideal)) V (Proc.devRef .tc main_v75) : FVec Ideal S100000 .f32) (constant S_ .f32 0xFF800000#32 : FVec Ideal S_ .f32) reducesTo_S100000_S_d0 h_S_ : FVec Ideal S_ .f32) := by
  after_reads_simp <;> rfl

theorem kform_v78 (y_v76 : FVec Ideal S100000 .f32) :
    ((Host.reduce FloatOps.maximumf y_v76 (constant S_ .f32 0xFF800000#32 : FVec Ideal S_ .f32) reducesTo_S100000_S_d0 h_S_ : FVec Ideal S_ .f32) (ix0) : EReal)
      = Finset.fold max (Ideal.ofBits FTy.f32 0xFF800000#32) (fun n => y_v76 (ix1 n)) Finset.univ := by
  pointwise []

theorem read_v78 (V : Valuation τ sig (Elt Ideal)) :
    (StableHlo.after (hostOps2 (F := Ideal)) V (Proc.devRef .tc main_v78) : FVec Ideal S_ .f32)
      = (Host.reduce FloatOps.maximumf (StableHlo.after (hostOps2 (F := Ideal)) V (Proc.devRef .tc main_v76) : FVec Ideal S100000 .f32) (constant S_ .f32 0xFF800000#32 : FVec Ideal S_ .f32) reducesTo_S100000_S_d0 h_S_ : FVec Ideal S_ .f32) := by
  after_reads_simp <;> rfl

theorem kform_v80 (y_v77 : FVec Ideal S_ .f32) (y_v78 : FVec Ideal S_ .f32) :
    ((maximumf (addf y_v77 y_v78 : FVec Ideal S_ .f32) (constant S_ .f32 0x00000000#32 : FVec Ideal S_ .f32) : FVec Ideal S_ .f32) (ix0) : EReal)
      = max (y_v77 ix0 + y_v78 ix0) 0 := by
  pointwise []

theorem read_v80 (V : Valuation τ sig (Elt Ideal)) :
    (StableHlo.after (hostOps2 (F := Ideal)) V (Proc.devRef .tc main_v80) : FVec Ideal S_ .f32)
      = (maximumf (addf (StableHlo.after (hostOps2 (F := Ideal)) V (Proc.devRef .tc main_v77) : FVec Ideal S_ .f32) (StableHlo.after (hostOps2 (F := Ideal)) V (Proc.devRef .tc main_v78) : FVec Ideal S_ .f32) : FVec Ideal S_ .f32) (constant S_ .f32 0x00000000#32 : FVec Ideal S_ .f32) : FVec Ideal S_ .f32) := by
  after_reads_simp <;> rfl

theorem kform_v86 (e : Fin 1600000) (y_v22 : IVec S1600000 32) :
    ((broadcastInDim S1600000x1 ![0] bcast_S1600000_S1600000x1_0 (select (cmpi .slt y_v22 (broadcastInDim S1600000 ![] bcast_S_S1600000 (constantI S_ 32 0#32 : IVec S_ 32) : IVec S1600000 32) : IVec S1600000 1) (addi y_v22 (broadcastInDim S1600000 ![] bcast_S_S1600000 (constantI S_ 32 100000#32 : IVec S_ 32) : IVec S1600000 32) : IVec S1600000 32) y_v22 : IVec S1600000 32) : IVec S1600000x1 32) (ix2 e 0) : BitVec 32)
      = wrap (y_v22 (ix1 e)) := by
  pointwise []
  rfl

theorem read_v86 (V : Valuation τ sig (Elt Ideal)) :
    (StableHlo.after (hostOps2 (F := Ideal)) V (Proc.devRef .tc main_v86) : IVec S1600000x1 32)
      = (broadcastInDim S1600000x1 ![0] bcast_S1600000_S1600000x1_0 (select (cmpi .slt (V (Proc.devRef .tc main_v22) : IVec S1600000 32) (broadcastInDim S1600000 ![] bcast_S_S1600000 (constantI S_ 32 0#32 : IVec S_ 32) : IVec S1600000 32) : IVec S1600000 1) (addi (V (Proc.devRef .tc main_v22) : IVec S1600000 32) (broadcastInDim S1600000 ![] bcast_S_S1600000 (constantI S_ 32 100000#32 : IVec S_ 32) : IVec S1600000 32) : IVec S1600000 32) (V (Proc.devRef .tc main_v22) : IVec S1600000 32) : IVec S1600000 32) : IVec S1600000x1 32) := by
  after_reads_simp <;> rfl

theorem kform_v94 (e : Fin 1600000) (y_v24 : IVec S1600000 32) :
    ((broadcastInDim S1600000x1 ![0] bcast_S1600000_S1600000x1_0 (select (cmpi .slt y_v24 (broadcastInDim S1600000 ![] bcast_S_S1600000 (constantI S_ 32 0#32 : IVec S_ 32) : IVec S1600000 32) : IVec S1600000 1) (addi y_v24 (broadcastInDim S1600000 ![] bcast_S_S1600000 (constantI S_ 32 100000#32 : IVec S_ 32) : IVec S1600000 32) : IVec S1600000 32) y_v24 : IVec S1600000 32) : IVec S1600000x1 32) (ix2 e 0) : BitVec 32)
      = wrap (y_v24 (ix1 e)) := by
  pointwise []
  rfl

theorem read_v94 (V : Valuation τ sig (Elt Ideal)) :
    (StableHlo.after (hostOps2 (F := Ideal)) V (Proc.devRef .tc main_v94) : IVec S1600000x1 32)
      = (broadcastInDim S1600000x1 ![0] bcast_S1600000_S1600000x1_0 (select (cmpi .slt (V (Proc.devRef .tc main_v24) : IVec S1600000 32) (broadcastInDim S1600000 ![] bcast_S_S1600000 (constantI S_ 32 0#32 : IVec S_ 32) : IVec S1600000 32) : IVec S1600000 1) (addi (V (Proc.devRef .tc main_v24) : IVec S1600000 32) (broadcastInDim S1600000 ![] bcast_S_S1600000 (constantI S_ 32 100000#32 : IVec S_ 32) : IVec S1600000 32) : IVec S1600000 32) (V (Proc.devRef .tc main_v24) : IVec S1600000 32) : IVec S1600000 32) : IVec S1600000x1 32) := by
  after_reads_simp <;> rfl

theorem kform_v102 (e : Fin 1600000) (y_v22 : IVec S1600000 32) :
    ((broadcastInDim S1600000x1 ![0] bcast_S1600000_S1600000x1_0 (select (cmpi .slt y_v22 (broadcastInDim S1600000 ![] bcast_S_S1600000 (constantI S_ 32 0#32 : IVec S_ 32) : IVec S1600000 32) : IVec S1600000 1) (addi y_v22 (broadcastInDim S1600000 ![] bcast_S_S1600000 (constantI S_ 32 100000#32 : IVec S_ 32) : IVec S1600000 32) : IVec S1600000 32) y_v22 : IVec S1600000 32) : IVec S1600000x1 32) (ix2 e 0) : BitVec 32)
      = wrap (y_v22 (ix1 e)) := by
  pointwise []
  rfl

theorem read_v102 (V : Valuation τ sig (Elt Ideal)) :
    (StableHlo.after (hostOps2 (F := Ideal)) V (Proc.devRef .tc main_v102) : IVec S1600000x1 32)
      = (broadcastInDim S1600000x1 ![0] bcast_S1600000_S1600000x1_0 (select (cmpi .slt (V (Proc.devRef .tc main_v22) : IVec S1600000 32) (broadcastInDim S1600000 ![] bcast_S_S1600000 (constantI S_ 32 0#32 : IVec S_ 32) : IVec S1600000 32) : IVec S1600000 1) (addi (V (Proc.devRef .tc main_v22) : IVec S1600000 32) (broadcastInDim S1600000 ![] bcast_S_S1600000 (constantI S_ 32 100000#32 : IVec S_ 32) : IVec S1600000 32) : IVec S1600000 32) (V (Proc.devRef .tc main_v22) : IVec S1600000 32) : IVec S1600000 32) : IVec S1600000x1 32) := by
  after_reads_simp <;> rfl

theorem read_v87 (V : Valuation τ sig (Elt Ideal)) :
    (StableHlo.after (hostOps2 (F := Ideal)) V (Proc.devRef .tc main_v87) : FVec Ideal S1600000 .f32)
      = (Host.gather gather_S100000_S1600000x1_S1600000_n_0_n_n_0_1_1 (StableHlo.after (hostOps2 (F := Ideal)) V (Proc.devRef .tc main_v75) : FVec Ideal S100000 .f32) (StableHlo.after (hostOps2 (F := Ideal)) V (Proc.devRef .tc main_v86) : IVec S1600000x1 32) : FVec Ideal S1600000 .f32) := by
  after_reads_simp <;> rfl

theorem read_v95 (V : Valuation τ sig (Elt Ideal)) :
    (StableHlo.after (hostOps2 (F := Ideal)) V (Proc.devRef .tc main_v95) : FVec Ideal S1600000 .f32)
      = (Host.gather gather_S100000_S1600000x1_S1600000_n_0_n_n_0_1_1 (StableHlo.after (hostOps2 (F := Ideal)) V (Proc.devRef .tc main_v76) : FVec Ideal S100000 .f32) (StableHlo.after (hostOps2 (F := Ideal)) V (Proc.devRef .tc main_v94) : IVec S1600000x1 32) : FVec Ideal S1600000 .f32) := by
  after_reads_simp <;> rfl

theorem read_v103 (V : Valuation τ sig (Elt Ideal)) :
    (StableHlo.after (hostOps2 (F := Ideal)) V (Proc.devRef .tc main_v103) : FVec Ideal S1600000x32 .f32)
      = (Host.gather gather_S100000x32_S1600000x1_S1600000x32_1_0_n_n_0_1_132 (V (Proc.devRef .tc main_v74_0) : FVec Ideal S100000x32 .f32) (StableHlo.after (hostOps2 (F := Ideal)) V (Proc.devRef .tc main_v102) : IVec S1600000x1 32) : FVec Ideal S1600000x32 .f32) := by
  after_reads_simp <;> rfl

theorem kform_v88 (e : Fin 1600000) (y_v87 : FVec Ideal S1600000 .f32) :
    ((shapeCast _ y_v87 shapeCasts_S1600000_S1600000x1 : FVec Ideal S1600000x1 .f32) (ix2 e 0) : EReal)
      = y_v87 (ix1 e) := by
  pointwise []

theorem read_v88 (V : Valuation τ sig (Elt Ideal)) :
    (StableHlo.after (hostOps2 (F := Ideal)) V (Proc.devRef .tc main_v88) : FVec Ideal S1600000x1 .f32)
      = (shapeCast _ (StableHlo.after (hostOps2 (F := Ideal)) V (Proc.devRef .tc main_v87) : FVec Ideal S1600000 .f32) shapeCasts_S1600000_S1600000x1 : FVec Ideal S1600000x1 .f32) := by
  after_reads_simp <;> rfl

theorem kform_v96 (e : Fin 1600000) (y_v95 : FVec Ideal S1600000 .f32) :
    ((shapeCast _ y_v95 shapeCasts_S1600000_S1600000x1 : FVec Ideal S1600000x1 .f32) (ix2 e 0) : EReal)
      = y_v95 (ix1 e) := by
  pointwise []

theorem read_v96 (V : Valuation τ sig (Elt Ideal)) :
    (StableHlo.after (hostOps2 (F := Ideal)) V (Proc.devRef .tc main_v96) : FVec Ideal S1600000x1 .f32)
      = (shapeCast _ (StableHlo.after (hostOps2 (F := Ideal)) V (Proc.devRef .tc main_v95) : FVec Ideal S1600000 .f32) shapeCasts_S1600000_S1600000x1 : FVec Ideal S1600000x1 .f32) := by
  after_reads_simp <;> rfl

theorem kform_v104 (y_v80 : FVec Ideal S_ .f32) :
    ((shapeCast _ y_v80 shapeCasts_S_S1x1 : FVec Ideal S1x1 .f32) (ix2 0 0) : EReal)
      = y_v80 ix0 := by
  pointwise []

theorem read_v104 (V : Valuation τ sig (Elt Ideal)) :
    (StableHlo.after (hostOps2 (F := Ideal)) V (Proc.devRef .tc main_v104) : FVec Ideal S1x1 .f32)
      = (shapeCast _ (StableHlo.after (hostOps2 (F := Ideal)) V (Proc.devRef .tc main_v80) : FVec Ideal S_ .f32) shapeCasts_S_S1x1 : FVec Ideal S1x1 .f32) := by
  after_reads_simp <;> rfl

end Cert.Graph
-- ==== Proof.HostForm0.lean ====
/- What the kernel's host operations before its first launch leave in each array, as a formula in earlier arrays. -/
module

public import proofs.«01_k».proof.Proof.Gen.KernelIdeal.Frame
public import proofs.«01_k».proof.Proof.Inputs
public import proofs.«01_k».proof.Proof.Formulas
public import Idealize.ShloMosaic.Lib.StableHlo.RunRead
public import Idealize.ShloMosaic.Lib.Pointwise

@[expose] public section

noncomputable section

namespace Cert.Graph

open Idealize.ShloMosaic Idealize.ShloMosaic.StableHlo Cert.KernelIdeal Cert.KernelIdeal.Gen
open scoped BigOperators

theorem kform_v1 (y_arg0 : FVec Ideal S100000x1 .f32) :
    ((Host.divf (Host.reduceAdd y_arg0 (constant S_ .f32 0x00000000#32 : FVec Ideal S_ .f32) reducesTo_S100000x1_S_d0_1 h_S_ : FVec Ideal S_ .f32) (constant S_ .f32 0x47C35000#32 : FVec Ideal S_ .f32) : FVec Ideal S_ .f32) (ix0) : EReal)
      = Ideal.div (∑ n, y_arg0 (ix2 n 0)) (Ideal.ofBits FTy.f32 0x47C35000#32) := by
  pointwise []
  simp only [Fin.sum_univ_one]

theorem read_v1 (V : Valuation τ sig (Elt Ideal)) :
    (StableHlo.after (hostOps0 (F := Ideal)) V (Proc.devRef .tc main_v1) : FVec Ideal S_ .f32)
      = Host.divf (Host.reduceAdd (V (Proc.devRef .tc main_arg0) : FVec Ideal S100000x1 .f32) (constant S_ .f32 0x00000000#32 : FVec Ideal S_ .f32) reducesTo_S100000x1_S_d0_1 h_S_ : FVec Ideal S_ .f32) (constant S_ .f32 0x47C35000#32 : FVec Ideal S_ .f32) := by
  after_reads_simp <;> rfl

theorem kform_c :
    ((constantI S_ 32 0#32 : IVec S_ 32) (ix0) : BitVec 32)
      = 0#32 := by
  pointwise []

theorem read_c (V : Valuation τ sig (Elt Ideal)) :
    (StableHlo.after (hostOps0 (F := Ideal)) V (Proc.devRef .tc main_c) : IVec S_ 32)
      = constantI S_ 32 0#32 := by
  after_reads_simp <;> rfl

theorem kform_v2 (y_c : IVec S_ 32) (y_arg0 : FVec Ideal S100000x1 .f32) :
    ((select (cmpf .ogt (subf (constant S_ .f32 0x47C35000#32 : FVec Ideal S_ .f32) (sitofp .f32 y_c : FVec Ideal S_ .f32) : FVec Ideal S_ .f32) (constant S_ .f32 0x00000000#32 : FVec Ideal S_ .f32) : IVec S_ 1) (Host.divf (Host.reduceAdd (mulf (subf y_arg0 (broadcastInDim S100000x1 ![0, 1] bcast_S1x1_S100000x1_0_1 (Host.divf (broadcastInDim S1x1 ![] bcast_S_S1x1 (Host.reduceAdd y_arg0 (constant S_ .f32 0x00000000#32 : FVec Ideal S_ .f32) reducesTo_S100000x1_S_d0_1 h_S_ : FVec Ideal S_ .f32) : FVec Ideal S1x1 .f32) (broadcastInDim S1x1 ![] bcast_S_S1x1 (constant S_ .f32 0x47C35000#32 : FVec Ideal S_ .f32) : FVec Ideal S1x1 .f32) : FVec Ideal S1x1 .f32) : FVec Ideal S100000x1 .f32) : FVec Ideal S100000x1 .f32) (subf y_arg0 (broadcastInDim S100000x1 ![0, 1] bcast_S1x1_S100000x1_0_1 (Host.divf (broadcastInDim S1x1 ![] bcast_S_S1x1 (Host.reduceAdd y_arg0 (constant S_ .f32 0x00000000#32 : FVec Ideal S_ .f32) reducesTo_S100000x1_S_d0_1 h_S_ : FVec Ideal S_ .f32) : FVec Ideal S1x1 .f32) (broadcastInDim S1x1 ![] bcast_S_S1x1 (constant S_ .f32 0x47C35000#32 : FVec Ideal S_ .f32) : FVec Ideal S1x1 .f32) : FVec Ideal S1x1 .f32) : FVec Ideal S100000x1 .f32) : FVec Ideal S100000x1 .f32) : FVec Ideal S100000x1 .f32) (constant S_ .f32 0x00000000#32 : FVec Ideal S_ .f32) reducesTo_S100000x1_S_d0_1 h_S_ : FVec Ideal S_ .f32) (subf (constant S_ .f32 0x47C35000#32 : FVec Ideal S_ .f32) (sitofp .f32 y_c : FVec Ideal S_ .f32) : FVec Ideal S_ .f32) : FVec Ideal S_ .f32) ((constant S_ .f32 0x7FC00000#32 : FVec Ideal S_ .f32) : FVec Ideal S_ .f32) : FVec Ideal S_ .f32) (ix0) : EReal)
      = (if 0 < Ideal.ofBits FTy.f32 0x47C35000#32 - FloatOps.sitofp (F := Ideal) FTy.f32 (y_c ix0) then Ideal.div (∑ x, (y_arg0 (ix2 x 0) - Ideal.div (∑ n, y_arg0 (ix2 n 0)) (Ideal.ofBits FTy.f32 0x47C35000#32)) * (y_arg0 (ix2 x 0) - Ideal.div (∑ n, y_arg0 (ix2 n 0)) (Ideal.ofBits FTy.f32 0x47C35000#32))) (Ideal.ofBits FTy.f32 0x47C35000#32 - FloatOps.sitofp (F := Ideal) FTy.f32 (y_c ix0)) else Ideal.ofBits FTy.f32 0x7FC00000#32) := by
  pointwise []
  simp only [Fin.sum_univ_one]

theorem read_v2 (V : Valuation τ sig (Elt Ideal)) :
    (StableHlo.after (hostOps0_1 (F := Ideal)) V (Proc.devRef .tc main_v2) : FVec Ideal S_ .f32)
      = select (cmpf .ogt (subf (constant S_ .f32 0x47C35000#32 : FVec Ideal S_ .f32) (sitofp .f32 (V (Proc.devRef .tc main_c) : IVec S_ 32) : FVec Ideal S_ .f32) : FVec Ideal S_ .f32) (constant S_ .f32 0x00000000#32 : FVec Ideal S_ .f32) : IVec S_ 1) (Host.divf (Host.reduceAdd (mulf (subf (V (Proc.devRef .tc main_arg0) : FVec Ideal S100000x1 .f32) (broadcastInDim S100000x1 ![0, 1] bcast_S1x1_S100000x1_0_1 (Host.divf (broadcastInDim S1x1 ![] bcast_S_S1x1 (Host.reduceAdd (V (Proc.devRef .tc main_arg0) : FVec Ideal S100000x1 .f32) (constant S_ .f32 0x00000000#32 : FVec Ideal S_ .f32) reducesTo_S100000x1_S_d0_1 h_S_ : FVec Ideal S_ .f32) : FVec Ideal S1x1 .f32) (broadcastInDim S1x1 ![] bcast_S_S1x1 (constant S_ .f32 0x47C35000#32 : FVec Ideal S_ .f32) : FVec Ideal S1x1 .f32) : FVec Ideal S1x1 .f32) : FVec Ideal S100000x1 .f32) : FVec Ideal S100000x1 .f32) (subf (V (Proc.devRef .tc main_arg0) : FVec Ideal S100000x1 .f32) (broadcastInDim S100000x1 ![0, 1] bcast_S1x1_S100000x1_0_1 (Host.divf (broadcastInDim S1x1 ![] bcast_S_S1x1 (Host.reduceAdd (V (Proc.devRef .tc main_arg0) : FVec Ideal S100000x1 .f32) (constant S_ .f32 0x00000000#32 : FVec Ideal S_ .f32) reducesTo_S100000x1_S_d0_1 h_S_ : FVec Ideal S_ .f32) : FVec Ideal S1x1 .f32) (broadcastInDim S1x1 ![] bcast_S_S1x1 (constant S_ .f32 0x47C35000#32 : FVec Ideal S_ .f32) : FVec Ideal S1x1 .f32) : FVec Ideal S1x1 .f32) : FVec Ideal S100000x1 .f32) : FVec Ideal S100000x1 .f32) : FVec Ideal S100000x1 .f32) (constant S_ .f32 0x00000000#32 : FVec Ideal S_ .f32) reducesTo_S100000x1_S_d0_1 h_S_ : FVec Ideal S_ .f32) (subf (constant S_ .f32 0x47C35000#32 : FVec Ideal S_ .f32) (sitofp .f32 (V (Proc.devRef .tc main_c) : IVec S_ 32) : FVec Ideal S_ .f32) : FVec Ideal S_ .f32) : FVec Ideal S_ .f32) ((constant S_ .f32 0x7FC00000#32 : FVec Ideal S_ .f32) : FVec Ideal S_ .f32) := by
  after_reads_simp <;> rfl

theorem kform_v14 (n : Fin 100000) (y_arg0 : FVec Ideal S100000x1 .f32) (y_v1 : FVec Ideal S_ .f32) (y_v2 : FVec Ideal S_ .f32) (y_arg3 : FVec Ideal S1 .f32) (y_arg4 : FVec Ideal S1 .f32) :
    ((addf (mulf (Host.divf (subf y_arg0 (broadcastInDim S100000x1 ![] bcast_S_S100000x1 y_v1 : FVec Ideal S100000x1 .f32) : FVec Ideal S100000x1 .f32) (broadcastInDim S100000x1 ![] bcast_S_S100000x1 (Host.sqrt (addf y_v2 (constant S_ .f32 0x3727C5AC#32 : FVec Ideal S_ .f32) : FVec Ideal S_ .f32) : FVec Ideal S_ .f32) : FVec Ideal S100000x1 .f32) : FVec Ideal S100000x1 .f32) (broadcastInDim S100000x1 ![] bcast_S_S100000x1 (shapeCast _ y_arg3 shapeCasts_S1_S_ : FVec Ideal S_ .f32) : FVec Ideal S100000x1 .f32) : FVec Ideal S100000x1 .f32) (broadcastInDim S100000x1 ![] bcast_S_S100000x1 (shapeCast _ y_arg4 shapeCasts_S1_S_ : FVec Ideal S_ .f32) : FVec Ideal S100000x1 .f32) : FVec Ideal S100000x1 .f32) (ix2 n 0) : EReal)
      = Ideal.div (y_arg0 (ix2 n 0) - y_v1 ix0) (Ideal.sqrt (y_v2 ix0 + Ideal.ofBits FTy.f32 0x3727C5AC#32)) * y_arg3 (ix1 0) + y_arg4 (ix1 0) := by
  pointwise []

theorem read_v14 (V : Valuation τ sig (Elt Ideal)) :
    (StableHlo.after (hostOps0_2 (F := Ideal)) V (Proc.devRef .tc main_v14) : FVec Ideal S100000x1 .f32)
      = addf (mulf (Host.divf (subf (V (Proc.devRef .tc main_arg0) : FVec Ideal S100000x1 .f32) (broadcastInDim S100000x1 ![] bcast_S_S100000x1 (V (Proc.devRef .tc main_v1) : FVec Ideal S_ .f32) : FVec Ideal S100000x1 .f32) : FVec Ideal S100000x1 .f32) (broadcastInDim S100000x1 ![] bcast_S_S100000x1 (Host.sqrt (addf (V (Proc.devRef .tc main_v2) : FVec Ideal S_ .f32) (constant S_ .f32 0x3727C5AC#32 : FVec Ideal S_ .f32) : FVec Ideal S_ .f32) : FVec Ideal S_ .f32) : FVec Ideal S100000x1 .f32) : FVec Ideal S100000x1 .f32) (broadcastInDim S100000x1 ![] bcast_S_S100000x1 (shapeCast _ (V (Proc.devRef .tc main_arg3) : FVec Ideal S1 .f32) shapeCasts_S1_S_ : FVec Ideal S_ .f32) : FVec Ideal S100000x1 .f32) : FVec Ideal S100000x1 .f32) (broadcastInDim S100000x1 ![] bcast_S_S100000x1 (shapeCast _ (V (Proc.devRef .tc main_arg4) : FVec Ideal S1 .f32) shapeCasts_S1_S_ : FVec Ideal S_ .f32) : FVec Ideal S100000x1 .f32) := by
  after_reads_simp <;> rfl

theorem kform_v15 (n : Fin 100000) (y_v14 : FVec Ideal S100000x1 .f32) :
    ((shapeCast _ y_v14 shapeCasts_S100000x1_S100000 : FVec Ideal S100000 .f32) (ix1 n) : EReal)
      = y_v14 (ix2 n 0) := by
  pointwise []

theorem read_v15 (V : Valuation τ sig (Elt Ideal)) :
    (StableHlo.after (hostOps0_2 (F := Ideal)) V (Proc.devRef .tc main_v15) : FVec Ideal S100000 .f32)
      = shapeCast _ (StableHlo.after (hostOps0_2 (F := Ideal)) V (Proc.devRef .tc main_v14) : FVec Ideal S100000x1 .f32) shapeCasts_S100000x1_S100000 := by
  after_reads_simp <;> rfl

theorem kform_v16 (h : Fin 8) (c : Fin 16) (y_arg5 : FVec Ideal S1x128 .f32) :
    ((shapeCast _ y_arg5 shapeCasts_S1x128_S8x16 : FVec Ideal S8x16 .f32) (ix2 h c) : EReal)
      = y_arg5 (ix2 0 (fl h c)) := by
  pointwise []
  rfl

theorem read_v16 (V : Valuation τ sig (Elt Ideal)) :
    (StableHlo.after (hostOps0_2 (F := Ideal)) V (Proc.devRef .tc main_v16) : FVec Ideal S8x16 .f32)
      = shapeCast _ (V (Proc.devRef .tc main_arg5) : FVec Ideal S1x128 .f32) shapeCasts_S1x128_S8x16 := by
  after_reads_simp <;> rfl

theorem kform_v18 (h : Fin 8) (y_v16 : FVec Ideal S8x16 .f32) (y_arg6 : FVec Ideal S8x16 .f32) :
    ((Host.reduceAdd (mulf y_v16 y_arg6 : FVec Ideal S8x16 .f32) (constant S_ .f32 0x00000000#32 : FVec Ideal S_ .f32) reducesTo_S8x16_S8_d1 h_S_ : FVec Ideal S8 .f32) (ix1 h) : EReal)
      = ∑ c, y_v16 (ix2 h c) * y_arg6 (ix2 h c) := by
  pointwise []

theorem read_v18 (V : Valuation τ sig (Elt Ideal)) :
    (StableHlo.after (hostOps0_2 (F := Ideal)) V (Proc.devRef .tc main_v18) : FVec Ideal S8 .f32)
      = Host.reduceAdd (mulf (StableHlo.after (hostOps0_2 (F := Ideal)) V (Proc.devRef .tc main_v16) : FVec Ideal S8x16 .f32) (V (Proc.devRef .tc main_arg6) : FVec Ideal S8x16 .f32) : FVec Ideal S8x16 .f32) (constant S_ .f32 0x00000000#32 : FVec Ideal S_ .f32) reducesTo_S8x16_S8_d1 h_S_ := by
  after_reads_simp <;> rfl

theorem kform_v20 (h : Fin 8) (y_v16 : FVec Ideal S8x16 .f32) (y_arg7 : FVec Ideal S8x16 .f32) :
    ((Host.reduceAdd (mulf y_v16 y_arg7 : FVec Ideal S8x16 .f32) (constant S_ .f32 0x00000000#32 : FVec Ideal S_ .f32) reducesTo_S8x16_S8_d1 h_S_ : FVec Ideal S8 .f32) (ix1 h) : EReal)
      = ∑ c, y_v16 (ix2 h c) * y_arg7 (ix2 h c) := by
  pointwise []

theorem read_v20 (V : Valuation τ sig (Elt Ideal)) :
    (StableHlo.after (hostOps0_2 (F := Ideal)) V (Proc.devRef .tc main_v20) : FVec Ideal S8 .f32)
      = Host.reduceAdd (mulf (StableHlo.after (hostOps0_2 (F := Ideal)) V (Proc.devRef .tc main_v16) : FVec Ideal S8x16 .f32) (V (Proc.devRef .tc main_arg7) : FVec Ideal S8x16 .f32) : FVec Ideal S8x16 .f32) (constant S_ .f32 0x00000000#32 : FVec Ideal S_ .f32) reducesTo_S8x16_S8_d1 h_S_ := by
  after_reads_simp <;> rfl

theorem kform_v22 (e : Fin 1600000) (y_arg1 : IVec S2x1600000 32) :
    ((shapeCast _ (extractStridedSlice S1x1600000 ![0, 0] y_arg1 slices_S2x1600000_S1x1600000_0_0 : IVec S1x1600000 32) shapeCasts_S1x1600000_S1600000 : IVec S1600000 32) (ix1 e) : BitVec 32)
      = y_arg1 (ix2 0 e) := by
  pointwise []

theorem read_v22 (V : Valuation τ sig (Elt Ideal)) :
    (StableHlo.after (hostOps0_2 (F := Ideal)) V (Proc.devRef .tc main_v22) : IVec S1600000 32)
      = shapeCast _ (extractStridedSlice S1x1600000 ![0, 0] (V (Proc.devRef .tc main_arg1) : IVec S2x1600000 32) slices_S2x1600000_S1x1600000_0_0 : IVec S1x1600000 32) shapeCasts_S1x1600000_S1600000 := by
  after_reads_simp <;> rfl

theorem kform_v24 (e : Fin 1600000) (y_arg1 : IVec S2x1600000 32) :
    ((shapeCast _ (extractStridedSlice S1x1600000 ![1, 0] y_arg1 slices_S2x1600000_S1x1600000_1_0 : IVec S1x1600000 32) shapeCasts_S1x1600000_S1600000 : IVec S1600000 32) (ix1 e) : BitVec 32)
      = y_arg1 (ix2 1 e) := by
  pointwise []

theorem read_v24 (V : Valuation τ sig (Elt Ideal)) :
    (StableHlo.after (hostOps0_2 (F := Ideal)) V (Proc.devRef .tc main_v24) : IVec S1600000 32)
      = shapeCast _ (extractStridedSlice S1x1600000 ![1, 0] (V (Proc.devRef .tc main_arg1) : IVec S2x1600000 32) slices_S2x1600000_S1x1600000_1_0 : IVec S1x1600000 32) shapeCasts_S1x1600000_S1600000 := by
  after_reads_simp <;> rfl

theorem kform_v25 (e : Fin 1600000) (y_arg2 : FVec Ideal S1600000 .f32) :
    ((shapeCast _ y_arg2 shapeCasts_S1600000_S1600000x1 : FVec Ideal S1600000x1 .f32) (ix2 e 0) : EReal)
      = y_arg2 (ix1 e) := by
  pointwise []

theorem read_v25 (V : Valuation τ sig (Elt Ideal)) :
    (StableHlo.after (hostOps0_2 (F := Ideal)) V (Proc.devRef .tc main_v25) : FVec Ideal S1600000x1 .f32)
      = shapeCast _ (V (Proc.devRef .tc main_arg2) : FVec Ideal S1600000 .f32) shapeCasts_S1600000_S1600000x1 := by
  after_reads_simp <;> rfl

theorem kform_v27 (y_v15 : FVec Ideal S100000 .f32) :
    ((Host.reduce FloatOps.maximumf (Host.absf y_v15 : FVec Ideal S100000 .f32) (constant S_ .f32 0xFF800000#32 : FVec Ideal S_ .f32) reducesTo_S100000_S_d0 h_S_ : FVec Ideal S_ .f32) (ix0) : EReal)
      = Finset.fold max (Ideal.ofBits FTy.f32 0xFF800000#32) (fun n => max (y_v15 (ix1 n)) (-(y_v15 (ix1 n)))) Finset.univ := by
  pointwise []
  rfl

theorem read_v27 (V : Valuation τ sig (Elt Ideal)) :
    (StableHlo.after (hostOps0_2 (F := Ideal)) V (Proc.devRef .tc main_v27) : FVec Ideal S_ .f32)
      = Host.reduce FloatOps.maximumf (Host.absf (StableHlo.after (hostOps0_2 (F := Ideal)) V (Proc.devRef .tc main_v15) : FVec Ideal S100000 .f32) : FVec Ideal S100000 .f32) (constant S_ .f32 0xFF800000#32 : FVec Ideal S_ .f32) reducesTo_S100000_S_d0 h_S_ := by
  after_reads_simp <;> rfl

theorem kform_v34 (y_v27 : FVec Ideal S_ .f32) (y_v18 : FVec Ideal S8 .f32) (y_v20 : FVec Ideal S8 .f32) :
    ((maximumf (Host.reduce FloatOps.maximumf (mulf (broadcastInDim S8 ![] bcast_S_S8 y_v27 : FVec Ideal S8 .f32) (addf (Host.absf y_v18 : FVec Ideal S8 .f32) (Host.absf y_v20 : FVec Ideal S8 .f32) : FVec Ideal S8 .f32) : FVec Ideal S8 .f32) (constant S_ .f32 0xFF800000#32 : FVec Ideal S_ .f32) reducesTo_S8_S_d0 h_S_ : FVec Ideal S_ .f32) (constant S_ .f32 0x00000000#32 : FVec Ideal S_ .f32) : FVec Ideal S_ .f32) (ix0) : EReal)
      = max (Finset.fold max (Ideal.ofBits FTy.f32 0xFF800000#32) (fun h => y_v27 ix0 * (max (y_v18 (ix1 h)) (-(y_v18 (ix1 h))) + max (y_v20 (ix1 h)) (-(y_v20 (ix1 h))))) Finset.univ) 0 := by
  pointwise []
  rfl

theorem read_v34 (V : Valuation τ sig (Elt Ideal)) :
    (StableHlo.after (hostOps0_2 (F := Ideal)) V (Proc.devRef .tc main_v34) : FVec Ideal S_ .f32)
      = maximumf (Host.reduce FloatOps.maximumf (mulf (broadcastInDim S8 ![] bcast_S_S8 (StableHlo.after (hostOps0_2 (F := Ideal)) V (Proc.devRef .tc main_v27) : FVec Ideal S_ .f32) : FVec Ideal S8 .f32) (addf (Host.absf (StableHlo.after (hostOps0_2 (F := Ideal)) V (Proc.devRef .tc main_v18) : FVec Ideal S8 .f32) : FVec Ideal S8 .f32) (Host.absf (StableHlo.after (hostOps0_2 (F := Ideal)) V (Proc.devRef .tc main_v20) : FVec Ideal S8 .f32) : FVec Ideal S8 .f32) : FVec Ideal S8 .f32) : FVec Ideal S8 .f32) (constant S_ .f32 0xFF800000#32 : FVec Ideal S_ .f32) reducesTo_S8_S_d0 h_S_ : FVec Ideal S_ .f32) (constant S_ .f32 0x00000000#32 : FVec Ideal S_ .f32) := by
  after_reads_simp <;> rfl

theorem kform_v40 (e : Fin 1600000) (y_v22 : IVec S1600000 32) :
    ((broadcastInDim S1600000x1 ![0] bcast_S1600000_S1600000x1_0 (select (cmpi .slt y_v22 (broadcastInDim S1600000 ![] bcast_S_S1600000 (constantI S_ 32 0#32 : IVec S_ 32) : IVec S1600000 32) : IVec S1600000 1) (addi y_v22 (broadcastInDim S1600000 ![] bcast_S_S1600000 (constantI S_ 32 100000#32 : IVec S_ 32) : IVec S1600000 32) : IVec S1600000 32) y_v22 : IVec S1600000 32) : IVec S1600000x1 32) (ix2 e 0) : BitVec 32)
      = wrap (y_v22 (ix1 e)) := by
  pointwise []
  rfl

theorem read_v40 (V : Valuation τ sig (Elt Ideal)) :
    (StableHlo.after (hostOps0_2 (F := Ideal)) V (Proc.devRef .tc main_v40) : IVec S1600000x1 32)
      = broadcastInDim S1600000x1 ![0] bcast_S1600000_S1600000x1_0 (select (cmpi .slt (StableHlo.after (hostOps0_2 (F := Ideal)) V (Proc.devRef .tc main_v22) : IVec S1600000 32) (broadcastInDim S1600000 ![] bcast_S_S1600000 (constantI S_ 32 0#32 : IVec S_ 32) : IVec S1600000 32) : IVec S1600000 1) (addi (StableHlo.after (hostOps0_2 (F := Ideal)) V (Proc.devRef .tc main_v22) : IVec S1600000 32) (broadcastInDim S1600000 ![] bcast_S_S1600000 (constantI S_ 32 100000#32 : IVec S_ 32) : IVec S1600000 32) : IVec S1600000 32) (StableHlo.after (hostOps0_2 (F := Ideal)) V (Proc.devRef .tc main_v22) : IVec S1600000 32) : IVec S1600000 32) := by
  after_reads_simp <;> rfl

theorem kform_v48 (e : Fin 1600000) (y_v24 : IVec S1600000 32) :
    ((broadcastInDim S1600000x1 ![0] bcast_S1600000_S1600000x1_0 (select (cmpi .slt y_v24 (broadcastInDim S1600000 ![] bcast_S_S1600000 (constantI S_ 32 0#32 : IVec S_ 32) : IVec S1600000 32) : IVec S1600000 1) (addi y_v24 (broadcastInDim S1600000 ![] bcast_S_S1600000 (constantI S_ 32 100000#32 : IVec S_ 32) : IVec S1600000 32) : IVec S1600000 32) y_v24 : IVec S1600000 32) : IVec S1600000x1 32) (ix2 e 0) : BitVec 32)
      = wrap (y_v24 (ix1 e)) := by
  pointwise []
  rfl

theorem read_v48 (V : Valuation τ sig (Elt Ideal)) :
    (StableHlo.after (hostOps0_2 (F := Ideal)) V (Proc.devRef .tc main_v48) : IVec S1600000x1 32)
      = broadcastInDim S1600000x1 ![0] bcast_S1600000_S1600000x1_0 (select (cmpi .slt (StableHlo.after (hostOps0_2 (F := Ideal)) V (Proc.devRef .tc main_v24) : IVec S1600000 32) (broadcastInDim S1600000 ![] bcast_S_S1600000 (constantI S_ 32 0#32 : IVec S_ 32) : IVec S1600000 32) : IVec S1600000 1) (addi (StableHlo.after (hostOps0_2 (F := Ideal)) V (Proc.devRef .tc main_v24) : IVec S1600000 32) (broadcastInDim S1600000 ![] bcast_S_S1600000 (constantI S_ 32 100000#32 : IVec S_ 32) : IVec S1600000 32) : IVec S1600000 32) (StableHlo.after (hostOps0_2 (F := Ideal)) V (Proc.devRef .tc main_v24) : IVec S1600000 32) : IVec S1600000 32) := by
  after_reads_simp <;> rfl

theorem read_v41 (V : Valuation τ sig (Elt Ideal)) :
    (StableHlo.after (hostOps0_2 (F := Ideal)) V (Proc.devRef .tc main_v41) : FVec Ideal S1600000 .f32)
      = Host.gather gather_S100000_S1600000x1_S1600000_n_0_n_n_0_1_1 (StableHlo.after (hostOps0_2 (F := Ideal)) V (Proc.devRef .tc main_v15) : FVec Ideal S100000 .f32) (StableHlo.after (hostOps0_2 (F := Ideal)) V (Proc.devRef .tc main_v40) : IVec S1600000x1 32) := by
  after_reads_simp <;> rfl

theorem read_v49 (V : Valuation τ sig (Elt Ideal)) :
    (StableHlo.after (hostOps0_2 (F := Ideal)) V (Proc.devRef .tc main_v49) : FVec Ideal S1600000 .f32)
      = Host.gather gather_S100000_S1600000x1_S1600000_n_0_n_n_0_1_1 (StableHlo.after (hostOps0_2 (F := Ideal)) V (Proc.devRef .tc main_v15) : FVec Ideal S100000 .f32) (StableHlo.after (hostOps0_2 (F := Ideal)) V (Proc.devRef .tc main_v48) : IVec S1600000x1 32) := by
  after_reads_simp <;> rfl

theorem kform_v42 (e : Fin 1600000) (y_v41 : FVec Ideal S1600000 .f32) :
    ((shapeCast _ y_v41 shapeCasts_S1600000_S1600000x1 : FVec Ideal S1600000x1 .f32) (ix2 e 0) : EReal)
      = y_v41 (ix1 e) := by
  pointwise []

theorem read_v42 (V : Valuation τ sig (Elt Ideal)) :
    (StableHlo.after (hostOps0_2 (F := Ideal)) V (Proc.devRef .tc main_v42) : FVec Ideal S1600000x1 .f32)
      = shapeCast _ (StableHlo.after (hostOps0_2 (F := Ideal)) V (Proc.devRef .tc main_v41) : FVec Ideal S1600000 .f32) shapeCasts_S1600000_S1600000x1 := by
  after_reads_simp <;> rfl

theorem kform_v50 (e : Fin 1600000) (y_v49 : FVec Ideal S1600000 .f32) :
    ((shapeCast _ y_v49 shapeCasts_S1600000_S1600000x1 : FVec Ideal S1600000x1 .f32) (ix2 e 0) : EReal)
      = y_v49 (ix1 e) := by
  pointwise []

theorem read_v50 (V : Valuation τ sig (Elt Ideal)) :
    (StableHlo.after (hostOps0_2 (F := Ideal)) V (Proc.devRef .tc main_v50) : FVec Ideal S1600000x1 .f32)
      = shapeCast _ (StableHlo.after (hostOps0_2 (F := Ideal)) V (Proc.devRef .tc main_v49) : FVec Ideal S1600000 .f32) shapeCasts_S1600000_S1600000x1 := by
  after_reads_simp <;> rfl

theorem kform_v51 (h : Fin 8) (y_v18 : FVec Ideal S8 .f32) :
    ((shapeCast _ y_v18 shapeCasts_S8_S1x8 : FVec Ideal S1x8 .f32) (ix2 0 h) : EReal)
      = y_v18 (ix1 h) := by
  pointwise []

theorem read_v51 (V : Valuation τ sig (Elt Ideal)) :
    (StableHlo.after (hostOps0_2 (F := Ideal)) V (Proc.devRef .tc main_v51) : FVec Ideal S1x8 .f32)
      = shapeCast _ (StableHlo.after (hostOps0_2 (F := Ideal)) V (Proc.devRef .tc main_v18) : FVec Ideal S8 .f32) shapeCasts_S8_S1x8 := by
  after_reads_simp <;> rfl

theorem kform_v52 (h : Fin 8) (y_v20 : FVec Ideal S8 .f32) :
    ((shapeCast _ y_v20 shapeCasts_S8_S1x8 : FVec Ideal S1x8 .f32) (ix2 0 h) : EReal)
      = y_v20 (ix1 h) := by
  pointwise []

theorem read_v52 (V : Valuation τ sig (Elt Ideal)) :
    (StableHlo.after (hostOps0_2 (F := Ideal)) V (Proc.devRef .tc main_v52) : FVec Ideal S1x8 .f32)
      = shapeCast _ (StableHlo.after (hostOps0_2 (F := Ideal)) V (Proc.devRef .tc main_v20) : FVec Ideal S8 .f32) shapeCasts_S8_S1x8 := by
  after_reads_simp <;> rfl

theorem kform_v53 (y_v34 : FVec Ideal S_ .f32) :
    ((shapeCast _ y_v34 shapeCasts_S_S1x1 : FVec Ideal S1x1 .f32) (ix2 0 0) : EReal)
      = y_v34 ix0 := by
  pointwise []

theorem read_v53 (V : Valuation τ sig (Elt Ideal)) :
    (StableHlo.after (hostOps0_2 (F := Ideal)) V (Proc.devRef .tc main_v53) : FVec Ideal S1x1 .f32)
      = shapeCast _ (StableHlo.after (hostOps0_2 (F := Ideal)) V (Proc.devRef .tc main_v34) : FVec Ideal S_ .f32) shapeCasts_S_S1x1 := by
  after_reads_simp <;> rfl

end Cert.Graph
-- ==== Proof.HostVal0.lean ====
/- What the kernel's host operations before its first launch leave in each array, as real numbers. -/
module

public import proofs.«01_k».proof.Proof.Gen.KernelIdeal.Frame
public import proofs.«01_k».proof.Proof.Inputs
public import proofs.«01_k».proof.Proof.Formulas
public import Idealize.ShloMosaic.Lib.StableHlo.RunRead
public import Idealize.ShloMosaic.Lib.Pointwise
public import proofs.«01_k».proof.Proof.HostForm0

@[expose] public section

noncomputable section

namespace Cert.Graph

open Idealize.ShloMosaic Idealize.ShloMosaic.StableHlo Cert.KernelIdeal Cert.KernelIdeal.Gen
open scoped BigOperators

/-- The argument arrays in a valuation hold the network `a`. -/
abbrev HoldsV (a : Net) (V : Valuation τ sig (Elt Ideal)) : Prop :=
  Holds a (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13))

theorem HoldsV.congr {a : Net} {V V' : Valuation τ sig (Elt Ideal)}
    (h : ∀ r ∈ argRefs, V' (Proc.devRef .tc r) = V (Proc.devRef .tc r)) (H : HoldsV a V) : HoldsV a V' := by
  unfold HoldsV
  rw [h main_arg0 (by decide), h main_arg1 (by decide), h main_arg2 (by decide), h main_arg3 (by decide), h main_arg4 (by decide), h main_arg5 (by decide), h main_arg6 (by decide), h main_arg7 (by decide), h main_arg8 (by decide), h main_arg9 (by decide), h main_arg10 (by decide), h main_arg11 (by decide), h main_arg12 (by decide), h main_arg13 (by decide)]
  exact H

section
variable {a : Net} {V : Valuation τ sig (Elt Ideal)} (H : HoldsV a V)
include H

theorem val_v1 : @Eq (EReal) ((StableHlo.after (hostOps0 (F := Ideal)) V (Proc.devRef .tc main_v1) : FVec Ideal S_ .f32) (ix0)) (((mean a.x : ℝ) : EReal)) := by
  refine (congrFun (read_v1 V) (ix0)).trans ((kform_v1 (V (Proc.devRef .tc main_arg0) : FVec Ideal S100000x1 .f32)).trans ?_)
  exact mean_real H.h0

end

theorem val_c (V : Valuation τ sig (Elt Ideal)) : @Eq (BitVec 32) ((StableHlo.after (hostOps0 (F := Ideal)) V (Proc.devRef .tc main_c) : IVec S_ 32) ix0) 0#32 :=
  (congrFun (read_c V) ix0).trans kform_c

section
variable {a : Net} {V : Valuation τ sig (Elt Ideal)} (H : HoldsV a V) (hc : @Eq (BitVec 32) ((V (Proc.devRef .tc main_c) : IVec S_ 32) ix0) 0#32)
include H hc

theorem val_v2 : @Eq (EReal) ((StableHlo.after (hostOps0_1 (F := Ideal)) V (Proc.devRef .tc main_v2) : FVec Ideal S_ .f32) (ix0)) (((var a.x : ℝ) : EReal)) := by
  refine (congrFun (read_v2 V) (ix0)).trans ((kform_v2 (V (Proc.devRef .tc main_c) : IVec S_ 32) (V (Proc.devRef .tc main_arg0) : FVec Ideal S100000x1 .f32)).trans ?_)
  rw [hc]
  exact var_real H.h0 _

end

section
variable {a : Net} {V : Valuation τ sig (Elt Ideal)} (H : HoldsV a V) (h1 : @Eq EReal ((V (Proc.devRef .tc main_v1) : FVec Ideal S_ .f32) (ix0)) ((mean a.x : ℝ) : EReal)) (h2 : @Eq EReal ((V (Proc.devRef .tc main_v2) : FVec Ideal S_ .f32) (ix0)) ((var a.x : ℝ) : EReal))
include H h1 h2

theorem val_v14 (n : Fin 100000) : @Eq (EReal) ((StableHlo.after (hostOps0_2 (F := Ideal)) V (Proc.devRef .tc main_v14) : FVec Ideal S100000x1 .f32) (ix2 n 0)) (((a.xn n : ℝ) : EReal)) := by
  refine (congrFun (read_v14 V) (ix2 n 0)).trans ((kform_v14 n (V (Proc.devRef .tc main_arg0) : FVec Ideal S100000x1 .f32) (V (Proc.devRef .tc main_v1) : FVec Ideal S_ .f32) (V (Proc.devRef .tc main_v2) : FVec Ideal S_ .f32) (V (Proc.devRef .tc main_arg3) : FVec Ideal S1 .f32) (V (Proc.devRef .tc main_arg4) : FVec Ideal S1 .f32)).trans ?_)
  rw [h1, h2, H.h0, H.h3, H.h4, word_e5, ← H.he5]
  exact norm_real _ _ _ _ _ _ a.var0_pos

theorem val_v15 (n : Fin 100000) : @Eq (EReal) ((StableHlo.after (hostOps0_2 (F := Ideal)) V (Proc.devRef .tc main_v15) : FVec Ideal S100000 .f32) (ix1 n)) (((a.xn n : ℝ) : EReal)) := by
  refine (congrFun (read_v15 V) (ix1 n)).trans ((kform_v15 n (StableHlo.after (hostOps0_2 (F := Ideal)) V (Proc.devRef .tc main_v14) : FVec Ideal S100000x1 .f32)).trans ?_)
  exact val_v14 H h1 h2 n

omit h1 h2
theorem val_v16 (h : Fin 8) (c : Fin 16) : @Eq (EReal) ((StableHlo.after (hostOps0_2 (F := Ideal)) V (Proc.devRef .tc main_v16) : FVec Ideal S8x16 .f32) (ix2 h c)) (((a.W1 h c : ℝ) : EReal)) := by
  refine (congrFun (read_v16 V) (ix2 h c)).trans ((kform_v16 h c (V (Proc.devRef .tc main_arg5) : FVec Ideal S1x128 .f32)).trans ?_)
  exact H.h5 h c

theorem val_v18 (h : Fin 8) : @Eq (EReal) ((StableHlo.after (hostOps0_2 (F := Ideal)) V (Proc.devRef .tc main_v18) : FVec Ideal S8 .f32) (ix1 h)) (((a.cs h : ℝ) : EReal)) := by
  refine (congrFun (read_v18 V) (ix1 h)).trans ((kform_v18 h (StableHlo.after (hostOps0_2 (F := Ideal)) V (Proc.devRef .tc main_v16) : FVec Ideal S8x16 .f32) (V (Proc.devRef .tc main_arg6) : FVec Ideal S8x16 .f32)).trans ?_)
  exact sum_real fun c _ => by rw [val_v16 H, H.h6, EReal.coe_mul]

theorem val_v20 (h : Fin 8) : @Eq (EReal) ((StableHlo.after (hostOps0_2 (F := Ideal)) V (Proc.devRef .tc main_v20) : FVec Ideal S8 .f32) (ix1 h)) (((a.cd h : ℝ) : EReal)) := by
  refine (congrFun (read_v20 V) (ix1 h)).trans ((kform_v20 h (StableHlo.after (hostOps0_2 (F := Ideal)) V (Proc.devRef .tc main_v16) : FVec Ideal S8x16 .f32) (V (Proc.devRef .tc main_arg7) : FVec Ideal S8x16 .f32)).trans ?_)
  exact sum_real fun c _ => by rw [val_v16 H, H.h7, EReal.coe_mul]

theorem val_v25 (e : Fin 1600000) : @Eq (EReal) ((StableHlo.after (hostOps0_2 (F := Ideal)) V (Proc.devRef .tc main_v25) : FVec Ideal S1600000x1 .f32) (ix2 e 0)) (((a.ew e : ℝ) : EReal)) := by
  refine (congrFun (read_v25 V) (ix2 e 0)).trans ((kform_v25 e (V (Proc.devRef .tc main_arg2) : FVec Ideal S1600000 .f32)).trans ?_)
  exact H.h2 e

include h1 h2
theorem val_v27 : @Eq (EReal) ((StableHlo.after (hostOps0_2 (F := Ideal)) V (Proc.devRef .tc main_v27) : FVec Ideal S_ .f32) (ix0)) (((top fun n => |a.xn n| : ℝ) : EReal)) := by
  refine (congrFun (read_v27 V) (ix0)).trans ((kform_v27 (StableHlo.after (hostOps0_2 (F := Ideal)) V (Proc.devRef .tc main_v15) : FVec Ideal S100000 .f32)).trans ?_)
  rw [word_bot]
  exact fold_real fun n => by rw [val_v15 H h1 h2, abs_real]

theorem val_v34 : @Eq (EReal) ((StableHlo.after (hostOps0_2 (F := Ideal)) V (Proc.devRef .tc main_v34) : FVec Ideal S_ .f32) (ix0)) (((a.m1 : ℝ) : EReal)) := by
  refine (congrFun (read_v34 V) (ix0)).trans ((kform_v34 (StableHlo.after (hostOps0_2 (F := Ideal)) V (Proc.devRef .tc main_v27) : FVec Ideal S_ .f32) (StableHlo.after (hostOps0_2 (F := Ideal)) V (Proc.devRef .tc main_v18) : FVec Ideal S8 .f32) (StableHlo.after (hostOps0_2 (F := Ideal)) V (Proc.devRef .tc main_v20) : FVec Ideal S8 .f32)).trans ?_)
  rw [word_bot, fold_real (f := fun h => top (fun n => |a.xn n|) * (|a.cs h| + |a.cd h|)) fun h => ?_, max_real_zero]
  · rfl
  · rw [val_v27 H h1 h2, val_v18 H, val_v20 H, abs_real, abs_real, ← EReal.coe_add, ← EReal.coe_mul]

omit H h1 h2 in
theorem word_v40 (e : Fin 1600000) : @Eq (BitVec 32) ((StableHlo.after (hostOps0_2 (F := Ideal)) V (Proc.devRef .tc main_v40) : IVec S1600000x1 32) (ix2 e 0)) (wrap ((V (Proc.devRef .tc main_arg1) : IVec S2x1600000 32) (ix2 0 e))) :=
  (congrFun (read_v40 V) (ix2 e 0)).trans ((kform_v40 e (StableHlo.after (hostOps0_2 (F := Ideal)) V (Proc.devRef .tc main_v22) : IVec S1600000 32)).trans (congrArg wrap ((congrFun (read_v22 V) (ix1 e)).trans (kform_v22 e (V (Proc.devRef .tc main_arg1) : IVec S2x1600000 32)))))

theorem val_v41 (e : Fin 1600000) : @Eq (EReal) ((StableHlo.after (hostOps0_2 (F := Ideal)) V (Proc.devRef .tc main_v41) : FVec Ideal S1600000 .f32) (ix1 e)) (((a.xn (a.s e) : ℝ) : EReal)) := by
  refine (congrFun (read_v41 V) (ix1 e)).trans ?_
  refine (take1_apply NN_pos Facts₀.gather_S100000_S1600000x1_S1600000_n_0_n_n_0_1_1_wf (StableHlo.after (hostOps0_2 (F := Ideal)) V (Proc.devRef .tc main_v15) : FVec Ideal S100000 .f32) (StableHlo.after (hostOps0_2 (F := Ideal)) V (Proc.devRef .tc main_v40) : IVec S1600000x1 32) e).trans ?_
  rw [word_v40 e]
  exact (val_v15 H h1 h2 _).trans (by rw [show row 100000 NN_pos (wrap _) = a.s e from H.hsrc e])

omit H h1 h2 in
theorem word_v48 (e : Fin 1600000) : @Eq (BitVec 32) ((StableHlo.after (hostOps0_2 (F := Ideal)) V (Proc.devRef .tc main_v48) : IVec S1600000x1 32) (ix2 e 0)) (wrap ((V (Proc.devRef .tc main_arg1) : IVec S2x1600000 32) (ix2 1 e))) :=
  (congrFun (read_v48 V) (ix2 e 0)).trans ((kform_v48 e (StableHlo.after (hostOps0_2 (F := Ideal)) V (Proc.devRef .tc main_v24) : IVec S1600000 32)).trans (congrArg wrap ((congrFun (read_v24 V) (ix1 e)).trans (kform_v24 e (V (Proc.devRef .tc main_arg1) : IVec S2x1600000 32)))))

theorem val_v49 (e : Fin 1600000) : @Eq (EReal) ((StableHlo.after (hostOps0_2 (F := Ideal)) V (Proc.devRef .tc main_v49) : FVec Ideal S1600000 .f32) (ix1 e)) (((a.xn (a.d e) : ℝ) : EReal)) := by
  refine (congrFun (read_v49 V) (ix1 e)).trans ?_
  refine (take1_apply NN_pos Facts₀.gather_S100000_S1600000x1_S1600000_n_0_n_n_0_1_1_wf (StableHlo.after (hostOps0_2 (F := Ideal)) V (Proc.devRef .tc main_v15) : FVec Ideal S100000 .f32) (StableHlo.after (hostOps0_2 (F := Ideal)) V (Proc.devRef .tc main_v48) : IVec S1600000x1 32) e).trans ?_
  rw [word_v48 e]
  exact (val_v15 H h1 h2 _).trans (by rw [show row 100000 NN_pos (wrap _) = a.d e from H.hdst e])

theorem val_v42 (e : Fin 1600000) : @Eq (EReal) ((StableHlo.after (hostOps0_2 (F := Ideal)) V (Proc.devRef .tc main_v42) : FVec Ideal S1600000x1 .f32) (ix2 e 0)) (((a.xn (a.s e) : ℝ) : EReal)) := by
  refine (congrFun (read_v42 V) (ix2 e 0)).trans ((kform_v42 e (StableHlo.after (hostOps0_2 (F := Ideal)) V (Proc.devRef .tc main_v41) : FVec Ideal S1600000 .f32)).trans ?_)
  exact val_v41 H h1 h2 e

theorem val_v50 (e : Fin 1600000) : @Eq (EReal) ((StableHlo.after (hostOps0_2 (F := Ideal)) V (Proc.devRef .tc main_v50) : FVec Ideal S1600000x1 .f32) (ix2 e 0)) (((a.xn (a.d e) : ℝ) : EReal)) := by
  refine (congrFun (read_v50 V) (ix2 e 0)).trans ((kform_v50 e (StableHlo.after (hostOps0_2 (F := Ideal)) V (Proc.devRef .tc main_v49) : FVec Ideal S1600000 .f32)).trans ?_)
  exact val_v49 H h1 h2 e

omit h1 h2
theorem val_v51 (h : Fin 8) : @Eq (EReal) ((StableHlo.after (hostOps0_2 (F := Ideal)) V (Proc.devRef .tc main_v51) : FVec Ideal S1x8 .f32) (ix2 0 h)) (((a.cs h : ℝ) : EReal)) := by
  refine (congrFun (read_v51 V) (ix2 0 h)).trans ((kform_v51 h (StableHlo.after (hostOps0_2 (F := Ideal)) V (Proc.devRef .tc main_v18) : FVec Ideal S8 .f32)).trans ?_)
  exact val_v18 H h

theorem val_v52 (h : Fin 8) : @Eq (EReal) ((StableHlo.after (hostOps0_2 (F := Ideal)) V (Proc.devRef .tc main_v52) : FVec Ideal S1x8 .f32) (ix2 0 h)) (((a.cd h : ℝ) : EReal)) := by
  refine (congrFun (read_v52 V) (ix2 0 h)).trans ((kform_v52 h (StableHlo.after (hostOps0_2 (F := Ideal)) V (Proc.devRef .tc main_v20) : FVec Ideal S8 .f32)).trans ?_)
  exact val_v20 H h

include h1 h2
theorem val_v53 : @Eq (EReal) ((StableHlo.after (hostOps0_2 (F := Ideal)) V (Proc.devRef .tc main_v53) : FVec Ideal S1x1 .f32) (ix2 0 0)) (((a.m1 : ℝ) : EReal)) := by
  refine (congrFun (read_v53 V) (ix2 0 0)).trans ((kform_v53 (StableHlo.after (hostOps0_2 (F := Ideal)) V (Proc.devRef .tc main_v34) : FVec Ideal S_ .f32)).trans ?_)
  exact val_v34 H h1 h2

end

end Cert.Graph
-- ==== Proof.HostVal2.lean ====
/- What the kernel's host operations before its third launch leave in each array, as real numbers. -/
module

public import proofs.«01_k».proof.Proof.Gen.KernelIdeal.Frame
public import proofs.«01_k».proof.Proof.Inputs
public import proofs.«01_k».proof.Proof.Formulas
public import Idealize.ShloMosaic.Lib.StableHlo.RunRead
public import Idealize.ShloMosaic.Lib.Pointwise
public import proofs.«01_k».proof.Proof.HostForm2
public import proofs.«01_k».proof.Proof.HostVal0

@[expose] public section

noncomputable section

namespace Cert.Graph

open Idealize.ShloMosaic Idealize.ShloMosaic.StableHlo Cert.KernelIdeal Cert.KernelIdeal.Gen
open scoped BigOperators

section
variable {a : Net} {V : Valuation τ sig (Elt Ideal)} (H : HoldsV a V) (hw0 : ∀ e : Fin 1600000, @Eq (BitVec 32) ((V (Proc.devRef .tc main_v22) : IVec S1600000 32) (ix1 e)) ((V (Proc.devRef .tc main_arg1) : IVec S2x1600000 32) (ix2 0 e))) (hw1 : ∀ e : Fin 1600000, @Eq (BitVec 32) ((V (Proc.devRef .tc main_v24) : IVec S1600000 32) (ix1 e)) ((V (Proc.devRef .tc main_arg1) : IVec S2x1600000 32) (ix2 1 e))) (hf : ∀ (n : Fin 100000) (o : Fin 32), @Eq EReal ((V (Proc.devRef .tc main_v74_0) : FVec Ideal S100000x32 .f32) (ix2 n o)) ((a.h2w n o : ℝ) : EReal)) (ha : ∀ (n : Fin 100000), @Eq EReal ((V (Proc.devRef .tc main_v74_1) : FVec Ideal S100000x1 .f32) (ix2 n 0)) ((a.asv n : ℝ) : EReal)) (hb : ∀ (n : Fin 100000), @Eq EReal ((V (Proc.devRef .tc main_v74_2) : FVec Ideal S100000x1 .f32) (ix2 n 0)) ((a.adv n : ℝ) : EReal))
include H hw0 hw1 hf ha hb

omit H hw0 hw1 hf ha hb
include ha
theorem val_v75 (n : Fin 100000) : @Eq (EReal) ((StableHlo.after (hostOps2 (F := Ideal)) V (Proc.devRef .tc main_v75) : FVec Ideal S100000 .f32) (ix1 n)) (((a.asv n : ℝ) : EReal)) := by
  refine (congrFun (read_v75 V) (ix1 n)).trans ((kform_v75 n (V (Proc.devRef .tc main_v74_1) : FVec Ideal S100000x1 .f32)).trans ?_)
  exact ha n

omit ha
include hb
theorem val_v76 (n : Fin 100000) : @Eq (EReal) ((StableHlo.after (hostOps2 (F := Ideal)) V (Proc.devRef .tc main_v76) : FVec Ideal S100000 .f32) (ix1 n)) (((a.adv n : ℝ) : EReal)) := by
  refine (congrFun (read_v76 V) (ix1 n)).trans ((kform_v76 n (V (Proc.devRef .tc main_v74_2) : FVec Ideal S100000x1 .f32)).trans ?_)
  exact hb n

theorem val_v78 : @Eq (EReal) ((StableHlo.after (hostOps2 (F := Ideal)) V (Proc.devRef .tc main_v78) : FVec Ideal S_ .f32) (ix0)) (((top a.adv : ℝ) : EReal)) := by
  refine (congrFun (read_v78 V) (ix0)).trans ((kform_v78 (StableHlo.after (hostOps2 (F := Ideal)) V (Proc.devRef .tc main_v76) : FVec Ideal S100000 .f32)).trans ?_)
  rw [word_bot]
  exact fold_real fun n => val_v76 hb n

omit hb
include ha
theorem val_v77 : @Eq (EReal) ((StableHlo.after (hostOps2 (F := Ideal)) V (Proc.devRef .tc main_v77) : FVec Ideal S_ .f32) (ix0)) (((top a.asv : ℝ) : EReal)) := by
  refine (congrFun (read_v77 V) (ix0)).trans ((kform_v77 (StableHlo.after (hostOps2 (F := Ideal)) V (Proc.devRef .tc main_v75) : FVec Ideal S100000 .f32)).trans ?_)
  rw [word_bot]
  exact fold_real fun n => val_v75 ha n

include hb
theorem val_v80 : @Eq (EReal) ((StableHlo.after (hostOps2 (F := Ideal)) V (Proc.devRef .tc main_v80) : FVec Ideal S_ .f32) (ix0)) (((a.m2 : ℝ) : EReal)) := by
  refine (congrFun (read_v80 V) (ix0)).trans ((kform_v80 (StableHlo.after (hostOps2 (F := Ideal)) V (Proc.devRef .tc main_v77) : FVec Ideal S_ .f32) (StableHlo.after (hostOps2 (F := Ideal)) V (Proc.devRef .tc main_v78) : FVec Ideal S_ .f32)).trans ?_)
  rw [val_v77 ha, val_v78 hb, ← EReal.coe_add, max_real_zero]
  rfl

theorem val_v104 : @Eq (EReal) ((StableHlo.after (hostOps2 (F := Ideal)) V (Proc.devRef .tc main_v104) : FVec Ideal S1x1 .f32) (ix2 0 0)) (((a.m2 : ℝ) : EReal)) := by
  refine (congrFun (read_v104 V) (ix2 0 0)).trans ((kform_v104 (StableHlo.after (hostOps2 (F := Ideal)) V (Proc.devRef .tc main_v80) : FVec Ideal S_ .f32)).trans ?_)
  exact val_v80 ha hb

omit ha hb
include hw0
theorem word_v86 (e : Fin 1600000) : @Eq (BitVec 32) ((StableHlo.after (hostOps2 (F := Ideal)) V (Proc.devRef .tc main_v86) : IVec S1600000x1 32) (ix2 e 0)) (wrap ((V (Proc.devRef .tc main_arg1) : IVec S2x1600000 32) (ix2 0 e))) :=
  (congrFun (read_v86 V) (ix2 e 0)).trans ((kform_v86 e (V (Proc.devRef .tc main_v22) : IVec S1600000 32)).trans (congrArg wrap (hw0 e)))

omit hw0
include hw1
theorem word_v94 (e : Fin 1600000) : @Eq (BitVec 32) ((StableHlo.after (hostOps2 (F := Ideal)) V (Proc.devRef .tc main_v94) : IVec S1600000x1 32) (ix2 e 0)) (wrap ((V (Proc.devRef .tc main_arg1) : IVec S2x1600000 32) (ix2 1 e))) :=
  (congrFun (read_v94 V) (ix2 e 0)).trans ((kform_v94 e (V (Proc.devRef .tc main_v24) : IVec S1600000 32)).trans (congrArg wrap (hw1 e)))

omit hw1
include hw0
theorem word_v102 (e : Fin 1600000) : @Eq (BitVec 32) ((StableHlo.after (hostOps2 (F := Ideal)) V (Proc.devRef .tc main_v102) : IVec S1600000x1 32) (ix2 e 0)) (wrap ((V (Proc.devRef .tc main_arg1) : IVec S2x1600000 32) (ix2 0 e))) :=
  (congrFun (read_v102 V) (ix2 e 0)).trans ((kform_v102 e (V (Proc.devRef .tc main_v22) : IVec S1600000 32)).trans (congrArg wrap (hw0 e)))

omit hw0
include H
include hw0 ha
theorem val_v87 (e : Fin 1600000) : @Eq (EReal) ((StableHlo.after (hostOps2 (F := Ideal)) V (Proc.devRef .tc main_v87) : FVec Ideal S1600000 .f32) (ix1 e)) (((a.asv (a.s e) : ℝ) : EReal)) := by
  refine (congrFun (read_v87 V) (ix1 e)).trans ?_
  refine (take1_apply NN_pos Facts₀.gather_S100000_S1600000x1_S1600000_n_0_n_n_0_1_1_wf (StableHlo.after (hostOps2 (F := Ideal)) V (Proc.devRef .tc main_v75) : FVec Ideal S100000 .f32) (StableHlo.after (hostOps2 (F := Ideal)) V (Proc.devRef .tc main_v86) : IVec S1600000x1 32) e).trans ?_
  rw [word_v86 hw0 e]
  exact (val_v75 ha _).trans (by rw [show row 100000 NN_pos (wrap _) = a.s e from H.hsrc e])

theorem val_v88 (e : Fin 1600000) : @Eq (EReal) ((StableHlo.after (hostOps2 (F := Ideal)) V (Proc.devRef .tc main_v88) : FVec Ideal S1600000x1 .f32) (ix2 e 0)) (((a.asv (a.s e) : ℝ) : EReal)) := by
  refine (congrFun (read_v88 V) (ix2 e 0)).trans ((kform_v88 e (StableHlo.after (hostOps2 (F := Ideal)) V (Proc.devRef .tc main_v87) : FVec Ideal S1600000 .f32)).trans ?_)
  exact val_v87 H hw0 ha e

omit hw0 ha
include hw1 hb
theorem val_v95 (e : Fin 1600000) : @Eq (EReal) ((StableHlo.after (hostOps2 (F := Ideal)) V (Proc.devRef .tc main_v95) : FVec Ideal S1600000 .f32) (ix1 e)) (((a.adv (a.d e) : ℝ) : EReal)) := by
  refine (congrFun (read_v95 V) (ix1 e)).trans ?_
  refine (take1_apply NN_pos Facts₀.gather_S100000_S1600000x1_S1600000_n_0_n_n_0_1_1_wf (StableHlo.after (hostOps2 (F := Ideal)) V (Proc.devRef .tc main_v76) : FVec Ideal S100000 .f32) (StableHlo.after (hostOps2 (F := Ideal)) V (Proc.devRef .tc main_v94) : IVec S1600000x1 32) e).trans ?_
  rw [word_v94 hw1 e]
  exact (val_v76 hb _).trans (by rw [show row 100000 NN_pos (wrap _) = a.d e from H.hdst e])

theorem val_v96 (e : Fin 1600000) : @Eq (EReal) ((StableHlo.after (hostOps2 (F := Ideal)) V (Proc.devRef .tc main_v96) : FVec Ideal S1600000x1 .f32) (ix2 e 0)) (((a.adv (a.d e) : ℝ) : EReal)) := by
  refine (congrFun (read_v96 V) (ix2 e 0)).trans ((kform_v96 e (StableHlo.after (hostOps2 (F := Ideal)) V (Proc.devRef .tc main_v95) : FVec Ideal S1600000 .f32)).trans ?_)
  exact val_v95 H hw1 hb e

omit hw1 hb
include hw0 hf
theorem val_v103 (e : Fin 1600000) (o : Fin 32) : @Eq (EReal) ((StableHlo.after (hostOps2 (F := Ideal)) V (Proc.devRef .tc main_v103) : FVec Ideal S1600000x32 .f32) (ix2 e o)) (((a.h2w (a.s e) o : ℝ) : EReal)) := by
  refine (congrFun (read_v103 V) (ix2 e o)).trans ?_
  refine (take2_apply NN_pos Facts₀.gather_S100000x32_S1600000x1_S1600000x32_1_0_n_n_0_1_132_wf (V (Proc.devRef .tc main_v74_0) : FVec Ideal S100000x32 .f32) (StableHlo.after (hostOps2 (F := Ideal)) V (Proc.devRef .tc main_v102) : IVec S1600000x1 32) e o).trans ?_
  rw [word_v102 hw0 e]
  exact (hf _ o).trans (by rw [show row 100000 NN_pos (wrap _) = a.s e from H.hsrc e])

end

end Cert.Graph
-- ==== Proof.HostForm3.lean ====
/- What the kernel's host operations before its last launch leave in each array, as a formula in earlier arrays. -/
module

public import proofs.«01_k».proof.Proof.Gen.KernelIdeal.Frame
public import proofs.«01_k».proof.Proof.Inputs
public import proofs.«01_k».proof.Proof.Formulas
public import Idealize.ShloMosaic.Lib.StableHlo.RunRead
public import Idealize.ShloMosaic.Lib.Pointwise

@[expose] public section

noncomputable section

namespace Cert.Graph

open Idealize.ShloMosaic Idealize.ShloMosaic.StableHlo Cert.KernelIdeal Cert.KernelIdeal.Gen
open scoped BigOperators

theorem kform_v106 (n : Fin 100000) :
    ((broadcastInDim S100000x1 ![] bcast_S_S100000x1 (constant S_ .f32 0x00000000#32 : FVec Ideal S_ .f32) : FVec Ideal S100000x1 .f32) (ix2 n 0) : EReal)
      = 0 := by
  pointwise []

theorem read_v106 (V : Valuation τ sig (Elt Ideal)) :
    (StableHlo.after (hostOps3 (F := Ideal)) V (Proc.devRef .tc main_v106) : FVec Ideal S100000x1 .f32)
      = (broadcastInDim S100000x1 ![] bcast_S_S100000x1 (constant S_ .f32 0x00000000#32 : FVec Ideal S_ .f32) : FVec Ideal S100000x1 .f32) := by
  after_reads_simp <;> rfl

theorem kform_v109 (n : Fin 100000) (o : Fin 32) :
    ((broadcastInDim S100000x32 ![] bcast_S_S100000x32 (constant S_ .f32 0x00000000#32 : FVec Ideal S_ .f32) : FVec Ideal S100000x32 .f32) (ix2 n o) : EReal)
      = 0 := by
  pointwise []

theorem read_v109 (V : Valuation τ sig (Elt Ideal)) :
    (StableHlo.after (hostOps3 (F := Ideal)) V (Proc.devRef .tc main_v109) : FVec Ideal S100000x32 .f32)
      = (broadcastInDim S100000x32 ![] bcast_S_S100000x32 (constant S_ .f32 0x00000000#32 : FVec Ideal S_ .f32) : FVec Ideal S100000x32 .f32) := by
  after_reads_simp <;> rfl

theorem kform_v107 (e : Fin 1600000) (y_v24 : IVec S1600000 32) :
    ((broadcastInDim S1600000x1 ![0] bcast_S1600000_S1600000x1_0 y_v24 : IVec S1600000x1 32) (ix2 e 0) : BitVec 32)
      = y_v24 (ix1 e) := by
  pointwise []

theorem read_v107 (V : Valuation τ sig (Elt Ideal)) :
    (StableHlo.after (hostOps3 (F := Ideal)) V (Proc.devRef .tc main_v107) : IVec S1600000x1 32)
      = (broadcastInDim S1600000x1 ![0] bcast_S1600000_S1600000x1_0 (V (Proc.devRef .tc main_v24) : IVec S1600000 32) : IVec S1600000x1 32) := by
  after_reads_simp <;> rfl

theorem kform_v110 (e : Fin 1600000) (y_v24 : IVec S1600000 32) :
    ((broadcastInDim S1600000x1 ![0] bcast_S1600000_S1600000x1_0 y_v24 : IVec S1600000x1 32) (ix2 e 0) : BitVec 32)
      = y_v24 (ix1 e) := by
  pointwise []

theorem read_v110 (V : Valuation τ sig (Elt Ideal)) :
    (StableHlo.after (hostOps3 (F := Ideal)) V (Proc.devRef .tc main_v110) : IVec S1600000x1 32)
      = (broadcastInDim S1600000x1 ![0] bcast_S1600000_S1600000x1_0 (V (Proc.devRef .tc main_v24) : IVec S1600000 32) : IVec S1600000x1 32) := by
  after_reads_simp <;> rfl

theorem read_v108 (V : Valuation τ sig (Elt Ideal)) :
    (StableHlo.after (hostOps3 (F := Ideal)) V (Proc.devRef .tc main_v108) : FVec Ideal S100000x1 .f32)
      = (Host.scatterAdd scatter_S100000x1_S1600000x1_S1600000x1_1_0_0_1 (StableHlo.after (hostOps3 (F := Ideal)) V (Proc.devRef .tc main_v106) : FVec Ideal S100000x1 .f32) (StableHlo.after (hostOps3 (F := Ideal)) V (Proc.devRef .tc main_v107) : IVec S1600000x1 32) (V (Proc.devRef .tc main_v105_0) : FVec Ideal S1600000x1 .f32) : FVec Ideal S100000x1 .f32) := by
  after_reads_simp <;> rfl

theorem read_v111 (V : Valuation τ sig (Elt Ideal)) :
    (StableHlo.after (hostOps3 (F := Ideal)) V (Proc.devRef .tc main_v111) : FVec Ideal S100000x32 .f32)
      = (Host.scatterAdd scatter_S100000x32_S1600000x1_S1600000x32_1_0_0_1 (StableHlo.after (hostOps3 (F := Ideal)) V (Proc.devRef .tc main_v109) : FVec Ideal S100000x32 .f32) (StableHlo.after (hostOps3 (F := Ideal)) V (Proc.devRef .tc main_v110) : IVec S1600000x1 32) (V (Proc.devRef .tc main_v105_1) : FVec Ideal S1600000x32 .f32) : FVec Ideal S100000x32 .f32) := by
  after_reads_simp <;> rfl

theorem kform_v112 (o : Fin 32) (y_arg14 : FVec Ideal S32 .f32) :
    ((shapeCast _ y_arg14 shapeCasts_S32_S1x32 : FVec Ideal S1x32 .f32) (ix2 0 o) : EReal)
      = y_arg14 (ix1 o) := by
  pointwise []

theorem read_v112 (V : Valuation τ sig (Elt Ideal)) :
    (StableHlo.after (hostOps3 (F := Ideal)) V (Proc.devRef .tc main_v112) : FVec Ideal S1x32 .f32)
      = (shapeCast _ (V (Proc.devRef .tc main_arg14) : FVec Ideal S32 .f32) shapeCasts_S32_S1x32 : FVec Ideal S1x32 .f32) := by
  after_reads_simp <;> rfl

theorem kform_v113 (c : Fin 16) (y_arg16 : FVec Ideal S16 .f32) :
    ((shapeCast _ y_arg16 shapeCasts_S16_S1x16 : FVec Ideal S1x16 .f32) (ix2 0 c) : EReal)
      = y_arg16 (ix1 c) := by
  pointwise []

theorem read_v113 (V : Valuation τ sig (Elt Ideal)) :
    (StableHlo.after (hostOps3 (F := Ideal)) V (Proc.devRef .tc main_v113) : FVec Ideal S1x16 .f32)
      = (shapeCast _ (V (Proc.devRef .tc main_arg16) : FVec Ideal S16 .f32) shapeCasts_S16_S1x16 : FVec Ideal S1x16 .f32) := by
  after_reads_simp <;> rfl

theorem kform_v114 (y_arg18 : FVec Ideal S1 .f32) :
    ((shapeCast _ y_arg18 shapeCasts_S1_S1x1 : FVec Ideal S1x1 .f32) (ix2 0 0) : EReal)
      = y_arg18 (ix1 0) := by
  pointwise []

theorem read_v114 (V : Valuation τ sig (Elt Ideal)) :
    (StableHlo.after (hostOps3 (F := Ideal)) V (Proc.devRef .tc main_v114) : FVec Ideal S1x1 .f32)
      = (shapeCast _ (V (Proc.devRef .tc main_arg18) : FVec Ideal S1 .f32) shapeCasts_S1_S1x1 : FVec Ideal S1x1 .f32) := by
  after_reads_simp <;> rfl

end Cert.Graph
-- ==== Proof.HostVal3.lean ====
/- What the kernel's host operations before its last launch leave in each array, as real numbers. -/
module

public import proofs.«01_k».proof.Proof.Gen.KernelIdeal.Frame
public import proofs.«01_k».proof.Proof.Inputs
public import proofs.«01_k».proof.Proof.Formulas
public import Idealize.ShloMosaic.Lib.StableHlo.RunRead
public import Idealize.ShloMosaic.Lib.Pointwise
public import proofs.«01_k».proof.Proof.HostForm3
public import proofs.«01_k».proof.Proof.HostVal0

@[expose] public section

noncomputable section

namespace Cert.Graph

open Idealize.ShloMosaic Idealize.ShloMosaic.StableHlo Cert.KernelIdeal Cert.KernelIdeal.Gen
open scoped BigOperators

section
variable {a : Net} {V : Valuation τ sig (Elt Ideal)} (H : HoldsV a V) (hw1 : ∀ e : Fin 1600000, @Eq (BitVec 32) ((V (Proc.devRef .tc main_v24) : IVec S1600000 32) (ix1 e)) ((V (Proc.devRef .tc main_arg1) : IVec S2x1600000 32) (ix2 1 e))) (hx : ∀ (e : Fin 1600000), @Eq EReal ((V (Proc.devRef .tc main_v105_0) : FVec Ideal S1600000x1 .f32) (ix2 e 0)) ((a.ex2 e : ℝ) : EReal)) (hm : ∀ (e : Fin 1600000) (o : Fin 32), @Eq EReal ((V (Proc.devRef .tc main_v105_1) : FVec Ideal S1600000x32 .f32) (ix2 e o)) ((a.h2w (a.s e) o * (a.ex2 e * a.ew e) : ℝ) : EReal))
include H hw1 hx hm

omit hx hm
omit H in
theorem word_v107 (e : Fin 1600000) : @Eq (BitVec 32) ((StableHlo.after (hostOps3 (F := Ideal)) V (Proc.devRef .tc main_v107) : IVec S1600000x1 32) (ix2 e 0)) ((V (Proc.devRef .tc main_arg1) : IVec S2x1600000 32) (ix2 1 e)) :=
  (congrFun (read_v107 V) (ix2 e 0)).trans ((kform_v107 e (V (Proc.devRef .tc main_v24) : IVec S1600000 32)).trans (hw1 e))

theorem into_v107 (n : Fin 100000) : into (StableHlo.after (hostOps3 (F := Ideal)) V (Proc.devRef .tc main_v107) : IVec S1600000x1 32) n = a.into n := by
  ext e
  rw [mem_into, H.hinto]
  exact iff_of_eq (congrArg (fun w : BitVec 32 => w.toInt = (n.val : Int)) (word_v107 hw1 e))

omit H in
theorem word_v110 (e : Fin 1600000) : @Eq (BitVec 32) ((StableHlo.after (hostOps3 (F := Ideal)) V (Proc.devRef .tc main_v110) : IVec S1600000x1 32) (ix2 e 0)) ((V (Proc.devRef .tc main_arg1) : IVec S2x1600000 32) (ix2 1 e)) :=
  (congrFun (read_v110 V) (ix2 e 0)).trans ((kform_v110 e (V (Proc.devRef .tc main_v24) : IVec S1600000 32)).trans (hw1 e))

theorem into_v110 (n : Fin 100000) : into (StableHlo.after (hostOps3 (F := Ideal)) V (Proc.devRef .tc main_v110) : IVec S1600000x1 32) n = a.into n := by
  ext e
  rw [mem_into, H.hinto]
  exact iff_of_eq (congrArg (fun w : BitVec 32 => w.toInt = (n.val : Int)) (word_v110 hw1 e))

include hx
theorem val_v108 (n : Fin 100000) : @Eq (EReal) ((StableHlo.after (hostOps3 (F := Ideal)) V (Proc.devRef .tc main_v108) : FVec Ideal S100000x1 .f32) (ix2 n 0)) (((a.den2 n : ℝ) : EReal)) := by
  refine (congrFun (read_v108 V) (ix2 n 0)).trans ?_
  refine (segment2_apply Facts₀.scatter_S100000x1_S1600000x1_S1600000x1_1_0_0_1_wf (StableHlo.after (hostOps3 (F := Ideal)) V (Proc.devRef .tc main_v106) : FVec Ideal S100000x1 .f32) (StableHlo.after (hostOps3 (F := Ideal)) V (Proc.devRef .tc main_v107) : IVec S1600000x1 32) (V (Proc.devRef .tc main_v105_0) : FVec Ideal S1600000x1 .f32) n 0).trans ?_
  rw [into_v107 H hw1, show @Eq EReal ((StableHlo.after (hostOps3 (F := Ideal)) V (Proc.devRef .tc main_v106) : FVec Ideal S100000x1 .f32) (ix2 n 0)) 0 from (congrFun (read_v106 V) (ix2 n 0)).trans (kform_v106 n), zero_add]
  exact sum_real fun e _ => hx e

include hm
omit hx
theorem val_v111 (n : Fin 100000) (o : Fin 32) : @Eq (EReal) ((StableHlo.after (hostOps3 (F := Ideal)) V (Proc.devRef .tc main_v111) : FVec Ideal S100000x32 .f32) (ix2 n o)) (((a.num2 n o : ℝ) : EReal)) := by
  refine (congrFun (read_v111 V) (ix2 n o)).trans ?_
  refine (segment2_apply Facts₀.scatter_S100000x32_S1600000x1_S1600000x32_1_0_0_1_wf (StableHlo.after (hostOps3 (F := Ideal)) V (Proc.devRef .tc main_v109) : FVec Ideal S100000x32 .f32) (StableHlo.after (hostOps3 (F := Ideal)) V (Proc.devRef .tc main_v110) : IVec S1600000x1 32) (V (Proc.devRef .tc main_v105_1) : FVec Ideal S1600000x32 .f32) n o).trans ?_
  rw [into_v110 H hw1, show @Eq EReal ((StableHlo.after (hostOps3 (F := Ideal)) V (Proc.devRef .tc main_v109) : FVec Ideal S100000x32 .f32) (ix2 n o)) 0 from (congrFun (read_v109 V) (ix2 n o)).trans (kform_v109 n o), zero_add]
  exact sum_real fun e _ => hm e o

end

theorem val_v112 (V : Valuation τ sig (Elt Ideal)) (o : Fin 32) : @Eq EReal ((StableHlo.after (hostOps3 (F := Ideal)) V (Proc.devRef .tc main_v112) : FVec Ideal S1x32 .f32) (ix2 0 o)) ((V (Proc.devRef .tc main_arg14) : FVec Ideal S32 .f32) (ix1 o)) :=
  (congrFun (read_v112 V) (ix2 0 o)).trans (kform_v112 o _)

theorem val_v113 (V : Valuation τ sig (Elt Ideal)) (c : Fin 16) : @Eq EReal ((StableHlo.after (hostOps3 (F := Ideal)) V (Proc.devRef .tc main_v113) : FVec Ideal S1x16 .f32) (ix2 0 c)) ((V (Proc.devRef .tc main_arg16) : FVec Ideal S16 .f32) (ix1 c)) :=
  (congrFun (read_v113 V) (ix2 0 c)).trans (kform_v113 c _)

theorem val_v114 (V : Valuation τ sig (Elt Ideal)) : @Eq EReal ((StableHlo.after (hostOps3 (F := Ideal)) V (Proc.devRef .tc main_v114) : FVec Ideal S1x1 .f32) (ix2 0 0)) ((V (Proc.devRef .tc main_arg18) : FVec Ideal S1 .f32) (ix1 0)) :=
  (congrFun (read_v114 V) (ix2 0 0)).trans (kform_v114 _)

end Cert.Graph
-- ==== Proof.HostForm1.lean ====
/- What the kernel's host operations between its first two launches leave in each array, as a formula in earlier arrays. -/
module

public import proofs.«01_k».proof.Proof.Gen.KernelIdeal.Frame
public import proofs.«01_k».proof.Proof.Inputs
public import proofs.«01_k».proof.Proof.Formulas
public import Idealize.ShloMosaic.Lib.StableHlo.RunRead
public import Idealize.ShloMosaic.Lib.Pointwise

@[expose] public section

noncomputable section

namespace Cert.Graph

open Idealize.ShloMosaic Idealize.ShloMosaic.StableHlo Cert.KernelIdeal Cert.KernelIdeal.Gen
open scoped BigOperators

theorem kform_v55 (n : Fin 100000) (h : Fin 8) :
    ((broadcastInDim S100000x8 ![] bcast_S_S100000x8 (constant S_ .f32 0x00000000#32 : FVec Ideal S_ .f32) : FVec Ideal S100000x8 .f32) (ix2 n h) : EReal)
      = 0 := by
  pointwise []

theorem read_v55 (V : Valuation τ sig (Elt Ideal)) :
    (StableHlo.after (hostOps1 (F := Ideal)) V (Proc.devRef .tc main_v55) : FVec Ideal S100000x8 .f32)
      = (broadcastInDim S100000x8 ![] bcast_S_S100000x8 (constant S_ .f32 0x00000000#32 : FVec Ideal S_ .f32) : FVec Ideal S100000x8 .f32) := by
  after_reads_simp <;> rfl

theorem kform_v58 (n : Fin 100000) (h : Fin 8) :
    ((broadcastInDim S100000x8 ![] bcast_S_S100000x8 (constant S_ .f32 0x00000000#32 : FVec Ideal S_ .f32) : FVec Ideal S100000x8 .f32) (ix2 n h) : EReal)
      = 0 := by
  pointwise []

theorem read_v58 (V : Valuation τ sig (Elt Ideal)) :
    (StableHlo.after (hostOps1 (F := Ideal)) V (Proc.devRef .tc main_v58) : FVec Ideal S100000x8 .f32)
      = (broadcastInDim S100000x8 ![] bcast_S_S100000x8 (constant S_ .f32 0x00000000#32 : FVec Ideal S_ .f32) : FVec Ideal S100000x8 .f32) := by
  after_reads_simp <;> rfl

theorem kform_v56 (e : Fin 1600000) (y_v24 : IVec S1600000 32) :
    ((broadcastInDim S1600000x1 ![0] bcast_S1600000_S1600000x1_0 y_v24 : IVec S1600000x1 32) (ix2 e 0) : BitVec 32)
      = y_v24 (ix1 e) := by
  pointwise []

theorem read_v56 (V : Valuation τ sig (Elt Ideal)) :
    (StableHlo.after (hostOps1 (F := Ideal)) V (Proc.devRef .tc main_v56) : IVec S1600000x1 32)
      = (broadcastInDim S1600000x1 ![0] bcast_S1600000_S1600000x1_0 (V (Proc.devRef .tc main_v24) : IVec S1600000 32) : IVec S1600000x1 32) := by
  after_reads_simp <;> rfl

theorem kform_v59 (e : Fin 1600000) (y_v24 : IVec S1600000 32) :
    ((broadcastInDim S1600000x1 ![0] bcast_S1600000_S1600000x1_0 y_v24 : IVec S1600000x1 32) (ix2 e 0) : BitVec 32)
      = y_v24 (ix1 e) := by
  pointwise []

theorem read_v59 (V : Valuation τ sig (Elt Ideal)) :
    (StableHlo.after (hostOps1 (F := Ideal)) V (Proc.devRef .tc main_v59) : IVec S1600000x1 32)
      = (broadcastInDim S1600000x1 ![0] bcast_S1600000_S1600000x1_0 (V (Proc.devRef .tc main_v24) : IVec S1600000 32) : IVec S1600000x1 32) := by
  after_reads_simp <;> rfl

theorem read_v57 (V : Valuation τ sig (Elt Ideal)) :
    (StableHlo.after (hostOps1 (F := Ideal)) V (Proc.devRef .tc main_v57) : FVec Ideal S100000x8 .f32)
      = (Host.scatterAdd scatter_S100000x8_S1600000x1_S1600000x8_1_0_0_1 (StableHlo.after (hostOps1 (F := Ideal)) V (Proc.devRef .tc main_v55) : FVec Ideal S100000x8 .f32) (StableHlo.after (hostOps1 (F := Ideal)) V (Proc.devRef .tc main_v56) : IVec S1600000x1 32) (V (Proc.devRef .tc main_v54_0) : FVec Ideal S1600000x8 .f32) : FVec Ideal S100000x8 .f32) := by
  after_reads_simp <;> rfl

theorem read_v60 (V : Valuation τ sig (Elt Ideal)) :
    (StableHlo.after (hostOps1 (F := Ideal)) V (Proc.devRef .tc main_v60) : FVec Ideal S100000x8 .f32)
      = (Host.scatterAdd scatter_S100000x8_S1600000x1_S1600000x8_1_0_0_1 (StableHlo.after (hostOps1 (F := Ideal)) V (Proc.devRef .tc main_v58) : FVec Ideal S100000x8 .f32) (StableHlo.after (hostOps1 (F := Ideal)) V (Proc.devRef .tc main_v59) : IVec S1600000x1 32) (V (Proc.devRef .tc main_v54_1) : FVec Ideal S1600000x8 .f32) : FVec Ideal S100000x8 .f32) := by
  after_reads_simp <;> rfl

theorem kform_v63 (n : Fin 100000) (h : Fin 8) (y_v60 : FVec Ideal S100000x8 .f32) (y_v57 : FVec Ideal S100000x8 .f32) :
    ((Host.divf y_v60 (addf y_v57 (broadcastInDim S100000x8 ![] bcast_S_S100000x8 (constant S_ .f32 0x24E69595#32 : FVec Ideal S_ .f32) : FVec Ideal S100000x8 .f32) : FVec Ideal S100000x8 .f32) : FVec Ideal S100000x8 .f32) (ix2 n h) : EReal)
      = Ideal.div (y_v60 (ix2 n h)) (y_v57 (ix2 n h) + Ideal.ofBits FTy.f32 0x24E69595#32) := by
  pointwise []

theorem read_v63 (V : Valuation τ sig (Elt Ideal)) :
    (StableHlo.after (hostOps1 (F := Ideal)) V (Proc.devRef .tc main_v63) : FVec Ideal S100000x8 .f32)
      = (Host.divf (StableHlo.after (hostOps1 (F := Ideal)) V (Proc.devRef .tc main_v60) : FVec Ideal S100000x8 .f32) (addf (StableHlo.after (hostOps1 (F := Ideal)) V (Proc.devRef .tc main_v57) : FVec Ideal S100000x8 .f32) (broadcastInDim S100000x8 ![] bcast_S_S100000x8 (constant S_ .f32 0x24E69595#32 : FVec Ideal S_ .f32) : FVec Ideal S100000x8 .f32) : FVec Ideal S100000x8 .f32) : FVec Ideal S100000x8 .f32) := by
  after_reads_simp <;> rfl

theorem kform_v66 (h : Fin 8) (y_v63 : FVec Ideal S100000x8 .f32) :
    ((Host.divf (Host.reduceAdd y_v63 (constant S_ .f32 0x00000000#32 : FVec Ideal S_ .f32) reducesTo_S100000x8_S8_d0 h_S_ : FVec Ideal S8 .f32) (broadcastInDim S8 ![] bcast_S_S8 (constant S_ .f32 0x47C35000#32 : FVec Ideal S_ .f32) : FVec Ideal S8 .f32) : FVec Ideal S8 .f32) (ix1 h) : EReal)
      = Ideal.div (∑ n, y_v63 (ix2 n h)) (Ideal.ofBits FTy.f32 0x47C35000#32) := by
  pointwise []

theorem read_v66 (V : Valuation τ sig (Elt Ideal)) :
    (StableHlo.after (hostOps1 (F := Ideal)) V (Proc.devRef .tc main_v66) : FVec Ideal S8 .f32)
      = (Host.divf (Host.reduceAdd (StableHlo.after (hostOps1 (F := Ideal)) V (Proc.devRef .tc main_v63) : FVec Ideal S100000x8 .f32) (constant S_ .f32 0x00000000#32 : FVec Ideal S_ .f32) reducesTo_S100000x8_S8_d0 h_S_ : FVec Ideal S8 .f32) (broadcastInDim S8 ![] bcast_S_S8 (constant S_ .f32 0x47C35000#32 : FVec Ideal S_ .f32) : FVec Ideal S8 .f32) : FVec Ideal S8 .f32) := by
  after_reads_simp <;> rfl

theorem kform_c_16 :
    ((constantI S_ 32 0#32 : IVec S_ 32) (ix0) : BitVec 32)
      = 0#32 := by
  pointwise []

theorem read_c_16 (V : Valuation τ sig (Elt Ideal)) :
    (StableHlo.after (hostOps1 (F := Ideal)) V (Proc.devRef .tc main_c_16) : IVec S_ 32)
      = (constantI S_ 32 0#32 : IVec S_ 32) := by
  after_reads_simp <;> rfl

theorem kform_v67 (h : Fin 8) (y_c_16 : IVec S_ 32) (y_v63 : FVec Ideal S100000x8 .f32) :
    ((select (broadcastInDim S8 ![] bcast_S_S8 (cmpf .ogt (subf (constant S_ .f32 0x47C35000#32 : FVec Ideal S_ .f32) (sitofp .f32 y_c_16 : FVec Ideal S_ .f32) : FVec Ideal S_ .f32) (constant S_ .f32 0x00000000#32 : FVec Ideal S_ .f32) : IVec S_ 1)) (Host.divf (Host.reduceAdd (mulf (subf y_v63 (broadcastInDim S100000x8 ![0, 1] bcast_S1x8_S100000x8_0_1 (Host.divf (broadcastInDim S1x8 ![1] bcast_S8_S1x8_1 (Host.reduceAdd y_v63 (constant S_ .f32 0x00000000#32 : FVec Ideal S_ .f32) reducesTo_S100000x8_S8_d0 h_S_ : FVec Ideal S8 .f32) : FVec Ideal S1x8 .f32) (broadcastInDim S1x8 ![] bcast_S_S1x8 (constant S_ .f32 0x47C35000#32 : FVec Ideal S_ .f32) : FVec Ideal S1x8 .f32) : FVec Ideal S1x8 .f32) : FVec Ideal S100000x8 .f32) : FVec Ideal S100000x8 .f32) (subf y_v63 (broadcastInDim S100000x8 ![0, 1] bcast_S1x8_S100000x8_0_1 (Host.divf (broadcastInDim S1x8 ![1] bcast_S8_S1x8_1 (Host.reduceAdd y_v63 (constant S_ .f32 0x00000000#32 : FVec Ideal S_ .f32) reducesTo_S100000x8_S8_d0 h_S_ : FVec Ideal S8 .f32) : FVec Ideal S1x8 .f32) (broadcastInDim S1x8 ![] bcast_S_S1x8 (constant S_ .f32 0x47C35000#32 : FVec Ideal S_ .f32) : FVec Ideal S1x8 .f32) : FVec Ideal S1x8 .f32) : FVec Ideal S100000x8 .f32) : FVec Ideal S100000x8 .f32) : FVec Ideal S100000x8 .f32) (constant S_ .f32 0x00000000#32 : FVec Ideal S_ .f32) reducesTo_S100000x8_S8_d0 h_S_ : FVec Ideal S8 .f32) (broadcastInDim S8 ![] bcast_S_S8 (subf (constant S_ .f32 0x47C35000#32 : FVec Ideal S_ .f32) (sitofp .f32 y_c_16 : FVec Ideal S_ .f32) : FVec Ideal S_ .f32) : FVec Ideal S8 .f32) : FVec Ideal S8 .f32) (broadcastInDim S8 ![] bcast_S_S8 ((constant S_ .f32 0x7FC00000#32 : FVec Ideal S_ .f32) : FVec Ideal S_ .f32) : FVec Ideal S8 .f32) : FVec Ideal S8 .f32) (ix1 h) : EReal)
      = (if 0 < Ideal.ofBits FTy.f32 0x47C35000#32 - FloatOps.sitofp (F := Ideal) FTy.f32 (y_c_16 ix0) then Ideal.div (∑ x, (y_v63 (ix2 x h) - Ideal.div (∑ x, y_v63 (ix2 x h)) (Ideal.ofBits FTy.f32 0x47C35000#32)) * (y_v63 (ix2 x h) - Ideal.div (∑ x, y_v63 (ix2 x h)) (Ideal.ofBits FTy.f32 0x47C35000#32))) (Ideal.ofBits FTy.f32 0x47C35000#32 - FloatOps.sitofp (F := Ideal) FTy.f32 (y_c_16 ix0)) else Ideal.ofBits FTy.f32 0x7FC00000#32) := by
  pointwise []

theorem read_v67 (V : Valuation τ sig (Elt Ideal)) :
    (StableHlo.after (hostOps1_1 (F := Ideal)) V (Proc.devRef .tc main_v67) : FVec Ideal S8 .f32)
      = (select (broadcastInDim S8 ![] bcast_S_S8 (cmpf .ogt (subf (constant S_ .f32 0x47C35000#32 : FVec Ideal S_ .f32) (sitofp .f32 (V (Proc.devRef .tc main_c_16) : IVec S_ 32) : FVec Ideal S_ .f32) : FVec Ideal S_ .f32) (constant S_ .f32 0x00000000#32 : FVec Ideal S_ .f32) : IVec S_ 1)) (Host.divf (Host.reduceAdd (mulf (subf (V (Proc.devRef .tc main_v63) : FVec Ideal S100000x8 .f32) (broadcastInDim S100000x8 ![0, 1] bcast_S1x8_S100000x8_0_1 (Host.divf (broadcastInDim S1x8 ![1] bcast_S8_S1x8_1 (Host.reduceAdd (V (Proc.devRef .tc main_v63) : FVec Ideal S100000x8 .f32) (constant S_ .f32 0x00000000#32 : FVec Ideal S_ .f32) reducesTo_S100000x8_S8_d0 h_S_ : FVec Ideal S8 .f32) : FVec Ideal S1x8 .f32) (broadcastInDim S1x8 ![] bcast_S_S1x8 (constant S_ .f32 0x47C35000#32 : FVec Ideal S_ .f32) : FVec Ideal S1x8 .f32) : FVec Ideal S1x8 .f32) : FVec Ideal S100000x8 .f32) : FVec Ideal S100000x8 .f32) (subf (V (Proc.devRef .tc main_v63) : FVec Ideal S100000x8 .f32) (broadcastInDim S100000x8 ![0, 1] bcast_S1x8_S100000x8_0_1 (Host.divf (broadcastInDim S1x8 ![1] bcast_S8_S1x8_1 (Host.reduceAdd (V (Proc.devRef .tc main_v63) : FVec Ideal S100000x8 .f32) (constant S_ .f32 0x00000000#32 : FVec Ideal S_ .f32) reducesTo_S100000x8_S8_d0 h_S_ : FVec Ideal S8 .f32) : FVec Ideal S1x8 .f32) (broadcastInDim S1x8 ![] bcast_S_S1x8 (constant S_ .f32 0x47C35000#32 : FVec Ideal S_ .f32) : FVec Ideal S1x8 .f32) : FVec Ideal S1x8 .f32) : FVec Ideal S100000x8 .f32) : FVec Ideal S100000x8 .f32) : FVec Ideal S100000x8 .f32) (constant S_ .f32 0x00000000#32 : FVec Ideal S_ .f32) reducesTo_S100000x8_S8_d0 h_S_ : FVec Ideal S8 .f32) (broadcastInDim S8 ![] bcast_S_S8 (subf (constant S_ .f32 0x47C35000#32 : FVec Ideal S_ .f32) (sitofp .f32 (V (Proc.devRef .tc main_c_16) : IVec S_ 32) : FVec Ideal S_ .f32) : FVec Ideal S_ .f32) : FVec Ideal S8 .f32) : FVec Ideal S8 .f32) (broadcastInDim S8 ![] bcast_S_S8 ((constant S_ .f32 0x7FC00000#32 : FVec Ideal S_ .f32) : FVec Ideal S_ .f32) : FVec Ideal S8 .f32) : FVec Ideal S8 .f32) := by
  after_reads_simp <;> rfl

theorem kform_v68 (h : Fin 8) (c : Fin 16) (y_arg9 : FVec Ideal S128 .f32) :
    ((shapeCast _ y_arg9 shapeCasts_S128_S8x16 : FVec Ideal S8x16 .f32) (ix2 h c) : EReal)
      = y_arg9 (ix1 (fl h c)) := by
  pointwise []
  rfl

theorem read_v68 (V : Valuation τ sig (Elt Ideal)) :
    (StableHlo.after (hostOps1_2 (F := Ideal)) V (Proc.devRef .tc main_v68) : FVec Ideal S8x16 .f32)
      = (shapeCast _ (V (Proc.devRef .tc main_arg9) : FVec Ideal S128 .f32) shapeCasts_S128_S8x16 : FVec Ideal S8x16 .f32) := by
  after_reads_simp <;> rfl

theorem kform_v69 (h : Fin 8) (c : Fin 16) (y_arg10 : FVec Ideal S128 .f32) :
    ((shapeCast _ y_arg10 shapeCasts_S128_S8x16 : FVec Ideal S8x16 .f32) (ix2 h c) : EReal)
      = y_arg10 (ix1 (fl h c)) := by
  pointwise []
  rfl

theorem read_v69 (V : Valuation τ sig (Elt Ideal)) :
    (StableHlo.after (hostOps1_2 (F := Ideal)) V (Proc.devRef .tc main_v69) : FVec Ideal S8x16 .f32)
      = (shapeCast _ (V (Proc.devRef .tc main_arg10) : FVec Ideal S128 .f32) shapeCasts_S128_S8x16 : FVec Ideal S8x16 .f32) := by
  after_reads_simp <;> rfl

theorem kform_v71 (h : Fin 8) (c : Fin 16) (y_v66 : FVec Ideal S8 .f32) :
    ((broadcastInDim S8x16 ![0, 1] bcast_S8x1_S8x16_0_1 (broadcastInDim S8x1 ![0] bcast_S8_S8x1_0 y_v66 : FVec Ideal S8x1 .f32) : FVec Ideal S8x16 .f32) (ix2 h c) : EReal)
      = y_v66 (ix1 h) := by
  pointwise []

theorem read_v71 (V : Valuation τ sig (Elt Ideal)) :
    (StableHlo.after (hostOps1_2 (F := Ideal)) V (Proc.devRef .tc main_v71) : FVec Ideal S8x16 .f32)
      = (broadcastInDim S8x16 ![0, 1] bcast_S8x1_S8x16_0_1 (broadcastInDim S8x1 ![0] bcast_S8_S8x1_0 (V (Proc.devRef .tc main_v66) : FVec Ideal S8 .f32) : FVec Ideal S8x1 .f32) : FVec Ideal S8x16 .f32) := by
  after_reads_simp <;> rfl

theorem kform_v73 (h : Fin 8) (c : Fin 16) (y_v67 : FVec Ideal S8 .f32) :
    ((broadcastInDim S8x16 ![0, 1] bcast_S8x1_S8x16_0_1 (broadcastInDim S8x1 ![0] bcast_S8_S8x1_0 y_v67 : FVec Ideal S8x1 .f32) : FVec Ideal S8x16 .f32) (ix2 h c) : EReal)
      = y_v67 (ix1 h) := by
  pointwise []

theorem read_v73 (V : Valuation τ sig (Elt Ideal)) :
    (StableHlo.after (hostOps1_2 (F := Ideal)) V (Proc.devRef .tc main_v73) : FVec Ideal S8x16 .f32)
      = (broadcastInDim S8x16 ![0, 1] bcast_S8x1_S8x16_0_1 (broadcastInDim S8x1 ![0] bcast_S8_S8x1_0 (V (Proc.devRef .tc main_v67) : FVec Ideal S8 .f32) : FVec Ideal S8x1 .f32) : FVec Ideal S8x16 .f32) := by
  after_reads_simp <;> rfl

end Cert.Graph
-- ==== Proof.HostVal1.lean ====
/- What the kernel's host operations between its first two launches leave in each array, as real numbers. -/
module

public import proofs.«01_k».proof.Proof.Gen.KernelIdeal.Frame
public import proofs.«01_k».proof.Proof.Inputs
public import proofs.«01_k».proof.Proof.Formulas
public import Idealize.ShloMosaic.Lib.StableHlo.RunRead
public import Idealize.ShloMosaic.Lib.Pointwise
public import proofs.«01_k».proof.Proof.HostForm1
public import proofs.«01_k».proof.Proof.HostVal0

@[expose] public section

noncomputable section

namespace Cert.Graph

open Idealize.ShloMosaic Idealize.ShloMosaic.StableHlo Cert.KernelIdeal Cert.KernelIdeal.Gen
open scoped BigOperators

section
variable {a : Net} {V : Valuation τ sig (Elt Ideal)} (H : HoldsV a V) (hw1 : ∀ e : Fin 1600000, @Eq (BitVec 32) ((V (Proc.devRef .tc main_v24) : IVec S1600000 32) (ix1 e)) ((V (Proc.devRef .tc main_arg1) : IVec S2x1600000 32) (ix2 1 e))) (hx : ∀ (e : Fin 1600000) (h : Fin 8), @Eq EReal ((V (Proc.devRef .tc main_v54_0) : FVec Ideal S1600000x8 .f32) (ix2 e h)) ((a.ex1 e h : ℝ) : EReal)) (hm : ∀ (e : Fin 1600000) (h : Fin 8), @Eq EReal ((V (Proc.devRef .tc main_v54_1) : FVec Ideal S1600000x8 .f32) (ix2 e h)) ((a.ex1 e h * (a.xn (a.s e) * a.ew e) : ℝ) : EReal))
include H hw1 hx hm

omit hx hm
omit H in
theorem word_v56 (e : Fin 1600000) : @Eq (BitVec 32) ((StableHlo.after (hostOps1 (F := Ideal)) V (Proc.devRef .tc main_v56) : IVec S1600000x1 32) (ix2 e 0)) ((V (Proc.devRef .tc main_arg1) : IVec S2x1600000 32) (ix2 1 e)) :=
  (congrFun (read_v56 V) (ix2 e 0)).trans ((kform_v56 e (V (Proc.devRef .tc main_v24) : IVec S1600000 32)).trans (hw1 e))

theorem into_v56 (n : Fin 100000) : into (StableHlo.after (hostOps1 (F := Ideal)) V (Proc.devRef .tc main_v56) : IVec S1600000x1 32) n = a.into n := by
  ext e
  rw [mem_into, H.hinto]
  exact iff_of_eq (congrArg (fun w : BitVec 32 => w.toInt = (n.val : Int)) (word_v56 hw1 e))

omit H in
theorem word_v59 (e : Fin 1600000) : @Eq (BitVec 32) ((StableHlo.after (hostOps1 (F := Ideal)) V (Proc.devRef .tc main_v59) : IVec S1600000x1 32) (ix2 e 0)) ((V (Proc.devRef .tc main_arg1) : IVec S2x1600000 32) (ix2 1 e)) :=
  (congrFun (read_v59 V) (ix2 e 0)).trans ((kform_v59 e (V (Proc.devRef .tc main_v24) : IVec S1600000 32)).trans (hw1 e))

theorem into_v59 (n : Fin 100000) : into (StableHlo.after (hostOps1 (F := Ideal)) V (Proc.devRef .tc main_v59) : IVec S1600000x1 32) n = a.into n := by
  ext e
  rw [mem_into, H.hinto]
  exact iff_of_eq (congrArg (fun w : BitVec 32 => w.toInt = (n.val : Int)) (word_v59 hw1 e))

include hx
theorem val_v57 (n : Fin 100000) (h : Fin 8) : @Eq (EReal) ((StableHlo.after (hostOps1 (F := Ideal)) V (Proc.devRef .tc main_v57) : FVec Ideal S100000x8 .f32) (ix2 n h)) (((a.den1 n h : ℝ) : EReal)) := by
  refine (congrFun (read_v57 V) (ix2 n h)).trans ?_
  refine (segment2_apply Facts₀.scatter_S100000x8_S1600000x1_S1600000x8_1_0_0_1_wf (StableHlo.after (hostOps1 (F := Ideal)) V (Proc.devRef .tc main_v55) : FVec Ideal S100000x8 .f32) (StableHlo.after (hostOps1 (F := Ideal)) V (Proc.devRef .tc main_v56) : IVec S1600000x1 32) (V (Proc.devRef .tc main_v54_0) : FVec Ideal S1600000x8 .f32) n h).trans ?_
  rw [into_v56 H hw1, show @Eq EReal ((StableHlo.after (hostOps1 (F := Ideal)) V (Proc.devRef .tc main_v55) : FVec Ideal S100000x8 .f32) (ix2 n h)) 0 from (congrFun (read_v55 V) (ix2 n h)).trans (kform_v55 n h), zero_add]
  exact sum_real fun e _ => hx e h

include hm
omit hx
theorem val_v60 (n : Fin 100000) (h : Fin 8) : @Eq (EReal) ((StableHlo.after (hostOps1 (F := Ideal)) V (Proc.devRef .tc main_v60) : FVec Ideal S100000x8 .f32) (ix2 n h)) (((a.num1 n h : ℝ) : EReal)) := by
  refine (congrFun (read_v60 V) (ix2 n h)).trans ?_
  refine (segment2_apply Facts₀.scatter_S100000x8_S1600000x1_S1600000x8_1_0_0_1_wf (StableHlo.after (hostOps1 (F := Ideal)) V (Proc.devRef .tc main_v58) : FVec Ideal S100000x8 .f32) (StableHlo.after (hostOps1 (F := Ideal)) V (Proc.devRef .tc main_v59) : IVec S1600000x1 32) (V (Proc.devRef .tc main_v54_1) : FVec Ideal S1600000x8 .f32) n h).trans ?_
  rw [into_v59 H hw1, show @Eq EReal ((StableHlo.after (hostOps1 (F := Ideal)) V (Proc.devRef .tc main_v58) : FVec Ideal S100000x8 .f32) (ix2 n h)) 0 from (congrFun (read_v58 V) (ix2 n h)).trans (kform_v58 n h), zero_add]
  exact sum_real fun e _ => hm e h

include hx
theorem val_v63 (n : Fin 100000) (h : Fin 8) : @Eq (EReal) ((StableHlo.after (hostOps1 (F := Ideal)) V (Proc.devRef .tc main_v63) : FVec Ideal S100000x8 .f32) (ix2 n h)) (((a.s1 n h : ℝ) : EReal)) := by
  refine (congrFun (read_v63 V) (ix2 n h)).trans ((kform_v63 n h (StableHlo.after (hostOps1 (F := Ideal)) V (Proc.devRef .tc main_v60) : FVec Ideal S100000x8 .f32) (StableHlo.after (hostOps1 (F := Ideal)) V (Proc.devRef .tc main_v57) : FVec Ideal S100000x8 .f32)).trans ?_)
  rw [val_v57 H hw1 hx, val_v60 H hw1 hm, word_e16, ← H.he16]
  exact quot_real _ _ _ (a.den1_pos _ _)

theorem val_v66 (h : Fin 8) : @Eq (EReal) ((StableHlo.after (hostOps1 (F := Ideal)) V (Proc.devRef .tc main_v66) : FVec Ideal S8 .f32) (ix1 h)) (((a.mh h : ℝ) : EReal)) := by
  refine (congrFun (read_v66 V) (ix1 h)).trans ((kform_v66 h (StableHlo.after (hostOps1 (F := Ideal)) V (Proc.devRef .tc main_v63) : FVec Ideal S100000x8 .f32)).trans ?_)
  exact mean_real fun n => val_v63 H hw1 hx hm n h

end

theorem val_c_16 (V : Valuation τ sig (Elt Ideal)) : @Eq (BitVec 32) ((StableHlo.after (hostOps1 (F := Ideal)) V (Proc.devRef .tc main_c_16) : IVec S_ 32) ix0) 0#32 :=
  (congrFun (read_c_16 V) ix0).trans kform_c_16

section
variable {f : Fin 100000 → Fin 8 → ℝ} {V : Valuation τ sig (Elt Ideal)} (hs : ∀ (n : Fin 100000) (h : Fin 8), @Eq EReal ((V (Proc.devRef .tc main_v63) : FVec Ideal S100000x8 .f32) (ix2 n h)) ((f n h : ℝ) : EReal)) (hc : @Eq (BitVec 32) ((V (Proc.devRef .tc main_c_16) : IVec S_ 32) ix0) 0#32)
include hs hc

theorem val_v67 (h : Fin 8) : @Eq (EReal) ((StableHlo.after (hostOps1_1 (F := Ideal)) V (Proc.devRef .tc main_v67) : FVec Ideal S8 .f32) (ix1 h)) (((var fun n => f n h : ℝ) : EReal)) := by
  refine (congrFun (read_v67 V) (ix1 h)).trans ((kform_v67 h (V (Proc.devRef .tc main_c_16) : IVec S_ 32) (V (Proc.devRef .tc main_v63) : FVec Ideal S100000x8 .f32)).trans ?_)
  rw [hc]
  exact var_real (fun n => hs n h) _

end

section
variable {a : Net} {V : Valuation τ sig (Elt Ideal)} (H : HoldsV a V)
include H

theorem val_v68 (h : Fin 8) (c : Fin 16) : @Eq (EReal) ((StableHlo.after (hostOps1_2 (F := Ideal)) V (Proc.devRef .tc main_v68) : FVec Ideal S8x16 .f32) (ix2 h c)) (((a.g1 h c : ℝ) : EReal)) := by
  refine (congrFun (read_v68 V) (ix2 h c)).trans ((kform_v68 h c (V (Proc.devRef .tc main_arg9) : FVec Ideal S128 .f32)).trans ?_)
  exact H.h9 h c

theorem val_v69 (h : Fin 8) (c : Fin 16) : @Eq (EReal) ((StableHlo.after (hostOps1_2 (F := Ideal)) V (Proc.devRef .tc main_v69) : FVec Ideal S8x16 .f32) (ix2 h c)) (((a.be1 h c : ℝ) : EReal)) := by
  refine (congrFun (read_v69 V) (ix2 h c)).trans ((kform_v69 h c (V (Proc.devRef .tc main_arg10) : FVec Ideal S128 .f32)).trans ?_)
  exact H.h10 h c

end

theorem val_v71 (V : Valuation τ sig (Elt Ideal)) (h : Fin 8) (c : Fin 16) : @Eq EReal ((StableHlo.after (hostOps1_2 (F := Ideal)) V (Proc.devRef .tc main_v71) : FVec Ideal S8x16 .f32) (ix2 h c)) ((V (Proc.devRef .tc main_v66) : FVec Ideal S8 .f32) (ix1 h)) :=
  (congrFun (read_v71 V) (ix2 h c)).trans (kform_v71 h c _)

theorem val_v73 (V : Valuation τ sig (Elt Ideal)) (h : Fin 8) (c : Fin 16) : @Eq EReal ((StableHlo.after (hostOps1_2 (F := Ideal)) V (Proc.devRef .tc main_v73) : FVec Ideal S8x16 .f32) (ix2 h c)) ((V (Proc.devRef .tc main_v67) : FVec Ideal S8 .f32) (ix1 h)) :=
  (congrFun (read_v73 V) (ix2 h c)).trans (kform_v73 h c _)

end Cert.Graph
-- ==== Proof.Region0.lean ====
/- What the first call leaves in its two output arrays: the exponential of every edge's logit, and that times the edge's
   message, at an edge and a head, from the arrays it is called with. -/
module

public import proofs.«01_k».proof.Proof.Gen.KernelIdeal.Frame
public import proofs.«01_k».proof.Proof.Spec
public import Idealize.ShloMosaic.Lib.Pointwise
public import Idealize.ShloMosaic.Lib.Pipeline.Covers
public import Idealize.ShloMosaic.Lib.Pipeline.ValueKit.Acc
public import Idealize.ShloMosaic.Lib.Pipeline.ValueKit.Point

@[expose] public section

noncomputable section

namespace Cert.Graph

open Cert.KernelIdeal Cert.KernelIdeal.Gen Idealize.ShloMosaic Idealize.ShloMosaic.TcCoe Idealize.SL.Sem
open scoped BigOperators

theorem nblk0_6 : (cfg0.win 6).nblk 0 = 320 ∧ (cfg0.win 6).nblk 1 = 1 := by decide

/-- The blocks of output 6 cover its array. -/
theorem covers0_6 : (cfg0.win 6).Covers :=
  (cfg0.win 6).covers_of_indexMap_surj rfl (by decide) fun β =>
    ⟨fun a => match a with
      | ⟨0, _⟩ => ⟨(β 0).val, lt_of_lt_of_eq (β 0).isLt nblk0_6.1⟩, fun a => by
      match a with
      | ⟨0, _⟩ =>
        have := lt_of_lt_of_eq (β 0).isLt nblk0_6.1
        show (BitVec.ofNat 32 (β 0).val).toNat = (β 0).val
        rw [BitVec.toNat_ofNat]; omega
      | ⟨1, _⟩ =>
        have := lt_of_lt_of_eq (β 1).isLt nblk0_6.2
        show 0 = (β 1).val
        omega⟩

theorem nblk0_7 : (cfg0.win 7).nblk 0 = 320 ∧ (cfg0.win 7).nblk 1 = 1 := by decide

/-- The blocks of output 7 cover its array. -/
theorem covers0_7 : (cfg0.win 7).Covers :=
  (cfg0.win 7).covers_of_indexMap_surj rfl (by decide) fun β =>
    ⟨fun a => match a with
      | ⟨0, _⟩ => ⟨(β 0).val, lt_of_lt_of_eq (β 0).isLt nblk0_7.1⟩, fun a => by
      match a with
      | ⟨0, _⟩ =>
        have := lt_of_lt_of_eq (β 0).isLt nblk0_7.1
        show (BitVec.ofNat 32 (β 0).val).toNat = (β 0).val
        rw [BitVec.toNat_ofNat]; omega
      | ⟨1, _⟩ =>
        have := lt_of_lt_of_eq (β 1).isLt nblk0_7.2
        show 0 = (β 1).val
        omega⟩

/-- Which block of each array point `t` of the grid reads or writes. -/
theorem idx0 : ∀ t : Fin cfg0.N, (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = t.val ∧ win0_6.index t 1 = 0)
    ∧ (win0_7.index t 0 = t.val ∧ win0_7.index t 1 = 0) := by
  decide +kernel

/-- An edge's logit at a head. -/
def logitOf (xs xd : FVec Ideal S1600000x1 .f32) (cs cd : FVec Ideal S1x8 .f32) (e : Fin 1600000) (h : Fin 8) : EReal :=
  xs (ix2 e 0) * cs (ix2 0 h) + xd (ix2 e 0) * cd (ix2 0 h)

/-- The exponential of the rectified logit less the bound. -/
def expOf (xs xd : FVec Ideal S1600000x1 .f32) (cs cd : FVec Ideal S1x8 .f32) (b : FVec Ideal S1x1 .f32) (e : Fin 1600000) (h : Fin 8) : EReal :=
  Ideal.exp ((if 0 < logitOf xs xd cs cd e h then logitOf xs xd cs cd e h
    else Ideal.ofBits .f32 0x3E4CCCCD#32 * logitOf xs xd cs cd e h) - b (ix2 0 0))

/-- The exponential times the source's value times the edge's weight. -/
def msgOf (xs xd ew : FVec Ideal S1600000x1 .f32) (cs cd : FVec Ideal S1x8 .f32) (b : FVec Ideal S1x1 .f32) (e : Fin 1600000) (h : Fin 8) : EReal :=
  expOf xs xd cs cd b e h * (xs (ix2 e 0) * ew (ix2 e 0))

variable (V : (c : Dev nD) → (b : Ref sig .tc) → Buf (Elt Ideal) ((c : Thread nD τ).loc b)) (c : Dev nD)

/-- The first output. -/
theorem region0_ex : (dat0 V c).arrAt 6 cfg0.N = fun y => expOf (V c main_v42) (V c main_v50) (V c main_v51) (V c main_v52) (V c main_v53) (y 0) (y 1) :=
  (dat0 V c).arrAt_eq_of_covers 6 _ covers0_6 fun t hf y => by
    blk_simp
    rw [after0_6]
    frame_out
    idx_vars y
    pointwise [k0_pay1, expOf, logitOf]
    blk_point [iblk0, idx0 t]

/-- The second output. -/
theorem region0_msg : (dat0 V c).arrAt 7 cfg0.N = fun y => msgOf (V c main_v42) (V c main_v50) (V c main_v25) (V c main_v51) (V c main_v52) (V c main_v53) (y 0) (y 1) :=
  (dat0 V c).arrAt_eq_of_covers 7 _ covers0_7 fun t hf y => by
    blk_simp
    rw [after0_7]
    frame_out
    idx_vars y
    pointwise [k0_pay2, k0_pay1, msgOf, expOf, logitOf]
    blk_point [iblk0, idx0 t]

end Cert.Graph
-- ==== Proof.Region1.lean ====
/- What the second call leaves in its three output arrays: the features of layer 2 at every node, and what each node adds to the
   logit of an edge out of it and into it, from the arrays it is called with. -/
module

public import proofs.«01_k».proof.Proof.Gen.KernelIdeal.Frame
public import proofs.«01_k».proof.Proof.Spec
public import Idealize.ShloMosaic.Lib.Pointwise
public import Idealize.ShloMosaic.Lib.Pipeline.Covers
public import Idealize.ShloMosaic.Lib.Pipeline.ValueKit.Acc
public import Idealize.ShloMosaic.Lib.Pipeline.ValueKit.Point

@[expose] public section

noncomputable section

namespace Cert.Graph

open Cert.KernelIdeal Cert.KernelIdeal.Gen Idealize.ShloMosaic Idealize.ShloMosaic.TcCoe Idealize.SL.Sem
open scoped BigOperators

theorem nblk1_10 : (cfg1.win 10).nblk 0 = 100 ∧ (cfg1.win 10).nblk 1 = 1 := by decide

/-- The blocks of output 10 cover its array. -/
theorem covers1_10 : (cfg1.win 10).Covers :=
  (cfg1.win 10).covers_of_indexMap_surj rfl (by decide) fun β =>
    ⟨fun a => match a with
      | ⟨0, _⟩ => ⟨(β 0).val, lt_of_lt_of_eq (β 0).isLt nblk1_10.1⟩, fun a => by
      match a with
      | ⟨0, _⟩ =>
        have := lt_of_lt_of_eq (β 0).isLt nblk1_10.1
        show (BitVec.ofNat 32 (β 0).val).toNat = (β 0).val
        rw [BitVec.toNat_ofNat]; omega
      | ⟨1, _⟩ =>
        have := lt_of_lt_of_eq (β 1).isLt nblk1_10.2
        show 0 = (β 1).val
        omega⟩

theorem nblk1_11 : (cfg1.win 11).nblk 0 = 100 ∧ (cfg1.win 11).nblk 1 = 1 := by decide

/-- The blocks of output 11 cover its array. -/
theorem covers1_11 : (cfg1.win 11).Covers :=
  (cfg1.win 11).covers_of_indexMap_surj rfl (by decide) fun β =>
    ⟨fun a => match a with
      | ⟨0, _⟩ => ⟨(β 0).val, lt_of_lt_of_eq (β 0).isLt nblk1_11.1⟩, fun a => by
      match a with
      | ⟨0, _⟩ =>
        have := lt_of_lt_of_eq (β 0).isLt nblk1_11.1
        show (BitVec.ofNat 32 (β 0).val).toNat = (β 0).val
        rw [BitVec.toNat_ofNat]; omega
      | ⟨1, _⟩ =>
        have := lt_of_lt_of_eq (β 1).isLt nblk1_11.2
        show 0 = (β 1).val
        omega⟩

theorem nblk1_12 : (cfg1.win 12).nblk 0 = 100 ∧ (cfg1.win 12).nblk 1 = 1 := by decide

/-- The blocks of output 12 cover its array. -/
theorem covers1_12 : (cfg1.win 12).Covers :=
  (cfg1.win 12).covers_of_indexMap_surj rfl (by decide) fun β =>
    ⟨fun a => match a with
      | ⟨0, _⟩ => ⟨(β 0).val, lt_of_lt_of_eq (β 0).isLt nblk1_12.1⟩, fun a => by
      match a with
      | ⟨0, _⟩ =>
        have := lt_of_lt_of_eq (β 0).isLt nblk1_12.1
        show (BitVec.ofNat 32 (β 0).val).toNat = (β 0).val
        rw [BitVec.toNat_ofNat]; omega
      | ⟨1, _⟩ =>
        have := lt_of_lt_of_eq (β 1).isLt nblk1_12.2
        show 0 = (β 1).val
        omega⟩

/-- Which block of each array point `t` of the grid reads or writes. -/
theorem idx1 : ∀ t : Fin cfg1.N, (win1_0.index t 0 = t.val ∧ win1_0.index t 1 = 0)
    ∧ (win1_1.index t 0 = t.val ∧ win1_1.index t 1 = 0)
    ∧ (win1_2.index t 0 = 0 ∧ win1_2.index t 1 = 0)
    ∧ (win1_3.index t 0 = 0 ∧ win1_3.index t 1 = 0)
    ∧ (win1_4.index t 0 = 0 ∧ win1_4.index t 1 = 0)
    ∧ (win1_5.index t 0 = 0 ∧ win1_5.index t 1 = 0)
    ∧ (win1_6.index t 0 = 0 ∧ win1_6.index t 1 = 0)
    ∧ (win1_7.index t 0 = 0 ∧ win1_7.index t 1 = 0)
    ∧ (win1_8.index t 0 = 0 ∧ win1_8.index t 1 = 0)
    ∧ (win1_9.index t 0 = 0 ∧ win1_9.index t 1 = 0)
    ∧ (win1_10.index t 0 = t.val ∧ win1_10.index t 1 = 0)
    ∧ (win1_11.index t 0 = t.val ∧ win1_11.index t 1 = 0)
    ∧ (win1_12.index t 0 = t.val ∧ win1_12.index t 1 = 0) := by
  decide +kernel

/-- The rectified batch norm of layer 1 at a node, a head and a channel. -/
def normOf (den num : FVec Ideal S100000x8 .f32) (W1 g be mh vh : FVec Ideal S8x16 .f32) (n : Fin 100000) (h : Fin 8) (k : Fin 16) : EReal :=
  max (Ideal.div ((Ideal.div (num (ix2 n h)) (den (ix2 n h) + Ideal.ofBits .f32 0x24E69595#32) - mh (ix2 h 0)) * W1 (ix2 h k))
    (Ideal.sqrt (vh (ix2 h k) * (W1 (ix2 h k) * W1 (ix2 h k)) + Ideal.ofBits .f32 0x3727C5AC#32)) * g (ix2 h k) + be (ix2 h k)) 0

/-- A feature of layer 2. -/
def featOf (den num : FVec Ideal S100000x8 .f32) (W1 g be : FVec Ideal S8x16 .f32) (W2 : FVec Ideal S128x32 .f32) (mh vh : FVec Ideal S8x16 .f32) (n : Fin 100000) (o : Fin 32) : EReal :=
  ∑ k : Fin 128, normOf den num W1 g be mh vh n (hd k) (ch k) * W2 (ix2 k o)

/-- The features weighed by a row of coefficients. -/
def weighOf (den num : FVec Ideal S100000x8 .f32) (W1 g be : FVec Ideal S8x16 .f32) (W2 : FVec Ideal S128x32 .f32) (co : FVec Ideal S1x32 .f32) (mh vh : FVec Ideal S8x16 .f32) (n : Fin 100000) : EReal :=
  ∑ o : Fin 32, featOf den num W1 g be W2 mh vh n o * co (ix2 0 o)

variable (V : (c : Dev nD) → (b : Ref sig .tc) → Buf (Elt Ideal) ((c : Thread nD τ).loc b)) (c : Dev nD)

/-- The first output. -/
theorem region1_feat : (dat1 V c).arrAt 10 cfg1.N = fun y => featOf (V c main_v57) (V c main_v60) (V c main_v16) (V c main_v68) (V c main_v69) (V c main_arg11) (V c main_v71) (V c main_v73) (y 0) (y 1) :=
  (dat1 V c).arrAt_eq_of_covers 10 _ covers1_10 fun t hf y => by
    blk_simp
    rw [after1_10]
    frame_out
    idx_vars y
    pointwise [k1_pay1, k1_pay6, k1_pay7, k1_pay4, k1_pay5, featOf, normOf, hd, ch]
    blk_point [iblk1, idx1 t]

/-- The second output. -/
theorem region1_src : (dat1 V c).arrAt 11 cfg1.N = fun y => weighOf (V c main_v57) (V c main_v60) (V c main_v16) (V c main_v68) (V c main_v69) (V c main_arg11) (V c main_arg12) (V c main_v71) (V c main_v73) (y 0)  :=
  (dat1 V c).arrAt_eq_of_covers 11 _ covers1_11 fun t hf y => by
    blk_simp
    rw [after1_11]
    frame_out
    idx_vars y
    pointwise [k1_pay2, k1_pay1, k1_pay6, k1_pay7, k1_pay4, k1_pay5, weighOf, featOf, normOf, hd, ch]
    blk_point [iblk1, idx1 t]

/-- The third output. -/
theorem region1_dst : (dat1 V c).arrAt 12 cfg1.N = fun y => weighOf (V c main_v57) (V c main_v60) (V c main_v16) (V c main_v68) (V c main_v69) (V c main_arg11) (V c main_arg13) (V c main_v71) (V c main_v73) (y 0)  :=
  (dat1 V c).arrAt_eq_of_covers 12 _ covers1_12 fun t hf y => by
    blk_simp
    rw [after1_12]
    frame_out
    idx_vars y
    pointwise [k1_pay3, k1_pay1, k1_pay6, k1_pay7, k1_pay4, k1_pay5, weighOf, featOf, normOf, hd, ch]
    blk_point [iblk1, idx1 t]

end Cert.Graph
-- ==== Proof.Region2.lean ====
/- What the third call leaves in its two output arrays: the exponential of every edge's logit of layer 2, and the source's
   features times that and the edge's weight, from the arrays it is called with. -/
module

public import proofs.«01_k».proof.Proof.Gen.KernelIdeal.Frame
public import proofs.«01_k».proof.Proof.Spec
public import Idealize.ShloMosaic.Lib.Pointwise
public import Idealize.ShloMosaic.Lib.Pipeline.Covers
public import Idealize.ShloMosaic.Lib.Pipeline.ValueKit.Acc
public import Idealize.ShloMosaic.Lib.Pipeline.ValueKit.Point

@[expose] public section

noncomputable section

namespace Cert.Graph

open Cert.KernelIdeal Cert.KernelIdeal.Gen Idealize.ShloMosaic Idealize.ShloMosaic.TcCoe Idealize.SL.Sem
open scoped BigOperators

theorem nblk2_5 : (cfg2.win 5).nblk 0 = 320 ∧ (cfg2.win 5).nblk 1 = 1 := by decide

/-- The blocks of output 5 cover its array. -/
theorem covers2_5 : (cfg2.win 5).Covers :=
  (cfg2.win 5).covers_of_indexMap_surj rfl (by decide) fun β =>
    ⟨fun a => match a with
      | ⟨0, _⟩ => ⟨(β 0).val, lt_of_lt_of_eq (β 0).isLt nblk2_5.1⟩, fun a => by
      match a with
      | ⟨0, _⟩ =>
        have := lt_of_lt_of_eq (β 0).isLt nblk2_5.1
        show (BitVec.ofNat 32 (β 0).val).toNat = (β 0).val
        rw [BitVec.toNat_ofNat]; omega
      | ⟨1, _⟩ =>
        have := lt_of_lt_of_eq (β 1).isLt nblk2_5.2
        show 0 = (β 1).val
        omega⟩

theorem nblk2_6 : (cfg2.win 6).nblk 0 = 320 ∧ (cfg2.win 6).nblk 1 = 1 := by decide

/-- The blocks of output 6 cover its array. -/
theorem covers2_6 : (cfg2.win 6).Covers :=
  (cfg2.win 6).covers_of_indexMap_surj rfl (by decide) fun β =>
    ⟨fun a => match a with
      | ⟨0, _⟩ => ⟨(β 0).val, lt_of_lt_of_eq (β 0).isLt nblk2_6.1⟩, fun a => by
      match a with
      | ⟨0, _⟩ =>
        have := lt_of_lt_of_eq (β 0).isLt nblk2_6.1
        show (BitVec.ofNat 32 (β 0).val).toNat = (β 0).val
        rw [BitVec.toNat_ofNat]; omega
      | ⟨1, _⟩ =>
        have := lt_of_lt_of_eq (β 1).isLt nblk2_6.2
        show 0 = (β 1).val
        omega⟩

/-- Which block of each array point `t` of the grid reads or writes. -/
theorem idx2 : ∀ t : Fin cfg2.N, (win2_0.index t 0 = t.val ∧ win2_0.index t 1 = 0)
    ∧ (win2_1.index t 0 = t.val ∧ win2_1.index t 1 = 0)
    ∧ (win2_2.index t 0 = t.val ∧ win2_2.index t 1 = 0)
    ∧ (win2_3.index t 0 = t.val ∧ win2_3.index t 1 = 0)
    ∧ (win2_4.index t 0 = 0 ∧ win2_4.index t 1 = 0)
    ∧ (win2_5.index t 0 = t.val ∧ win2_5.index t 1 = 0)
    ∧ (win2_6.index t 0 = t.val ∧ win2_6.index t 1 = 0) := by
  decide +kernel

/-- The exponential of the rectified logit less the bound. -/
def expOf2 (asr adr : FVec Ideal S1600000x1 .f32) (b : FVec Ideal S1x1 .f32) (e : Fin 1600000) : EReal :=
  Ideal.exp ((if 0 < asr (ix2 e 0) + adr (ix2 e 0) then asr (ix2 e 0) + adr (ix2 e 0)
    else Ideal.ofBits .f32 0x3E4CCCCD#32 * (asr (ix2 e 0) + adr (ix2 e 0))) - b (ix2 0 0))

/-- The source's feature times the exponential times the edge's weight. -/
def msgOf2 (asr adr ew : FVec Ideal S1600000x1 .f32) (hg : FVec Ideal S1600000x32 .f32) (b : FVec Ideal S1x1 .f32) (e : Fin 1600000) (o : Fin 32) : EReal :=
  hg (ix2 e o) * (expOf2 asr adr b e * ew (ix2 e 0))

variable (V : (c : Dev nD) → (b : Ref sig .tc) → Buf (Elt Ideal) ((c : Thread nD τ).loc b)) (c : Dev nD)

/-- The first output. -/
theorem region2_ex : (dat2 V c).arrAt 5 cfg2.N = fun y => expOf2 (V c main_v88) (V c main_v96) (V c main_v104) (y 0)  :=
  (dat2 V c).arrAt_eq_of_covers 5 _ covers2_5 fun t hf y => by
    blk_simp
    rw [after2_5]
    frame_out
    idx_vars y
    pointwise [k2_pay1, expOf2]
    blk_point [iblk2, idx2 t]

/-- The second output. -/
theorem region2_msg : (dat2 V c).arrAt 6 cfg2.N = fun y => msgOf2 (V c main_v88) (V c main_v96) (V c main_v25) (V c main_v103) (V c main_v104) (y 0) (y 1) :=
  (dat2 V c).arrAt_eq_of_covers 6 _ covers2_6 fun t hf y => by
    blk_simp
    rw [after2_6]
    frame_out
    idx_vars y
    pointwise [k2_pay2, k2_pay1, msgOf2, expOf2]
    blk_point [iblk2, idx2 t]

end Cert.Graph
-- ==== Proof.Region3.lean ====
/- What the fourth call leaves in the result: layer 2's bias and rectifier and the two dense layers after it, at a node, from the
   arrays it is called with. -/
module

public import proofs.«01_k».proof.Proof.Gen.KernelIdeal.Frame
public import proofs.«01_k».proof.Proof.Spec
public import Idealize.ShloMosaic.Lib.Pointwise
public import Idealize.ShloMosaic.Lib.Pipeline.Covers
public import Idealize.ShloMosaic.Lib.Pipeline.ValueKit.Acc
public import Idealize.ShloMosaic.Lib.Pipeline.ValueKit.Point

@[expose] public section

noncomputable section

namespace Cert.Graph

open Cert.KernelIdeal Cert.KernelIdeal.Gen Idealize.ShloMosaic Idealize.ShloMosaic.TcCoe Idealize.SL.Sem
open scoped BigOperators

theorem nblk3_7 : (cfg3.win 7).nblk 0 = 100 ∧ (cfg3.win 7).nblk 1 = 1 := by decide

/-- The blocks of output 7 cover its array. -/
theorem covers3_7 : (cfg3.win 7).Covers :=
  (cfg3.win 7).covers_of_indexMap_surj rfl (by decide) fun β =>
    ⟨fun a => match a with
      | ⟨0, _⟩ => ⟨(β 0).val, lt_of_lt_of_eq (β 0).isLt nblk3_7.1⟩, fun a => by
      match a with
      | ⟨0, _⟩ =>
        have := lt_of_lt_of_eq (β 0).isLt nblk3_7.1
        show (BitVec.ofNat 32 (β 0).val).toNat = (β 0).val
        rw [BitVec.toNat_ofNat]; omega
      | ⟨1, _⟩ =>
        have := lt_of_lt_of_eq (β 1).isLt nblk3_7.2
        show 0 = (β 1).val
        omega⟩

/-- Which block of each array point `t` of the grid reads or writes. -/
theorem idx3 : ∀ t : Fin cfg3.N, (win3_0.index t 0 = t.val ∧ win3_0.index t 1 = 0)
    ∧ (win3_1.index t 0 = t.val ∧ win3_1.index t 1 = 0)
    ∧ (win3_2.index t 0 = 0 ∧ win3_2.index t 1 = 0)
    ∧ (win3_3.index t 0 = 0 ∧ win3_3.index t 1 = 0)
    ∧ (win3_4.index t 0 = 0 ∧ win3_4.index t 1 = 0)
    ∧ (win3_5.index t 0 = 0 ∧ win3_5.index t 1 = 0)
    ∧ (win3_6.index t 0 = 0 ∧ win3_6.index t 1 = 0)
    ∧ (win3_7.index t 0 = t.val ∧ win3_7.index t 1 = 0) := by
  decide +kernel

/-- Layer 2 at a node and a channel, after its bias and rectifier. -/
def actOf (den : FVec Ideal S100000x1 .f32) (num : FVec Ideal S100000x32 .f32) (b2 : FVec Ideal S1x32 .f32) (n : Fin 100000) (o : Fin 32) : EReal :=
  max (Ideal.div (num (ix2 n o)) (den (ix2 n 0) + Ideal.ofBits .f32 0x24E69595#32) + b2 (ix2 0 o)) 0

/-- The two dense layers. -/
def outOf (den : FVec Ideal S100000x1 .f32) (num : FVec Ideal S100000x32 .f32) (b2 : FVec Ideal S1x32 .f32) (lw1 : FVec Ideal S32x16 .f32) (lb1 : FVec Ideal S1x16 .f32)
    (lw2 : FVec Ideal S16x1 .f32) (lb2 : FVec Ideal S1x1 .f32) (n : Fin 100000) : EReal :=
  (∑ j : Fin 16, max ((∑ o : Fin 32, actOf den num b2 n o * lw1 (ix2 o j)) + lb1 (ix2 0 j)) 0 * lw2 (ix2 j 0)) + lb2 (ix2 0 0)

variable (V : (c : Dev nD) → (b : Ref sig .tc) → Buf (Elt Ideal) ((c : Thread nD τ).loc b)) (c : Dev nD)

/-- The result. -/
theorem region3_out : (dat3 V c).arrAt 7 cfg3.N = fun y => outOf (V c main_v108) (V c main_v111) (V c main_v112) (V c main_arg15) (V c main_v113) (V c main_arg17) (V c main_v114) (y 0)  :=
  (dat3 V c).arrAt_eq_of_covers 7 _ covers3_7 fun t hf y => by
    blk_simp
    rw [after3_7]
    frame_out
    idx_vars y
    pointwise [k3_pay1, outOf, actOf]
    blk_point [iblk3, idx3 t]

end Cert.Graph
-- ==== Proof.Dense.lean ====
/- The two dense layers that end both programs. -/
module

public import Idealize.ShloMosaic.PureOps.Ideal.Laws
public import Idealize.ShloMosaic.Lib.Pointwise.Index
public import proofs.«01_k».proof.Proof.Inputs

@[expose] public section

noncomputable section

namespace Cert.Graph

open Idealize.ShloMosaic
open scoped BigOperators

/-- The two dense layers on a node's row of attention outputs. -/
def dense (y : Fin 32 → EReal) (x14 : Arr ⟨1, ![32]⟩) (x15 : Arr ⟨2, ![32, 16]⟩) (x16 : Arr ⟨1, ![16]⟩) (x17 : Arr ⟨2, ![16, 1]⟩)
    (x18 : Arr ⟨1, ![1]⟩) : EReal :=
  (∑ j : Fin 16, max ((∑ o : Fin 32, max (y o + x14 (ix1 o)) 0 * x15 (ix2 o j)) + x16 (ix1 j)) 0 * x17 (ix2 j 0)) + x18 (ix1 0)

end Cert.Graph
-- ==== Proof.Values.lean ====
/- What the four launches' formulas come to when the arrays they read hold real numbers. -/
module

public import proofs.«01_k».proof.Proof.Region0
public import proofs.«01_k».proof.Proof.Region1
public import proofs.«01_k».proof.Proof.Region2
public import proofs.«01_k».proof.Proof.Region3
public import proofs.«01_k».proof.Proof.Formulas
public import proofs.«01_k».proof.Proof.Dense

@[expose] public section

noncomputable section

namespace Cert.Graph

open Idealize.ShloMosaic Cert.KernelIdeal Cert.KernelIdeal.Gen
open scoped BigOperators

section Layer1
variable {a : Net} {xs xd ew : FVec Ideal S1600000x1 .f32} {cs cd : FVec Ideal S1x8 .f32} {b : FVec Ideal S1x1 .f32}
  (hr : a.r = slope)
  (hxs : ∀ e : Fin 1600000, @Eq EReal (xs (ix2 e 0)) ((a.xn (a.s e) : ℝ) : EReal))
  (hxd : ∀ e : Fin 1600000, @Eq EReal (xd (ix2 e 0)) ((a.xn (a.d e) : ℝ) : EReal))
  (hcs : ∀ h : Fin 8, @Eq EReal (cs (ix2 0 h)) ((a.cs h : ℝ) : EReal))
  (hcd : ∀ h : Fin 8, @Eq EReal (cd (ix2 0 h)) ((a.cd h : ℝ) : EReal))
  (hb : @Eq EReal (b (ix2 0 0)) ((a.m1 : ℝ) : EReal))
include hxs hxd hcs hcd

theorem logitOf_real (e : Fin 1600000) (h : Fin 8) : logitOf xs xd cs cd e h = ((a.al1 e h : ℝ) : EReal) := by
  unfold logitOf
  rw [hxs, hxd, hcs, hcd, ← EReal.coe_mul, ← EReal.coe_mul, ← EReal.coe_add]
  rfl

include hr hb

theorem expOf_real (e : Fin 1600000) (h : Fin 8) : expOf xs xd cs cd b e h = ((a.ex1 e h : ℝ) : EReal) := by
  unfold expOf
  rw [logitOf_real hxs hxd hcs hcd, word_slope, ← hr, leaky_gt, hb, ← EReal.coe_sub, exp_real]
  rfl

theorem msgOf_real (hew : ∀ e : Fin 1600000, @Eq EReal (ew (ix2 e 0)) ((a.ew e : ℝ) : EReal)) (e : Fin 1600000) (h : Fin 8) :
    msgOf xs xd ew cs cd b e h = ((a.ex1 e h * (a.xn (a.s e) * a.ew e) : ℝ) : EReal) := by
  unfold msgOf
  rw [expOf_real hr hxs hxd hcs hcd hb, hxs, hew, ← EReal.coe_mul, ← EReal.coe_mul]

end Layer1

section Norm
variable {a : Net} {den num : FVec Ideal S100000x8 .f32} {W1 g be mh vh : FVec Ideal S8x16 .f32}
  {W2 : FVec Ideal S128x32 .f32} {co : FVec Ideal S1x32 .f32}
  (h5 : a.e5 = e5) (h16 : a.e16 = e16)
  (hden : ∀ (n : Fin 100000) (h : Fin 8), @Eq EReal (den (ix2 n h)) ((a.den1 n h : ℝ) : EReal))
  (hnum : ∀ (n : Fin 100000) (h : Fin 8), @Eq EReal (num (ix2 n h)) ((a.num1 n h : ℝ) : EReal))
  (hW1 : ∀ (h : Fin 8) (c : Fin 16), @Eq EReal (W1 (ix2 h c)) ((a.W1 h c : ℝ) : EReal))
  (hg : ∀ (h : Fin 8) (c : Fin 16), @Eq EReal (g (ix2 h c)) ((a.g1 h c : ℝ) : EReal))
  (hbe : ∀ (h : Fin 8) (c : Fin 16), @Eq EReal (be (ix2 h c)) ((a.be1 h c : ℝ) : EReal))
  (hmh : ∀ (h : Fin 8) (c : Fin 16), @Eq EReal (mh (ix2 h c)) ((a.mh h : ℝ) : EReal))
  (hvh : ∀ (h : Fin 8) (c : Fin 16), @Eq EReal (vh (ix2 h c)) ((a.vh h : ℝ) : EReal))
  (hW2 : ∀ (k : Fin 128) (o : Fin 32), @Eq EReal (W2 (ix2 k o)) ((a.W2 k o : ℝ) : EReal))
include h5 h16 hden hnum hW1 hg hbe hmh hvh

theorem normOf_real (n : Fin 100000) (h : Fin 8) (c : Fin 16) :
    normOf den num W1 g be mh vh n h c = ((a.h2 n h c : ℝ) : EReal) := by
  unfold normOf
  rw [hden, hnum, hW1, hg, hbe, hmh, hvh, word_e16, word_e5, ← h16, ← h5, quot_real _ _ _ (a.den1_pos n h),
    ← EReal.coe_sub, ← EReal.coe_mul, ← EReal.coe_mul, ← EReal.coe_mul, ← EReal.coe_add, sqrt_real (a.vh_pos h c).le,
    div_real _ (Real.sqrt_pos.mpr (a.vh_pos h c)).ne', ← EReal.coe_mul, ← EReal.coe_add, max_real_zero]
  rfl

include hW2

theorem featOf_real (n : Fin 100000) (o : Fin 32) :
    featOf den num W1 g be W2 mh vh n o = ((a.h2w n o : ℝ) : EReal) := by
  unfold featOf
  exact sum_real fun k _ => by
    rw [normOf_real h5 h16 hden hnum hW1 hg hbe hmh hvh, hW2, ← EReal.coe_mul]

theorem weighOf_real {f : Fin 32 → ℝ} (hco : ∀ o : Fin 32, @Eq EReal (co (ix2 0 o)) ((f o : ℝ) : EReal)) (n : Fin 100000) :
    weighOf den num W1 g be W2 co mh vh n = ((∑ o, a.h2w n o * f o : ℝ) : EReal) := by
  unfold weighOf
  exact sum_real fun o _ => by
    rw [featOf_real h5 h16 hden hnum hW1 hg hbe hmh hvh hW2, hco, ← EReal.coe_mul]

end Norm

section Layer2
variable {a : Net} {asr adr ew : FVec Ideal S1600000x1 .f32} {hg : FVec Ideal S1600000x32 .f32} {b : FVec Ideal S1x1 .f32}
  (hr : a.r = slope)
  (has : ∀ e : Fin 1600000, @Eq EReal (asr (ix2 e 0)) ((a.asv (a.s e) : ℝ) : EReal))
  (had : ∀ e : Fin 1600000, @Eq EReal (adr (ix2 e 0)) ((a.adv (a.d e) : ℝ) : EReal))
  (hb : @Eq EReal (b (ix2 0 0)) ((a.m2 : ℝ) : EReal))
include hr has had hb

theorem expOf2_real (e : Fin 1600000) : expOf2 asr adr b e = ((a.ex2 e : ℝ) : EReal) := by
  unfold expOf2
  rw [has, had, ← EReal.coe_add, word_slope, ← hr, leaky_gt, hb, ← EReal.coe_sub, exp_real]
  rfl

theorem msgOf2_real (hew : ∀ e : Fin 1600000, @Eq EReal (ew (ix2 e 0)) ((a.ew e : ℝ) : EReal))
    (hhg : ∀ (e : Fin 1600000) (o : Fin 32), @Eq EReal (hg (ix2 e o)) ((a.h2w (a.s e) o : ℝ) : EReal))
    (e : Fin 1600000) (o : Fin 32) :
    msgOf2 asr adr ew hg b e o = ((a.h2w (a.s e) o * (a.ex2 e * a.ew e) : ℝ) : EReal) := by
  unfold msgOf2
  rw [expOf2_real hr has had hb, hew, hhg, ← EReal.coe_mul, ← EReal.coe_mul]

end Layer2

section Out
variable {a : Net} {den : FVec Ideal S100000x1 .f32} {num : FVec Ideal S100000x32 .f32} {b2 : FVec Ideal S1x32 .f32}
  {lb1 : FVec Ideal S1x16 .f32} {lb2 : FVec Ideal S1x1 .f32}
  {x14 : Arr ⟨1, ![32]⟩} {x16 : Arr ⟨1, ![16]⟩} {x18 : Arr ⟨1, ![1]⟩}
  (h16 : a.e16 = e16)
  (hden : ∀ n : Fin 100000, @Eq EReal (den (ix2 n 0)) ((a.den2 n : ℝ) : EReal))
  (hnum : ∀ (n : Fin 100000) (o : Fin 32), @Eq EReal (num (ix2 n o)) ((a.num2 n o : ℝ) : EReal))
  (hb2 : ∀ o : Fin 32, @Eq EReal (b2 (ix2 0 o)) (x14 (ix1 o)))
include h16 hden hnum hb2

theorem actOf_real (n : Fin 100000) (o : Fin 32) :
    actOf den num b2 n o = max (((a.g n o : ℝ) : EReal) + x14 (ix1 o)) 0 := by
  unfold actOf
  rw [hden, hnum, hb2, word_e16, ← h16, quot_real _ _ _ (a.den2_pos n)]
  rfl

theorem outOf_real (lw1 : FVec Ideal S32x16 .f32) (lw2 : FVec Ideal S16x1 .f32)
    (h1 : ∀ j : Fin 16, @Eq EReal (lb1 (ix2 0 j)) (x16 (ix1 j))) (h2 : @Eq EReal (lb2 (ix2 0 0)) (x18 (ix1 0)))
    (n : Fin 100000) :
    outOf den num b2 lw1 lb1 lw2 lb2 n = dense (fun o => ((a.g n o : ℝ) : EReal)) x14 lw1 x16 lw2 x18 := by
  unfold outOf dense
  rw [h2]
  refine congrArg (· + x18 (ix1 0)) (Finset.sum_congr rfl fun j _ => ?_)
  rw [h1]
  refine congrArg (fun z => max (z + x16 (ix1 j)) 0 * lw2 (ix2 j 0)) (Finset.sum_congr rfl fun o _ => ?_)
  rw [actOf_real h16 hden hnum hb2]

end Out

end Cert.Graph
-- ==== Proof.Chain1.lean ====
/- What the buffers of the kernel hold from its start to the end of its second launch, as numbers of the network. -/
module

public import proofs.«01_k».proof.Proof.Gen.KernelIdeal.Frame
public import proofs.«01_k».proof.Proof.Inputs
public import proofs.«01_k».proof.Proof.Formulas
public import Idealize.ShloMosaic.Lib.StableHlo.RunRead
public import Idealize.ShloMosaic.Lib.Pointwise
public import proofs.«01_k».proof.Proof.HostVal1
public import proofs.«01_k».proof.Proof.Values

@[expose] public section

noncomputable section

namespace Cert.Graph

open Idealize.ShloMosaic Idealize.ShloMosaic.StableHlo Cert.KernelIdeal Cert.KernelIdeal.Gen
open scoped BigOperators

variable (m : (ℓ : Loc nD τ sig) → Buf (Elt Ideal) ℓ) (ρ : Dev nD → PrngReg) (dv : Dev nD)

theorem keep4_v24 : @Eq (IVec S1600000 32) (W4 m ρ dv (Proc.devRef .tc main_v24) : IVec S1600000 32) (W3 m ρ dv (Proc.devRef .tc main_v24) : IVec S1600000 32) :=
  W4_of m ρ dv main_v24 (by decide)

theorem keep8_v22 : @Eq (IVec S1600000 32) (W8 m ρ dv (Proc.devRef .tc main_v22) : IVec S1600000 32) (W3 m ρ dv (Proc.devRef .tc main_v22) : IVec S1600000 32) :=
  (W8_of m ρ dv main_v22 (by decide)).trans <|
    (W7_of m ρ dv main_v22 (by decide)).trans <|
    (W6_of m ρ dv main_v22 (by decide)).trans <|
    (W5_of m ρ dv main_v22 (by decide)).trans <|
    W4_of m ρ dv main_v22 (by decide)

theorem keep8_v24 : @Eq (IVec S1600000 32) (W8 m ρ dv (Proc.devRef .tc main_v24) : IVec S1600000 32) (W3 m ρ dv (Proc.devRef .tc main_v24) : IVec S1600000 32) :=
  (W8_of m ρ dv main_v24 (by decide)).trans <|
    (W7_of m ρ dv main_v24 (by decide)).trans <|
    (W6_of m ρ dv main_v24 (by decide)).trans <|
    (W5_of m ρ dv main_v24 (by decide)).trans <|
    W4_of m ρ dv main_v24 (by decide)

theorem keep10_v24 : @Eq (IVec S1600000 32) (W10 m ρ dv (Proc.devRef .tc main_v24) : IVec S1600000 32) (W3 m ρ dv (Proc.devRef .tc main_v24) : IVec S1600000 32) :=
  (W10_of m ρ dv main_v24 (by decide)).trans <|
    (W9_of m ρ dv main_v24 (by decide)).trans <|
    (W8_of m ρ dv main_v24 (by decide)).trans <|
    (W7_of m ρ dv main_v24 (by decide)).trans <|
    (W6_of m ρ dv main_v24 (by decide)).trans <|
    (W5_of m ρ dv main_v24 (by decide)).trans <|
    W4_of m ρ dv main_v24 (by decide)

theorem keep9_v25 : @Eq (FVec Ideal S1600000x1 .f32) (W9 m ρ dv (Proc.devRef .tc main_v25) : FVec Ideal S1600000x1 .f32) (W3 m ρ dv (Proc.devRef .tc main_v25) : FVec Ideal S1600000x1 .f32) :=
  (W9_of m ρ dv main_v25 (by decide)).trans <|
    (W8_of m ρ dv main_v25 (by decide)).trans <|
    (W7_of m ρ dv main_v25 (by decide)).trans <|
    (W6_of m ρ dv main_v25 (by decide)).trans <|
    (W5_of m ρ dv main_v25 (by decide)).trans <|
    W4_of m ρ dv main_v25 (by decide)

theorem keep7_v16 : @Eq (FVec Ideal S8x16 .f32) (W7 m ρ dv (Proc.devRef .tc main_v16) : FVec Ideal S8x16 .f32) (W3 m ρ dv (Proc.devRef .tc main_v16) : FVec Ideal S8x16 .f32) :=
  (W7_of m ρ dv main_v16 (by decide)).trans <|
    (W6_of m ρ dv main_v16 (by decide)).trans <|
    (W5_of m ρ dv main_v16 (by decide)).trans <|
    W4_of m ρ dv main_v16 (by decide)

theorem keep7_v57 : @Eq (FVec Ideal S100000x8 .f32) (W7 m ρ dv (Proc.devRef .tc main_v57) : FVec Ideal S100000x8 .f32) (W5 m ρ dv (Proc.devRef .tc main_v57) : FVec Ideal S100000x8 .f32) :=
  (W7_of m ρ dv main_v57 (by decide)).trans <|
    W6_of m ρ dv main_v57 (by decide)

theorem keep7_v60 : @Eq (FVec Ideal S100000x8 .f32) (W7 m ρ dv (Proc.devRef .tc main_v60) : FVec Ideal S100000x8 .f32) (W5 m ρ dv (Proc.devRef .tc main_v60) : FVec Ideal S100000x8 .f32) :=
  (W7_of m ρ dv main_v60 (by decide)).trans <|
    W6_of m ρ dv main_v60 (by decide)

theorem keep6_v66 : @Eq (FVec Ideal S8 .f32) (W6 m ρ dv (Proc.devRef .tc main_v66) : FVec Ideal S8 .f32) (W5 m ρ dv (Proc.devRef .tc main_v66) : FVec Ideal S8 .f32) :=
  W6_of m ρ dv main_v66 (by decide)

theorem keep2_v1 : @Eq (FVec Ideal S_ .f32) (W2 m ρ dv (Proc.devRef .tc main_v1) : FVec Ideal S_ .f32) (W1 m ρ dv (Proc.devRef .tc main_v1) : FVec Ideal S_ .f32) :=
  W2_of m ρ dv main_v1 (by decide)

theorem at4_v24 (e : Fin 1600000) : @Eq (BitVec 32) ((W4 m ρ dv (Proc.devRef .tc main_v24) : IVec S1600000 32) (ix1 e)) ((W4 m ρ dv (Proc.devRef .tc main_arg1) : IVec S2x1600000 32) (ix2 1 e)) :=
  (congrFun (keep4_v24 m ρ dv) (ix1 e)).trans ((congrFun (read_v24 (W2 m ρ dv)) (ix1 e)).trans ((kform_v24 e _).trans
    (congrFun (show @Eq (IVec S2x1600000 32) (W2 m ρ dv (Proc.devRef .tc main_arg1) : IVec S2x1600000 32) (W4 m ρ dv (Proc.devRef .tc main_arg1) : IVec S2x1600000 32) from
      (W2_args m ρ dv main_arg1 (by decide)).trans (W4_args m ρ dv main_arg1 (by decide)).symm) (ix2 1 e))))

theorem at8_v22 (e : Fin 1600000) : @Eq (BitVec 32) ((W8 m ρ dv (Proc.devRef .tc main_v22) : IVec S1600000 32) (ix1 e)) ((W8 m ρ dv (Proc.devRef .tc main_arg1) : IVec S2x1600000 32) (ix2 0 e)) :=
  (congrFun (keep8_v22 m ρ dv) (ix1 e)).trans ((congrFun (read_v22 (W2 m ρ dv)) (ix1 e)).trans ((kform_v22 e _).trans
    (congrFun (show @Eq (IVec S2x1600000 32) (W2 m ρ dv (Proc.devRef .tc main_arg1) : IVec S2x1600000 32) (W8 m ρ dv (Proc.devRef .tc main_arg1) : IVec S2x1600000 32) from
      (W2_args m ρ dv main_arg1 (by decide)).trans (W8_args m ρ dv main_arg1 (by decide)).symm) (ix2 0 e))))

theorem at8_v24 (e : Fin 1600000) : @Eq (BitVec 32) ((W8 m ρ dv (Proc.devRef .tc main_v24) : IVec S1600000 32) (ix1 e)) ((W8 m ρ dv (Proc.devRef .tc main_arg1) : IVec S2x1600000 32) (ix2 1 e)) :=
  (congrFun (keep8_v24 m ρ dv) (ix1 e)).trans ((congrFun (read_v24 (W2 m ρ dv)) (ix1 e)).trans ((kform_v24 e _).trans
    (congrFun (show @Eq (IVec S2x1600000 32) (W2 m ρ dv (Proc.devRef .tc main_arg1) : IVec S2x1600000 32) (W8 m ρ dv (Proc.devRef .tc main_arg1) : IVec S2x1600000 32) from
      (W2_args m ρ dv main_arg1 (by decide)).trans (W8_args m ρ dv main_arg1 (by decide)).symm) (ix2 1 e))))

theorem at10_v24 (e : Fin 1600000) : @Eq (BitVec 32) ((W10 m ρ dv (Proc.devRef .tc main_v24) : IVec S1600000 32) (ix1 e)) ((W10 m ρ dv (Proc.devRef .tc main_arg1) : IVec S2x1600000 32) (ix2 1 e)) :=
  (congrFun (keep10_v24 m ρ dv) (ix1 e)).trans ((congrFun (read_v24 (W2 m ρ dv)) (ix1 e)).trans ((kform_v24 e _).trans
    (congrFun (show @Eq (IVec S2x1600000 32) (W2 m ρ dv (Proc.devRef .tc main_arg1) : IVec S2x1600000 32) (W10 m ρ dv (Proc.devRef .tc main_arg1) : IVec S2x1600000 32) from
      (W2_args m ρ dv main_arg1 (by decide)).trans (W10_args m ρ dv main_arg1 (by decide)).symm) (ix2 1 e))))

variable {a : Net} (H : HoldsV a (W0 m ρ dv))
include H

theorem holds1 : HoldsV a (W1 m ρ dv) :=
  H.congr fun r hr => (W1_args m ρ dv r hr).trans (W0_args m ρ dv r hr).symm

theorem holds2 : HoldsV a (W2 m ρ dv) :=
  H.congr fun r hr => (W2_args m ρ dv r hr).trans (W0_args m ρ dv r hr).symm

theorem holds3 : HoldsV a (W3 m ρ dv) :=
  H.congr fun r hr => (W3_args m ρ dv r hr).trans (W0_args m ρ dv r hr).symm

theorem holds4 : HoldsV a (W4 m ρ dv) :=
  H.congr fun r hr => (W4_args m ρ dv r hr).trans (W0_args m ρ dv r hr).symm

theorem holds5 : HoldsV a (W5 m ρ dv) :=
  H.congr fun r hr => (W5_args m ρ dv r hr).trans (W0_args m ρ dv r hr).symm

theorem holds6 : HoldsV a (W6 m ρ dv) :=
  H.congr fun r hr => (W6_args m ρ dv r hr).trans (W0_args m ρ dv r hr).symm

theorem holds7 : HoldsV a (W7 m ρ dv) :=
  H.congr fun r hr => (W7_args m ρ dv r hr).trans (W0_args m ρ dv r hr).symm

theorem holds8 : HoldsV a (W8 m ρ dv) :=
  H.congr fun r hr => (W8_args m ρ dv r hr).trans (W0_args m ρ dv r hr).symm

theorem holds9 : HoldsV a (W9 m ρ dv) :=
  H.congr fun r hr => (W9_args m ρ dv r hr).trans (W0_args m ρ dv r hr).symm

theorem holds10 : HoldsV a (W10 m ρ dv) :=
  H.congr fun r hr => (W10_args m ρ dv r hr).trans (W0_args m ρ dv r hr).symm

theorem holds11 : HoldsV a (W11 m ρ dv) :=
  H.congr fun r hr => (W11_args m ρ dv r hr).trans (W0_args m ρ dv r hr).symm

theorem at1_v1 : @Eq (EReal) ((W1 m ρ dv (Proc.devRef .tc main_v1) : FVec Ideal S_ .f32) (ix0)) (((mean a.x : ℝ) : EReal)) :=
  val_v1 H

theorem at2_v2 : @Eq (EReal) ((W2 m ρ dv (Proc.devRef .tc main_v2) : FVec Ideal S_ .f32) (ix0)) (((var a.x : ℝ) : EReal)) :=
  val_v2 (holds1 m ρ dv H) (val_c (W0 m ρ dv))

theorem at2_v1 : @Eq (EReal) ((W2 m ρ dv (Proc.devRef .tc main_v1) : FVec Ideal S_ .f32) (ix0)) (((mean a.x : ℝ) : EReal)) :=
  (congrFun (keep2_v1 m ρ dv) (ix0)).trans (at1_v1 m ρ dv H)

theorem at3_v16 (h : Fin 8) (c : Fin 16) : @Eq (EReal) ((W3 m ρ dv (Proc.devRef .tc main_v16) : FVec Ideal S8x16 .f32) (ix2 h c)) (((a.W1 h c : ℝ) : EReal)) :=
  val_v16 (holds2 m ρ dv H) h c

theorem at3_v25 (e : Fin 1600000) : @Eq (EReal) ((W3 m ρ dv (Proc.devRef .tc main_v25) : FVec Ideal S1600000x1 .f32) (ix2 e 0)) (((a.ew e : ℝ) : EReal)) :=
  val_v25 (holds2 m ρ dv H) e

theorem at3_v42 (e : Fin 1600000) : @Eq (EReal) ((W3 m ρ dv (Proc.devRef .tc main_v42) : FVec Ideal S1600000x1 .f32) (ix2 e 0)) (((a.xn (a.s e) : ℝ) : EReal)) :=
  val_v42 (holds2 m ρ dv H) (at2_v1 m ρ dv H) (at2_v2 m ρ dv H) e

theorem at3_v50 (e : Fin 1600000) : @Eq (EReal) ((W3 m ρ dv (Proc.devRef .tc main_v50) : FVec Ideal S1600000x1 .f32) (ix2 e 0)) (((a.xn (a.d e) : ℝ) : EReal)) :=
  val_v50 (holds2 m ρ dv H) (at2_v1 m ρ dv H) (at2_v2 m ρ dv H) e

theorem at3_v51 (h : Fin 8) : @Eq (EReal) ((W3 m ρ dv (Proc.devRef .tc main_v51) : FVec Ideal S1x8 .f32) (ix2 0 h)) (((a.cs h : ℝ) : EReal)) :=
  val_v51 (holds2 m ρ dv H) h

theorem at3_v52 (h : Fin 8) : @Eq (EReal) ((W3 m ρ dv (Proc.devRef .tc main_v52) : FVec Ideal S1x8 .f32) (ix2 0 h)) (((a.cd h : ℝ) : EReal)) :=
  val_v52 (holds2 m ρ dv H) h

theorem at3_v53 : @Eq (EReal) ((W3 m ρ dv (Proc.devRef .tc main_v53) : FVec Ideal S1x1 .f32) (ix2 0 0)) (((a.m1 : ℝ) : EReal)) :=
  val_v53 (holds2 m ρ dv H) (at2_v1 m ρ dv H) (at2_v2 m ρ dv H)

theorem at4_v54_0 (e : Fin 1600000) (h : Fin 8) : @Eq (EReal) ((W4 m ρ dv (Proc.devRef .tc main_v54_0) : FVec Ideal S1600000x8 .f32) (ix2 e h)) (((a.ex1 e h : ℝ) : EReal)) :=
  (congrFun (show @Eq (FVec Ideal S1600000x8 .f32) (W4 m ρ dv (Proc.devRef .tc main_v54_0) : FVec Ideal S1600000x8 .f32) (fun y => expOf (W3 m ρ dv (Proc.devRef .tc main_v42) : FVec Ideal S1600000x1 .f32) (W3 m ρ dv (Proc.devRef .tc main_v50) : FVec Ideal S1600000x1 .f32) (W3 m ρ dv (Proc.devRef .tc main_v51) : FVec Ideal S1x8 .f32) (W3 m ρ dv (Proc.devRef .tc main_v52) : FVec Ideal S1x8 .f32) (W3 m ρ dv (Proc.devRef .tc main_v53) : FVec Ideal S1x1 .f32) (y 0) (y 1))
      from (W4_arr m ρ dv 6).trans (region0_ex (V3 m ρ) dv)) (ix2 e h)).trans
    (expOf_real H.hr (at3_v42 m ρ dv H) (at3_v50 m ρ dv H) (at3_v51 m ρ dv H) (at3_v52 m ρ dv H) (at3_v53 m ρ dv H) e h)

theorem at4_v54_1 (e : Fin 1600000) (h : Fin 8) : @Eq (EReal) ((W4 m ρ dv (Proc.devRef .tc main_v54_1) : FVec Ideal S1600000x8 .f32) (ix2 e h)) (((a.ex1 e h * (a.xn (a.s e) * a.ew e) : ℝ) : EReal)) :=
  (congrFun (show @Eq (FVec Ideal S1600000x8 .f32) (W4 m ρ dv (Proc.devRef .tc main_v54_1) : FVec Ideal S1600000x8 .f32) (fun y => msgOf (W3 m ρ dv (Proc.devRef .tc main_v42) : FVec Ideal S1600000x1 .f32) (W3 m ρ dv (Proc.devRef .tc main_v50) : FVec Ideal S1600000x1 .f32) (W3 m ρ dv (Proc.devRef .tc main_v25) : FVec Ideal S1600000x1 .f32) (W3 m ρ dv (Proc.devRef .tc main_v51) : FVec Ideal S1x8 .f32) (W3 m ρ dv (Proc.devRef .tc main_v52) : FVec Ideal S1x8 .f32) (W3 m ρ dv (Proc.devRef .tc main_v53) : FVec Ideal S1x1 .f32) (y 0) (y 1))
      from (W4_arr m ρ dv 7).trans (region0_msg (V3 m ρ) dv)) (ix2 e h)).trans
    (msgOf_real H.hr (at3_v42 m ρ dv H) (at3_v50 m ρ dv H) (at3_v51 m ρ dv H) (at3_v52 m ρ dv H) (at3_v53 m ρ dv H) (at3_v25 m ρ dv H) e h)

theorem at5_v57 (n : Fin 100000) (h : Fin 8) : @Eq (EReal) ((W5 m ρ dv (Proc.devRef .tc main_v57) : FVec Ideal S100000x8 .f32) (ix2 n h)) (((a.den1 n h : ℝ) : EReal)) :=
  val_v57 (holds4 m ρ dv H) (at4_v24 m ρ dv) (at4_v54_0 m ρ dv H) n h

theorem at5_v60 (n : Fin 100000) (h : Fin 8) : @Eq (EReal) ((W5 m ρ dv (Proc.devRef .tc main_v60) : FVec Ideal S100000x8 .f32) (ix2 n h)) (((a.num1 n h : ℝ) : EReal)) :=
  val_v60 (holds4 m ρ dv H) (at4_v24 m ρ dv) (at4_v54_1 m ρ dv H) n h

theorem at5_v63 (n : Fin 100000) (h : Fin 8) : @Eq (EReal) ((W5 m ρ dv (Proc.devRef .tc main_v63) : FVec Ideal S100000x8 .f32) (ix2 n h)) (((a.s1 n h : ℝ) : EReal)) :=
  val_v63 (holds4 m ρ dv H) (at4_v24 m ρ dv) (at4_v54_0 m ρ dv H) (at4_v54_1 m ρ dv H) n h

theorem at5_v66 (h : Fin 8) : @Eq (EReal) ((W5 m ρ dv (Proc.devRef .tc main_v66) : FVec Ideal S8 .f32) (ix1 h)) (((a.mh h : ℝ) : EReal)) :=
  val_v66 (holds4 m ρ dv H) (at4_v24 m ρ dv) (at4_v54_0 m ρ dv H) (at4_v54_1 m ρ dv H) h

theorem at6_v67 (h : Fin 8) : @Eq (EReal) ((W6 m ρ dv (Proc.devRef .tc main_v67) : FVec Ideal S8 .f32) (ix1 h)) (((a.vh h : ℝ) : EReal)) :=
  val_v67 (f := a.s1) (at5_v63 m ρ dv H) (val_c_16 (W4 m ρ dv)) h

theorem at6_v66 (h : Fin 8) : @Eq (EReal) ((W6 m ρ dv (Proc.devRef .tc main_v66) : FVec Ideal S8 .f32) (ix1 h)) (((a.mh h : ℝ) : EReal)) :=
  (congrFun (keep6_v66 m ρ dv) (ix1 h)).trans (at5_v66 m ρ dv H h)

theorem at7_v57 (n : Fin 100000) (h : Fin 8) : @Eq (EReal) ((W7 m ρ dv (Proc.devRef .tc main_v57) : FVec Ideal S100000x8 .f32) (ix2 n h)) (((a.den1 n h : ℝ) : EReal)) :=
  (congrFun (keep7_v57 m ρ dv) (ix2 n h)).trans (at5_v57 m ρ dv H n h)

theorem at7_v60 (n : Fin 100000) (h : Fin 8) : @Eq (EReal) ((W7 m ρ dv (Proc.devRef .tc main_v60) : FVec Ideal S100000x8 .f32) (ix2 n h)) (((a.num1 n h : ℝ) : EReal)) :=
  (congrFun (keep7_v60 m ρ dv) (ix2 n h)).trans (at5_v60 m ρ dv H n h)

theorem at7_v16 (h : Fin 8) (c : Fin 16) : @Eq (EReal) ((W7 m ρ dv (Proc.devRef .tc main_v16) : FVec Ideal S8x16 .f32) (ix2 h c)) (((a.W1 h c : ℝ) : EReal)) :=
  (congrFun (keep7_v16 m ρ dv) (ix2 h c)).trans (at3_v16 m ρ dv H h c)

theorem at7_v68 (h : Fin 8) (c : Fin 16) : @Eq (EReal) ((W7 m ρ dv (Proc.devRef .tc main_v68) : FVec Ideal S8x16 .f32) (ix2 h c)) (((a.g1 h c : ℝ) : EReal)) :=
  val_v68 (holds6 m ρ dv H) h c

theorem at7_v69 (h : Fin 8) (c : Fin 16) : @Eq (EReal) ((W7 m ρ dv (Proc.devRef .tc main_v69) : FVec Ideal S8x16 .f32) (ix2 h c)) (((a.be1 h c : ℝ) : EReal)) :=
  val_v69 (holds6 m ρ dv H) h c

theorem at7_v71 (h : Fin 8) (c : Fin 16) : @Eq (EReal) ((W7 m ρ dv (Proc.devRef .tc main_v71) : FVec Ideal S8x16 .f32) (ix2 h c)) (((a.mh h : ℝ) : EReal)) :=
  (val_v71 (W6 m ρ dv) h c).trans (at6_v66 m ρ dv H h)

theorem at7_v73 (h : Fin 8) (c : Fin 16) : @Eq (EReal) ((W7 m ρ dv (Proc.devRef .tc main_v73) : FVec Ideal S8x16 .f32) (ix2 h c)) (((a.vh h : ℝ) : EReal)) :=
  (val_v73 (W6 m ρ dv) h c).trans (at6_v67 m ρ dv H h)

theorem at8_v74_0 (n : Fin 100000) (o : Fin 32) : @Eq (EReal) ((W8 m ρ dv (Proc.devRef .tc main_v74_0) : FVec Ideal S100000x32 .f32) (ix2 n o)) (((a.h2w n o : ℝ) : EReal)) :=
  (congrFun (show @Eq (FVec Ideal S100000x32 .f32) (W8 m ρ dv (Proc.devRef .tc main_v74_0) : FVec Ideal S100000x32 .f32) (fun y => featOf (W7 m ρ dv (Proc.devRef .tc main_v57) : FVec Ideal S100000x8 .f32) (W7 m ρ dv (Proc.devRef .tc main_v60) : FVec Ideal S100000x8 .f32) (W7 m ρ dv (Proc.devRef .tc main_v16) : FVec Ideal S8x16 .f32) (W7 m ρ dv (Proc.devRef .tc main_v68) : FVec Ideal S8x16 .f32) (W7 m ρ dv (Proc.devRef .tc main_v69) : FVec Ideal S8x16 .f32) (W7 m ρ dv (Proc.devRef .tc main_arg11) : FVec Ideal S128x32 .f32) (W7 m ρ dv (Proc.devRef .tc main_v71) : FVec Ideal S8x16 .f32) (W7 m ρ dv (Proc.devRef .tc main_v73) : FVec Ideal S8x16 .f32) (y 0) (y 1))
      from (W8_arr m ρ dv 10).trans (region1_feat (V7 m ρ) dv)) (ix2 n o)).trans
    (featOf_real H.he5 H.he16 (at7_v57 m ρ dv H) (at7_v60 m ρ dv H) (at7_v16 m ρ dv H) (at7_v68 m ρ dv H) (at7_v69 m ρ dv H) (at7_v71 m ρ dv H) (at7_v73 m ρ dv H) (holds7 m ρ dv H).h11 n o)

theorem at8_v74_1 (n : Fin 100000) : @Eq (EReal) ((W8 m ρ dv (Proc.devRef .tc main_v74_1) : FVec Ideal S100000x1 .f32) (ix2 n 0)) (((a.asv n : ℝ) : EReal)) :=
  (congrFun (show @Eq (FVec Ideal S100000x1 .f32) (W8 m ρ dv (Proc.devRef .tc main_v74_1) : FVec Ideal S100000x1 .f32) (fun y => weighOf (W7 m ρ dv (Proc.devRef .tc main_v57) : FVec Ideal S100000x8 .f32) (W7 m ρ dv (Proc.devRef .tc main_v60) : FVec Ideal S100000x8 .f32) (W7 m ρ dv (Proc.devRef .tc main_v16) : FVec Ideal S8x16 .f32) (W7 m ρ dv (Proc.devRef .tc main_v68) : FVec Ideal S8x16 .f32) (W7 m ρ dv (Proc.devRef .tc main_v69) : FVec Ideal S8x16 .f32) (W7 m ρ dv (Proc.devRef .tc main_arg11) : FVec Ideal S128x32 .f32) (W7 m ρ dv (Proc.devRef .tc main_arg12) : FVec Ideal S1x32 .f32) (W7 m ρ dv (Proc.devRef .tc main_v71) : FVec Ideal S8x16 .f32) (W7 m ρ dv (Proc.devRef .tc main_v73) : FVec Ideal S8x16 .f32) (y 0))
      from (W8_arr m ρ dv 11).trans (region1_src (V7 m ρ) dv)) (ix2 n 0)).trans
    (weighOf_real H.he5 H.he16 (at7_v57 m ρ dv H) (at7_v60 m ρ dv H) (at7_v16 m ρ dv H) (at7_v68 m ρ dv H) (at7_v69 m ρ dv H) (at7_v71 m ρ dv H) (at7_v73 m ρ dv H) (holds7 m ρ dv H).h11 (holds7 m ρ dv H).h12 n)

theorem at8_v74_2 (n : Fin 100000) : @Eq (EReal) ((W8 m ρ dv (Proc.devRef .tc main_v74_2) : FVec Ideal S100000x1 .f32) (ix2 n 0)) (((a.adv n : ℝ) : EReal)) :=
  (congrFun (show @Eq (FVec Ideal S100000x1 .f32) (W8 m ρ dv (Proc.devRef .tc main_v74_2) : FVec Ideal S100000x1 .f32) (fun y => weighOf (W7 m ρ dv (Proc.devRef .tc main_v57) : FVec Ideal S100000x8 .f32) (W7 m ρ dv (Proc.devRef .tc main_v60) : FVec Ideal S100000x8 .f32) (W7 m ρ dv (Proc.devRef .tc main_v16) : FVec Ideal S8x16 .f32) (W7 m ρ dv (Proc.devRef .tc main_v68) : FVec Ideal S8x16 .f32) (W7 m ρ dv (Proc.devRef .tc main_v69) : FVec Ideal S8x16 .f32) (W7 m ρ dv (Proc.devRef .tc main_arg11) : FVec Ideal S128x32 .f32) (W7 m ρ dv (Proc.devRef .tc main_arg13) : FVec Ideal S1x32 .f32) (W7 m ρ dv (Proc.devRef .tc main_v71) : FVec Ideal S8x16 .f32) (W7 m ρ dv (Proc.devRef .tc main_v73) : FVec Ideal S8x16 .f32) (y 0))
      from (W8_arr m ρ dv 12).trans (region1_dst (V7 m ρ) dv)) (ix2 n 0)).trans
    (weighOf_real H.he5 H.he16 (at7_v57 m ρ dv H) (at7_v60 m ρ dv H) (at7_v16 m ρ dv H) (at7_v68 m ρ dv H) (at7_v69 m ρ dv H) (at7_v71 m ρ dv H) (at7_v73 m ρ dv H) (holds7 m ρ dv H).h11 (holds7 m ρ dv H).h13 n)

end Cert.Graph
-- ==== Proof.Chain2.lean ====
/- What the buffers of the kernel hold from its second launch to its end, as numbers of the network. -/
module

public import proofs.«01_k».proof.Proof.Gen.KernelIdeal.Frame
public import proofs.«01_k».proof.Proof.Inputs
public import proofs.«01_k».proof.Proof.Formulas
public import Idealize.ShloMosaic.Lib.StableHlo.RunRead
public import Idealize.ShloMosaic.Lib.Pointwise
public import proofs.«01_k».proof.Proof.HostVal2
public import proofs.«01_k».proof.Proof.HostVal3
public import proofs.«01_k».proof.Proof.Chain1

@[expose] public section

noncomputable section

namespace Cert.Graph

open Idealize.ShloMosaic Idealize.ShloMosaic.StableHlo Cert.KernelIdeal Cert.KernelIdeal.Gen
open scoped BigOperators

variable (m : (ℓ : Loc nD τ sig) → Buf (Elt Ideal) ℓ) (ρ : Dev nD → PrngReg) (dv : Dev nD)
variable {a : Net} (H : HoldsV a (W0 m ρ dv))
include H

theorem at9_v88 (e : Fin 1600000) : @Eq (EReal) ((W9 m ρ dv (Proc.devRef .tc main_v88) : FVec Ideal S1600000x1 .f32) (ix2 e 0)) (((a.asv (a.s e) : ℝ) : EReal)) :=
  val_v88 (holds8 m ρ dv H) (at8_v22 m ρ dv) (at8_v74_1 m ρ dv H) e

theorem at9_v96 (e : Fin 1600000) : @Eq (EReal) ((W9 m ρ dv (Proc.devRef .tc main_v96) : FVec Ideal S1600000x1 .f32) (ix2 e 0)) (((a.adv (a.d e) : ℝ) : EReal)) :=
  val_v96 (holds8 m ρ dv H) (at8_v24 m ρ dv) (at8_v74_2 m ρ dv H) e

theorem at9_v103 (e : Fin 1600000) (o : Fin 32) : @Eq (EReal) ((W9 m ρ dv (Proc.devRef .tc main_v103) : FVec Ideal S1600000x32 .f32) (ix2 e o)) (((a.h2w (a.s e) o : ℝ) : EReal)) :=
  val_v103 (holds8 m ρ dv H) (at8_v22 m ρ dv) (at8_v74_0 m ρ dv H) e o

theorem at9_v104 : @Eq (EReal) ((W9 m ρ dv (Proc.devRef .tc main_v104) : FVec Ideal S1x1 .f32) (ix2 0 0)) (((a.m2 : ℝ) : EReal)) :=
  val_v104 (at8_v74_1 m ρ dv H) (at8_v74_2 m ρ dv H)

theorem at9_v25 (e : Fin 1600000) : @Eq (EReal) ((W9 m ρ dv (Proc.devRef .tc main_v25) : FVec Ideal S1600000x1 .f32) (ix2 e 0)) (((a.ew e : ℝ) : EReal)) :=
  (congrFun (keep9_v25 m ρ dv) (ix2 e 0)).trans (at3_v25 m ρ dv H e)

theorem at10_v105_0 (e : Fin 1600000) : @Eq (EReal) ((W10 m ρ dv (Proc.devRef .tc main_v105_0) : FVec Ideal S1600000x1 .f32) (ix2 e 0)) (((a.ex2 e : ℝ) : EReal)) :=
  (congrFun (show @Eq (FVec Ideal S1600000x1 .f32) (W10 m ρ dv (Proc.devRef .tc main_v105_0) : FVec Ideal S1600000x1 .f32) (fun y => expOf2 (W9 m ρ dv (Proc.devRef .tc main_v88) : FVec Ideal S1600000x1 .f32) (W9 m ρ dv (Proc.devRef .tc main_v96) : FVec Ideal S1600000x1 .f32) (W9 m ρ dv (Proc.devRef .tc main_v104) : FVec Ideal S1x1 .f32) (y 0))
      from (W10_arr m ρ dv 5).trans (region2_ex (V9 m ρ) dv)) (ix2 e 0)).trans
    (expOf2_real H.hr (at9_v88 m ρ dv H) (at9_v96 m ρ dv H) (at9_v104 m ρ dv H) e)

theorem at10_v105_1 (e : Fin 1600000) (o : Fin 32) : @Eq (EReal) ((W10 m ρ dv (Proc.devRef .tc main_v105_1) : FVec Ideal S1600000x32 .f32) (ix2 e o)) (((a.h2w (a.s e) o * (a.ex2 e * a.ew e) : ℝ) : EReal)) :=
  (congrFun (show @Eq (FVec Ideal S1600000x32 .f32) (W10 m ρ dv (Proc.devRef .tc main_v105_1) : FVec Ideal S1600000x32 .f32) (fun y => msgOf2 (W9 m ρ dv (Proc.devRef .tc main_v88) : FVec Ideal S1600000x1 .f32) (W9 m ρ dv (Proc.devRef .tc main_v96) : FVec Ideal S1600000x1 .f32) (W9 m ρ dv (Proc.devRef .tc main_v25) : FVec Ideal S1600000x1 .f32) (W9 m ρ dv (Proc.devRef .tc main_v103) : FVec Ideal S1600000x32 .f32) (W9 m ρ dv (Proc.devRef .tc main_v104) : FVec Ideal S1x1 .f32) (y 0) (y 1))
      from (W10_arr m ρ dv 6).trans (region2_msg (V9 m ρ) dv)) (ix2 e o)).trans
    (msgOf2_real H.hr (at9_v88 m ρ dv H) (at9_v96 m ρ dv H) (at9_v104 m ρ dv H) (at9_v25 m ρ dv H) (at9_v103 m ρ dv H) e o)

theorem at11_v108 (n : Fin 100000) : @Eq (EReal) ((W11 m ρ dv (Proc.devRef .tc main_v108) : FVec Ideal S100000x1 .f32) (ix2 n 0)) (((a.den2 n : ℝ) : EReal)) :=
  val_v108 (holds10 m ρ dv H) (at10_v24 m ρ dv) (at10_v105_0 m ρ dv H) n

theorem at11_v111 (n : Fin 100000) (o : Fin 32) : @Eq (EReal) ((W11 m ρ dv (Proc.devRef .tc main_v111) : FVec Ideal S100000x32 .f32) (ix2 n o)) (((a.num2 n o : ℝ) : EReal)) :=
  val_v111 (holds10 m ρ dv H) (at10_v24 m ρ dv) (at10_v105_1 m ρ dv H) n o

omit H in
theorem at11_v112 (o : Fin 32) : @Eq (EReal) ((W11 m ρ dv (Proc.devRef .tc main_v112) : FVec Ideal S1x32 .f32) (ix2 0 o)) ((m ((dv.tc : Thread nD τ).loc main_arg14) : FVec Ideal S32 .f32) (ix1 o)) :=
  (val_v112 (W10 m ρ dv) o).trans (congrFun (show @Eq (FVec Ideal S32 .f32) (W10 m ρ dv (Proc.devRef .tc main_arg14) : FVec Ideal S32 .f32) (m ((dv.tc : Thread nD τ).loc main_arg14) : FVec Ideal S32 .f32) from W10_args m ρ dv main_arg14 (by decide)) (ix1 o))

omit H in
theorem at11_v113 (c : Fin 16) : @Eq (EReal) ((W11 m ρ dv (Proc.devRef .tc main_v113) : FVec Ideal S1x16 .f32) (ix2 0 c)) ((m ((dv.tc : Thread nD τ).loc main_arg16) : FVec Ideal S16 .f32) (ix1 c)) :=
  (val_v113 (W10 m ρ dv) c).trans (congrFun (show @Eq (FVec Ideal S16 .f32) (W10 m ρ dv (Proc.devRef .tc main_arg16) : FVec Ideal S16 .f32) (m ((dv.tc : Thread nD τ).loc main_arg16) : FVec Ideal S16 .f32) from W10_args m ρ dv main_arg16 (by decide)) (ix1 c))

omit H in
theorem at11_v114 : @Eq (EReal) ((W11 m ρ dv (Proc.devRef .tc main_v114) : FVec Ideal S1x1 .f32) (ix2 0 0)) ((m ((dv.tc : Thread nD τ).loc main_arg18) : FVec Ideal S1 .f32) (ix1 0)) :=
  (val_v114 (W10 m ρ dv)).trans (congrFun (show @Eq (FVec Ideal S1 .f32) (W10 m ρ dv (Proc.devRef .tc main_arg18) : FVec Ideal S1 .f32) (m ((dv.tc : Thread nD τ).loc main_arg18) : FVec Ideal S1 .f32) from W10_args m ρ dv main_arg18 (by decide)) (ix1 0))

omit H in
theorem at11_arg15 : @Eq (FVec Ideal S32x16 .f32) (W11 m ρ dv (Proc.devRef .tc main_arg15) : FVec Ideal S32x16 .f32) (m ((dv.tc : Thread nD τ).loc main_arg15) : FVec Ideal S32x16 .f32) := W11_args m ρ dv main_arg15 (by decide)

omit H in
theorem at11_arg17 : @Eq (FVec Ideal S16x1 .f32) (W11 m ρ dv (Proc.devRef .tc main_arg17) : FVec Ideal S16x1 .f32) (m ((dv.tc : Thread nD τ).loc main_arg17) : FVec Ideal S16x1 .f32) := W11_args m ρ dv main_arg17 (by decide)

/-- The kernel's result: the two dense layers on layer 2's attention. -/
theorem at12_v115 (n : Fin 100000) : @Eq EReal ((W12 m ρ dv (Proc.devRef .tc main_v115) : FVec Ideal S100000x1 .f32) (ix2 n 0))
    (dense (fun o => ((a.g n o : ℝ) : EReal)) (m ((dv.tc : Thread nD τ).loc main_arg14) : FVec Ideal S32 .f32) (m ((dv.tc : Thread nD τ).loc main_arg15) : FVec Ideal S32x16 .f32) (m ((dv.tc : Thread nD τ).loc main_arg16) : FVec Ideal S16 .f32) (m ((dv.tc : Thread nD τ).loc main_arg17) : FVec Ideal S16x1 .f32) (m ((dv.tc : Thread nD τ).loc main_arg18) : FVec Ideal S1 .f32)) := by
  refine (congrFun (show @Eq (FVec Ideal S100000x1 .f32) (W12 m ρ dv (Proc.devRef .tc main_v115) : FVec Ideal S100000x1 .f32) (fun y => outOf (W11 m ρ dv (Proc.devRef .tc main_v108) : FVec Ideal S100000x1 .f32) (W11 m ρ dv (Proc.devRef .tc main_v111) : FVec Ideal S100000x32 .f32) (W11 m ρ dv (Proc.devRef .tc main_v112) : FVec Ideal S1x32 .f32) (W11 m ρ dv (Proc.devRef .tc main_arg15) : FVec Ideal S32x16 .f32) (W11 m ρ dv (Proc.devRef .tc main_v113) : FVec Ideal S1x16 .f32) (W11 m ρ dv (Proc.devRef .tc main_arg17) : FVec Ideal S16x1 .f32) (W11 m ρ dv (Proc.devRef .tc main_v114) : FVec Ideal S1x1 .f32) (y 0))
      from (W12_arr m ρ dv 7).trans (region3_out (V11 m ρ) dv)) (ix2 n 0)).trans ?_
  rw [← at11_arg15 m ρ dv, ← at11_arg17 m ρ dv]
  exact outOf_real H.he16 (at11_v108 m ρ dv H) (at11_v111 m ρ dv H) (at11_v112 m ρ dv) _ _ (at11_v113 m ρ dv) (at11_v114 m ρ dv) n

end Cert.Graph
-- ==== Proof.Pre.lean ====
/- What the precondition says: every element of thirteen argument arrays is a real number. -/
module

public import proofs.«01_k».proof.Defs
public import proofs.«01_k».proof.Proof.Gen.Pre_real_inputs
public import proofs.«01_k».proof.Proof.Inputs
public import Idealize.ShloMosaic.Lib.ReduceAll
public import Idealize.ShloMosaic.Lib.Pointwise

@[expose] public section

noncomputable section

namespace Cert.Graph

open Idealize.ShloMosaic

instance : Subsingleton (⟨0, ![]⟩ : Shape).Idx := ⟨fun _ _ => funext fun i => i.elim0⟩

theorem real_of_abs_lt {y : EReal} (h : max y (-y) < ⊤) : ∃ r : ℝ, y = r := by
  induction y using EReal.rec with
  | bot => simp at h
  | coe r => exact ⟨r, rfl⟩
  | top => simp at h

/-- The precondition's test of one array: the word is 1 only if every element is a real number. -/
theorem allReal_of_test {s : Shape} {axes : List (Fin s.rank)} (x : Arr s)
    (hb : (⟨0, ![]⟩ : Shape).BroadcastsInDim s (![] : Fin 0 → Fin s.rank)) (hr : s.ReducesTo axes ⟨0, ![]⟩)
    (hu : 0 < (⟨0, ![]⟩ : Shape).numel) (j : (⟨0, ![]⟩ : Shape).Idx)
    (h : Host.reduce IntOp.andi (cmpf .olt (Host.absf (F := Ideal) (φ := .f32) x)
      (broadcastInDim s ![] hb (constant (F := Ideal) ⟨0, ![]⟩ .f32 0x7F800000#32))) (constantI ⟨0, ![]⟩ 1 1#1) hr hu j = 1#1) :
    AllReal x := fun i => by
  have h1 := Host.reduce_andi_all _ _ _ _ j h i
  have h2 : Ideal.cmp .olt (max (x i) (-(x i))) (Ideal.ofBits .f32 0x7F800000#32) = 1#1 := h1
  rw [word_top] at h2
  refine real_of_abs_lt ?_
  by_contra hn
  have h3 : BitVec.ofBool (decide (max (x i) (-(x i)) < (⊤ : EReal))) = 1#1 := h2
  rw [decide_eq_false hn] at h3
  exact absurd h3 (by decide)

theorem andi_split {p q : IVec ⟨0, ![]⟩ 1} {j : (⟨0, ![]⟩ : Shape).Idx} (h : andi p q j = 1#1) : p j = 1#1 ∧ q j = 1#1 := by
  have h' : p j &&& q j = 1#1 := h
  revert h'
  generalize p j = u
  generalize q j = v
  revert u v
  decide

open Cert.Pre_real_inputs in
theorem reals_of_pre (x0 : Arr ⟨2, ![100000, 1]⟩) (x1 : IVec ⟨2, ![2, 1600000]⟩ 32) (x2 : Arr ⟨1, ![1600000]⟩)
    (x3 x4 : Arr ⟨1, ![1]⟩) (x5 : Arr ⟨2, ![1, 128]⟩) (x6 x7 : Arr ⟨2, ![8, 16]⟩) (x8 x9 x10 : Arr ⟨1, ![128]⟩)
    (x11 : Arr ⟨2, ![128, 32]⟩) (x12 x13 : Arr ⟨2, ![1, 32]⟩) (x14 : Arr ⟨1, ![32]⟩) (x15 : Arr ⟨2, ![32, 16]⟩)
    (x16 : Arr ⟨1, ![16]⟩) (x17 : Arr ⟨2, ![16, 1]⟩) (x18 : Arr ⟨1, ![1]⟩)
    (h : Cert.Pre_real_inputs.fn (F := Ideal) x0 x1 x2 x3 x4 x5 x6 x7 x8 x9 x10 x11 x12 x13 x14 x15 x16 x17 x18
      = fun _ => 1#1) : ∃ a : Net, Holds a x0 x1 x2 x3 x4 x5 x6 x7 x8 x9 x10 x11 x12 x13 := by
  have h := congrFun h (fun i => i.elim0)
  unfold fn fn_part1 fn_part2 fn_part3 at h
  obtain ⟨h, t13⟩ := andi_split h
  obtain ⟨h, t12⟩ := andi_split h
  obtain ⟨h, t11⟩ := andi_split h
  obtain ⟨h, t10⟩ := andi_split h
  obtain ⟨h, t9⟩ := andi_split h
  obtain ⟨h, t8⟩ := andi_split h
  obtain ⟨h, t7⟩ := andi_split h
  obtain ⟨h, t6⟩ := andi_split h
  obtain ⟨h, t5⟩ := andi_split h
  obtain ⟨h, t4⟩ := andi_split h
  obtain ⟨h, t3⟩ := andi_split h
  obtain ⟨t0, t2⟩ := andi_split h
  exact exists_holds x0 x1 x2 x3 x4 x5 x6 x7 x8 x9 x10 x11 x12 x13
    (allReal_of_test _ _ _ _ _ t0) (allReal_of_test _ _ _ _ _ t2) (allReal_of_test _ _ _ _ _ t3)
    (allReal_of_test _ _ _ _ _ t4) (allReal_of_test _ _ _ _ _ t5) (allReal_of_test _ _ _ _ _ t6)
    (allReal_of_test _ _ _ _ _ t7) (allReal_of_test _ _ _ _ _ t8) (allReal_of_test _ _ _ _ _ t9)
    (allReal_of_test _ _ _ _ _ t10) (allReal_of_test _ _ _ _ _ t11) (allReal_of_test _ _ _ _ _ t12)
    (allReal_of_test _ _ _ _ _ t13)

end Cert.Graph
-- ==== Proof.RefNodes.lean ====
/- The reference's first batch norm, its features, and the two halves of layer 1's attention logits. -/
module

public import proofs.«01_k».proof.Proof.Gen.ReferenceIdeal.Read
public import proofs.«01_k».proof.Proof.Inputs
public import proofs.«01_k».proof.Proof.Formulas
public import Idealize.ShloMosaic.Lib.Pointwise

@[expose] public section

noncomputable section

namespace Cert.Graph

open Idealize.ShloMosaic Cert.ReferenceIdeal Cert.ReferenceIdeal.Gen Cert.ReferenceIdeal.Read
open scoped BigOperators

theorem form_v2 (x0 : FVec Ideal S100000x1 .f32) :
    ((Host.divf (Host.reduceAdd (x0) (constant S_ .f32 0x00000000#32 : FVec Ideal S_ .f32) reducesTo_S100000x1_S1_d0 h_S_ : FVec Ideal S1 .f32) (broadcastInDim S1 ![] bcast_S_S1 (constant S_ .f32 0x47C35000#32 : FVec Ideal S_ .f32) : FVec Ideal S1 .f32) : FVec Ideal S1 .f32) (ix1 0) : EReal)
      = Ideal.div (∑ n, x0 (ix2 n 0)) (Ideal.ofBits FTy.f32 0x47C35000#32) := by
  pointwise []

theorem form_v3 (x0 : FVec Ideal S100000x1 .f32) :
    ((select (broadcastInDim S1 ![] bcast_S_S1 (cmpf .ogt (subf (constant S_ .f32 0x47C35000#32 : FVec Ideal S_ .f32) (sitofp .f32 (constantI S_ 32 0#32 : IVec S_ 32) : FVec Ideal S_ .f32) : FVec Ideal S_ .f32) (constant S_ .f32 0x00000000#32 : FVec Ideal S_ .f32) : IVec S_ 1)) (Host.divf (Host.reduceAdd (mulf (subf (x0) (broadcastInDim S100000x1 ![0, 1] bcast_S1x1_S100000x1_0_1 (Host.divf (broadcastInDim S1x1 ![1] bcast_S1_S1x1_1 (Host.reduceAdd (x0) (constant S_ .f32 0x00000000#32 : FVec Ideal S_ .f32) reducesTo_S100000x1_S1_d0 h_S_ : FVec Ideal S1 .f32) : FVec Ideal S1x1 .f32) (broadcastInDim S1x1 ![] bcast_S_S1x1 (constant S_ .f32 0x47C35000#32 : FVec Ideal S_ .f32) : FVec Ideal S1x1 .f32) : FVec Ideal S1x1 .f32) : FVec Ideal S100000x1 .f32) : FVec Ideal S100000x1 .f32) (subf (x0) (broadcastInDim S100000x1 ![0, 1] bcast_S1x1_S100000x1_0_1 (Host.divf (broadcastInDim S1x1 ![1] bcast_S1_S1x1_1 (Host.reduceAdd (x0) (constant S_ .f32 0x00000000#32 : FVec Ideal S_ .f32) reducesTo_S100000x1_S1_d0 h_S_ : FVec Ideal S1 .f32) : FVec Ideal S1x1 .f32) (broadcastInDim S1x1 ![] bcast_S_S1x1 (constant S_ .f32 0x47C35000#32 : FVec Ideal S_ .f32) : FVec Ideal S1x1 .f32) : FVec Ideal S1x1 .f32) : FVec Ideal S100000x1 .f32) : FVec Ideal S100000x1 .f32) : FVec Ideal S100000x1 .f32) (constant S_ .f32 0x00000000#32 : FVec Ideal S_ .f32) reducesTo_S100000x1_S1_d0 h_S_ : FVec Ideal S1 .f32) (broadcastInDim S1 ![] bcast_S_S1 (subf (constant S_ .f32 0x47C35000#32 : FVec Ideal S_ .f32) (sitofp .f32 (constantI S_ 32 0#32 : IVec S_ 32) : FVec Ideal S_ .f32) : FVec Ideal S_ .f32) : FVec Ideal S1 .f32) : FVec Ideal S1 .f32) (broadcastInDim S1 ![] bcast_S_S1 (id (constant S_ .f32 0x7FC00000#32 : FVec Ideal S_ .f32) : FVec Ideal S_ .f32) : FVec Ideal S1 .f32) : FVec Ideal S1 .f32) (ix1 0) : EReal)
      = (if 0 < Ideal.ofBits FTy.f32 0x47C35000#32 - FloatOps.sitofp (F := Ideal) FTy.f32 0#32 then Ideal.div (∑ x, (x0 (ix2 x 0) - Ideal.div (∑ x, x0 (ix2 x 0)) (Ideal.ofBits FTy.f32 0x47C35000#32)) * (x0 (ix2 x 0) - Ideal.div (∑ x, x0 (ix2 x 0)) (Ideal.ofBits FTy.f32 0x47C35000#32))) (Ideal.ofBits FTy.f32 0x47C35000#32 - FloatOps.sitofp (F := Ideal) FTy.f32 0#32) else id (constant (F := Ideal) S_ FTy.f32 0x7FC00000#32) ix0) := by
  pointwise []

theorem form_v18 (n : Fin 100000) (x0 : FVec Ideal S100000x1 .f32) (x3 : FVec Ideal S1 .f32) (x4 : FVec Ideal S1 .f32) (y2 : FVec Ideal S1 .f32) (y3 : FVec Ideal S1 .f32) :
    ((addf (mulf (Host.divf (subf (x0) (broadcastInDim S100000x1 ![0, 1] bcast_S1x1_S100000x1_0_1 (broadcastInDim S1x1 ![1] bcast_S1_S1x1_1 y2 : FVec Ideal S1x1 .f32) : FVec Ideal S100000x1 .f32) : FVec Ideal S100000x1 .f32) (broadcastInDim S100000x1 ![0, 1] bcast_S1x1_S100000x1_0_1 (broadcastInDim S1x1 ![1] bcast_S1_S1x1_1 (Host.sqrt (addf y3 (broadcastInDim S1 ![] bcast_S_S1 (constant S_ .f32 0x3727C5AC#32 : FVec Ideal S_ .f32) : FVec Ideal S1 .f32) : FVec Ideal S1 .f32) : FVec Ideal S1 .f32) : FVec Ideal S1x1 .f32) : FVec Ideal S100000x1 .f32) : FVec Ideal S100000x1 .f32) (broadcastInDim S100000x1 ![0, 1] bcast_S1x1_S100000x1_0_1 (broadcastInDim S1x1 ![1] bcast_S1_S1x1_1 (x3) : FVec Ideal S1x1 .f32) : FVec Ideal S100000x1 .f32) : FVec Ideal S100000x1 .f32) (broadcastInDim S100000x1 ![0, 1] bcast_S1x1_S100000x1_0_1 (broadcastInDim S1x1 ![1] bcast_S1_S1x1_1 (x4) : FVec Ideal S1x1 .f32) : FVec Ideal S100000x1 .f32) : FVec Ideal S100000x1 .f32) (ix2 n 0) : EReal)
      = Ideal.div (x0 (ix2 n 0) - y2 (ix1 0)) (Ideal.sqrt (y3 (ix1 0) + Ideal.ofBits FTy.f32 0x3727C5AC#32)) * x3 (ix1 0) + x4 (ix1 0) := by
  pointwise []

theorem form_v20 (n : Fin 100000) (h : Fin 8) (c : Fin 16) (x5 : FVec Ideal S1x128 .f32) (y18 : FVec Ideal S100000x1 .f32) :
    ((shapeCast _ (Host.dotGeneral dot_S100000x1_S1x128_S100000x128_1_0_0_1_n_n none y18 (x5) : FVec Ideal S100000x128 .f32) shapeCasts_S100000x128_S100000x8x16 : FVec Ideal S100000x8x16 .f32) (ix3 n h c) : EReal)
      = ∑ x, y18 (ix2 n x) * x5 (ix2 x (fl h c)) := by
  pointwise []
  rfl

theorem form_v28 (n : Fin 100000) (h : Fin 8) (x6 : FVec Ideal S8x16 .f32) (y20 : FVec Ideal S100000x8x16 .f32) :
    ((Host.reduceAdd (mulf y20 (broadcastInDim S100000x8x16 ![0, 1, 2] bcast_S1x8x16_S100000x8x16_0_1_2 (broadcastInDim S1x8x16 ![1, 2] bcast_S8x16_S1x8x16_1_2 (x6) : FVec Ideal S1x8x16 .f32) : FVec Ideal S100000x8x16 .f32) : FVec Ideal S100000x8x16 .f32) (constant S_ .f32 0x00000000#32 : FVec Ideal S_ .f32) reducesTo_S100000x8x16_S100000x8_d2 h_S_ : FVec Ideal S100000x8 .f32) (ix2 n h) : EReal)
      = ∑ x, y20 (ix3 n h x) * x6 (ix2 h x) := by
  pointwise []

theorem form_v32 (n : Fin 100000) (h : Fin 8) (x7 : FVec Ideal S8x16 .f32) (y20 : FVec Ideal S100000x8x16 .f32) :
    ((Host.reduceAdd (mulf y20 (broadcastInDim S100000x8x16 ![0, 1, 2] bcast_S1x8x16_S100000x8x16_0_1_2 (broadcastInDim S1x8x16 ![1, 2] bcast_S8x16_S1x8x16_1_2 (x7) : FVec Ideal S1x8x16 .f32) : FVec Ideal S100000x8x16 .f32) : FVec Ideal S100000x8x16 .f32) (constant S_ .f32 0x00000000#32 : FVec Ideal S_ .f32) reducesTo_S100000x8x16_S100000x8_d2 h_S_ : FVec Ideal S100000x8 .f32) (ix2 n h) : EReal)
      = ∑ x, y20 (ix3 n h x) * x7 (ix2 h x) := by
  pointwise []

variable {a : Net} {x0 : Arr ⟨2, ![100000, 1]⟩} {x1 : IVec ⟨2, ![2, 1600000]⟩ 32} {x2 : Arr ⟨1, ![1600000]⟩}
  {x3 x4 : Arr ⟨1, ![1]⟩} {x5 : Arr ⟨2, ![1, 128]⟩} {x6 x7 : Arr ⟨2, ![8, 16]⟩} {x8 x9 x10 : Arr ⟨1, ![128]⟩}
  {x11 : Arr ⟨2, ![128, 32]⟩} {x12 x13 : Arr ⟨2, ![1, 32]⟩} (H : Holds a x0 x1 x2 x3 x4 x5 x6 x7 x8 x9 x10 x11 x12 x13)
include H

theorem at_v2 : ((val_main_v2 (F := Ideal) x0) (ix1 0) : EReal) = ((mean a.x : ℝ) : EReal) := by
  refine (form_v2 x0).trans ?_
  exact mean_real H.h0

theorem at_v3 : ((val_main_v3 (F := Ideal) x0) (ix1 0) : EReal) = ((var a.x : ℝ) : EReal) := by
  refine (form_v3 x0).trans ?_
  exact var_real H.h0 _

theorem at_v18 (n : Fin 100000) : ((val_main_v18 (F := Ideal) x0 x3 x4) (ix2 n 0) : EReal) = ((a.xn n : ℝ) : EReal) := by
  refine (form_v18 n x0 x3 x4 (val_main_v2 (F := Ideal) x0) (val_main_v3 (F := Ideal) x0)).trans ?_
  rw [at_v2 H, at_v3 H, H.h0, H.h3, H.h4, word_e5, ← H.he5]
  exact norm_real _ _ _ _ _ _ a.var0_pos

theorem at_v20 (n : Fin 100000) (h : Fin 8) (c : Fin 16) : ((val_main_v20 (F := Ideal) x0 x3 x4 x5) (ix3 n h c) : EReal) = ((a.xn n * a.W1 h c : ℝ) : EReal) := by
  refine (form_v20 n h c x5 (val_main_v18 (F := Ideal) x0 x3 x4)).trans ?_
  rw [Fin.sum_univ_one, at_v18 H, H.h5, EReal.coe_mul]

theorem at_v28 (n : Fin 100000) (h : Fin 8) : ((val_main_v28 (F := Ideal) x0 x3 x4 x5 x6) (ix2 n h) : EReal) = ((a.xn n * a.cs h : ℝ) : EReal) := by
  refine (form_v28 n h x6 (val_main_v20 (F := Ideal) x0 x3 x4 x5)).trans ?_
  rw [← a.src_eq]
  exact sum_real fun x _ => by rw [at_v20 H, H.h6]; simp only [EReal.coe_mul]

theorem at_v32 (n : Fin 100000) (h : Fin 8) : ((val_main_v32 (F := Ideal) x0 x3 x4 x5 x7) (ix2 n h) : EReal) = ((a.xn n * a.cd h : ℝ) : EReal) := by
  refine (form_v32 n h x7 (val_main_v20 (F := Ideal) x0 x3 x4 x5)).trans ?_
  rw [← a.dst_eq]
  exact sum_real fun x _ => by rw [at_v20 H, H.h7]; simp only [EReal.coe_mul]

end Cert.Graph
-- ==== Proof.RefLayer1.lean ====
/- The reference's first attention layer: the softmax of an edge, its message, and the sums at a node. -/
module

public import proofs.«01_k».proof.Proof.Gen.ReferenceIdeal.Read
public import proofs.«01_k».proof.Proof.Inputs
public import proofs.«01_k».proof.Proof.Formulas
public import proofs.«01_k».proof.Proof.RefNodes
public import Idealize.ShloMosaic.Lib.Pointwise

@[expose] public section

noncomputable section

namespace Cert.Graph

open Idealize.ShloMosaic Cert.ReferenceIdeal Cert.ReferenceIdeal.Gen Cert.ReferenceIdeal.Read
open scoped BigOperators

theorem word_v38 (x1 : IVec S2x1600000 32) (e : Fin 1600000) : (broadcastInDim S1600000x1 ![0] bcast_S1600000_S1600000x1_0 (select (cmpi .slt (shapeCast _ (extractStridedSlice S1x1600000 ![0, 0] (x1) slices_S2x1600000_S1x1600000_0_0 : IVec S1x1600000 32) shapeCasts_S1x1600000_S1600000 : IVec S1600000 32) (broadcastInDim S1600000 ![] bcast_S_S1600000 (constantI S_ 32 0#32 : IVec S_ 32) : IVec S1600000 32) : IVec S1600000 1) (addi (shapeCast _ (extractStridedSlice S1x1600000 ![0, 0] (x1) slices_S2x1600000_S1x1600000_0_0 : IVec S1x1600000 32) shapeCasts_S1x1600000_S1600000 : IVec S1600000 32) (broadcastInDim S1600000 ![] bcast_S_S1600000 (constantI S_ 32 100000#32 : IVec S_ 32) : IVec S1600000 32) : IVec S1600000 32) (shapeCast _ (extractStridedSlice S1x1600000 ![0, 0] (x1) slices_S2x1600000_S1x1600000_0_0 : IVec S1x1600000 32) shapeCasts_S1x1600000_S1600000 : IVec S1600000 32) : IVec S1600000 32) : IVec S1600000x1 32) (ix2 e 0) = wrap (x1 (ix2 0 e)) := by
  pointwise []
  rfl

theorem word_v45 (x1 : IVec S2x1600000 32) (e : Fin 1600000) : (broadcastInDim S1600000x1 ![0] bcast_S1600000_S1600000x1_0 (select (cmpi .slt (shapeCast _ (extractStridedSlice S1x1600000 ![1, 0] (x1) slices_S2x1600000_S1x1600000_1_0 : IVec S1x1600000 32) shapeCasts_S1x1600000_S1600000 : IVec S1600000 32) (broadcastInDim S1600000 ![] bcast_S_S1600000 (constantI S_ 32 0#32 : IVec S_ 32) : IVec S1600000 32) : IVec S1600000 1) (addi (shapeCast _ (extractStridedSlice S1x1600000 ![1, 0] (x1) slices_S2x1600000_S1x1600000_1_0 : IVec S1x1600000 32) shapeCasts_S1x1600000_S1600000 : IVec S1600000 32) (broadcastInDim S1600000 ![] bcast_S_S1600000 (constantI S_ 32 100000#32 : IVec S_ 32) : IVec S1600000 32) : IVec S1600000 32) (shapeCast _ (extractStridedSlice S1x1600000 ![1, 0] (x1) slices_S2x1600000_S1x1600000_1_0 : IVec S1x1600000 32) shapeCasts_S1x1600000_S1600000 : IVec S1600000 32) : IVec S1600000 32) : IVec S1600000x1 32) (ix2 e 0) = wrap (x1 (ix2 1 e)) := by
  pointwise []
  rfl

theorem word_v70 (x1 : IVec S2x1600000 32) (e : Fin 1600000) : (broadcastInDim S1600000x1 ![0] bcast_S1600000_S1600000x1_0 (select (cmpi .slt (shapeCast _ (extractStridedSlice S1x1600000 ![1, 0] (x1) slices_S2x1600000_S1x1600000_1_0 : IVec S1x1600000 32) shapeCasts_S1x1600000_S1600000 : IVec S1600000 32) (broadcastInDim S1600000 ![] bcast_S_S1600000 (constantI S_ 32 0#32 : IVec S_ 32) : IVec S1600000 32) : IVec S1600000 1) (addi (shapeCast _ (extractStridedSlice S1x1600000 ![1, 0] (x1) slices_S2x1600000_S1x1600000_1_0 : IVec S1x1600000 32) shapeCasts_S1x1600000_S1600000 : IVec S1600000 32) (broadcastInDim S1600000 ![] bcast_S_S1600000 (constantI S_ 32 100000#32 : IVec S_ 32) : IVec S1600000 32) : IVec S1600000 32) (shapeCast _ (extractStridedSlice S1x1600000 ![1, 0] (x1) slices_S2x1600000_S1x1600000_1_0 : IVec S1x1600000 32) shapeCasts_S1x1600000_S1600000 : IVec S1600000 32) : IVec S1600000 32) : IVec S1600000x1 32) (ix2 e 0) = wrap (x1 (ix2 1 e)) := by
  pointwise []
  rfl

theorem word_v80 (x1 : IVec S2x1600000 32) (e : Fin 1600000) : (broadcastInDim S1600000x1 ![0] bcast_S1600000_S1600000x1_0 (select (cmpi .slt (shapeCast _ (extractStridedSlice S1x1600000 ![0, 0] (x1) slices_S2x1600000_S1x1600000_0_0 : IVec S1x1600000 32) shapeCasts_S1x1600000_S1600000 : IVec S1600000 32) (broadcastInDim S1600000 ![] bcast_S_S1600000 (constantI S_ 32 0#32 : IVec S_ 32) : IVec S1600000 32) : IVec S1600000 1) (addi (shapeCast _ (extractStridedSlice S1x1600000 ![0, 0] (x1) slices_S2x1600000_S1x1600000_0_0 : IVec S1x1600000 32) shapeCasts_S1x1600000_S1600000 : IVec S1600000 32) (broadcastInDim S1600000 ![] bcast_S_S1600000 (constantI S_ 32 100000#32 : IVec S_ 32) : IVec S1600000 32) : IVec S1600000 32) (shapeCast _ (extractStridedSlice S1x1600000 ![0, 0] (x1) slices_S2x1600000_S1x1600000_0_0 : IVec S1x1600000 32) shapeCasts_S1x1600000_S1600000 : IVec S1600000 32) : IVec S1600000 32) : IVec S1600000x1 32) (ix2 e 0) = wrap (x1 (ix2 0 e)) := by
  pointwise []
  rfl

theorem word_v63 (x1 : IVec S2x1600000 32) (e : Fin 1600000) : (broadcastInDim S1600000x1 ![0] bcast_S1600000_S1600000x1_0 (shapeCast _ (extractStridedSlice S1x1600000 ![1, 0] (x1) slices_S2x1600000_S1x1600000_1_0 : IVec S1x1600000 32) shapeCasts_S1x1600000_S1600000 : IVec S1600000 32) : IVec S1600000x1 32) (ix2 e 0) = (x1 (ix2 1 e)) := by
  pointwise []

theorem word_v89 (x1 : IVec S2x1600000 32) (e : Fin 1600000) : (broadcastInDim S1600000x1 ![0] bcast_S1600000_S1600000x1_0 (shapeCast _ (extractStridedSlice S1x1600000 ![1, 0] (x1) slices_S2x1600000_S1x1600000_1_0 : IVec S1x1600000 32) shapeCasts_S1x1600000_S1600000 : IVec S1600000 32) : IVec S1600000x1 32) (ix2 e 0) = (x1 (ix2 1 e)) := by
  pointwise []

theorem form_v54 (h : Fin 8) (y28 : FVec Ideal S100000x8 .f32) :
    ((Host.reduce FloatOps.maximumf (Host.absf y28 : FVec Ideal S100000x8 .f32) (constant S_ .f32 0xFF800000#32 : FVec Ideal S_ .f32) reducesTo_S100000x8_S8_d0 h_S_ : FVec Ideal S8 .f32) (ix1 h) : EReal)
      = Finset.fold max (Ideal.ofBits FTy.f32 0xFF800000#32) (fun x => max (y28 (ix2 x h)) (-(y28 (ix2 x h)))) Finset.univ := by
  pointwise []
  rfl

theorem form_v56 (h : Fin 8) (y32 : FVec Ideal S100000x8 .f32) :
    ((Host.reduce FloatOps.maximumf (Host.absf y32 : FVec Ideal S100000x8 .f32) (constant S_ .f32 0xFF800000#32 : FVec Ideal S_ .f32) reducesTo_S100000x8_S8_d0 h_S_ : FVec Ideal S8 .f32) (ix1 h) : EReal)
      = Finset.fold max (Ideal.ofBits FTy.f32 0xFF800000#32) (fun x => max (y32 (ix2 x h)) (-(y32 (ix2 x h)))) Finset.univ := by
  pointwise []
  rfl

theorem form_v58 (y54 : FVec Ideal S8 .f32) (y56 : FVec Ideal S8 .f32) :
    ((Host.reduce FloatOps.maximumf (addf y54 y56 : FVec Ideal S8 .f32) (constant S_ .f32 0xFF800000#32 : FVec Ideal S_ .f32) reducesTo_S8_S_d0 h_S_ : FVec Ideal S_ .f32) (ix0) : EReal)
      = Finset.fold max (Ideal.ofBits FTy.f32 0xFF800000#32) (fun k => y54 (ix1 k) + y56 (ix1 k)) Finset.univ := by
  pointwise []

theorem form_v61 (e : Fin 1600000) (h : Fin 8) (y39 : FVec Ideal S1600000x8 .f32) (y46 : FVec Ideal S1600000x8 .f32) (y58 : FVec Ideal S_ .f32) :
    ((Host.exp (subf (select (cmpf .oge (addf y39 y46 : FVec Ideal S1600000x8 .f32) (broadcastInDim S1600000x8 ![] bcast_S_S1600000x8 (constant S_ .f32 0x00000000#32 : FVec Ideal S_ .f32) : FVec Ideal S1600000x8 .f32) : IVec S1600000x8 1) (addf y39 y46 : FVec Ideal S1600000x8 .f32) (mulf (broadcastInDim S1600000x8 ![] bcast_S_S1600000x8 (constant S_ .f32 0x3E4CCCCD#32 : FVec Ideal S_ .f32) : FVec Ideal S1600000x8 .f32) (addf y39 y46 : FVec Ideal S1600000x8 .f32) : FVec Ideal S1600000x8 .f32) : FVec Ideal S1600000x8 .f32) (broadcastInDim S1600000x8 ![] bcast_S_S1600000x8 y58 : FVec Ideal S1600000x8 .f32) : FVec Ideal S1600000x8 .f32) : FVec Ideal S1600000x8 .f32) (ix2 e h) : EReal)
      = Ideal.exp ((if 0 ≤ (y39 (ix2 e h) + y46 (ix2 e h)) then (y39 (ix2 e h) + y46 (ix2 e h)) else Ideal.ofBits FTy.f32 0x3E4CCCCD#32 * (y39 (ix2 e h) + y46 (ix2 e h))) - y58 ix0) := by
  pointwise []

theorem form_v62 (n : Fin 100000) (h : Fin 8) :
    ((broadcastInDim S100000x8 ![] bcast_S_S100000x8 (constant S_ .f32 0x00000000#32 : FVec Ideal S_ .f32) : FVec Ideal S100000x8 .f32) (ix2 n h) : EReal)
      = 0 := by
  pointwise []

theorem form_v74 (e : Fin 1600000) (h : Fin 8) (y61 : FVec Ideal S1600000x8 .f32) (y71 : FVec Ideal S1600000x8 .f32) :
    ((Host.divf y61 (addf y71 (broadcastInDim S1600000x8 ![] bcast_S_S1600000x8 (constant S_ .f32 0x24E69595#32 : FVec Ideal S_ .f32) : FVec Ideal S1600000x8 .f32) : FVec Ideal S1600000x8 .f32) : FVec Ideal S1600000x8 .f32) (ix2 e h) : EReal)
      = Ideal.div (y61 (ix2 e h)) (y71 (ix2 e h) + Ideal.ofBits .f32 0x24E69595#32) := by
  pointwise []

theorem form_v87 (e : Fin 1600000) (h : Fin 8) (c : Fin 16) (x2 : FVec Ideal S1600000 .f32) (y74 : FVec Ideal S1600000x8 .f32) (y81 : FVec Ideal S1600000x8x16 .f32) :
    ((mulf (mulf y81 (broadcastInDim S1600000x8x16 ![0, 1, 2] bcast_S1600000x8x1_S1600000x8x16_0_1_2 (broadcastInDim S1600000x8x1 ![0, 1] bcast_S1600000x8_S1600000x8x1_0_1 y74 : FVec Ideal S1600000x8x1 .f32) : FVec Ideal S1600000x8x16 .f32) : FVec Ideal S1600000x8x16 .f32) (broadcastInDim S1600000x8x16 ![0, 1, 2] bcast_S1600000x1x1_S1600000x8x16_0_1_2 (broadcastInDim S1600000x1x1 ![0] bcast_S1600000_S1600000x1x1_0 (x2) : FVec Ideal S1600000x1x1 .f32) : FVec Ideal S1600000x8x16 .f32) : FVec Ideal S1600000x8x16 .f32) (ix3 e h c) : EReal)
      = y81 (ix3 e h c) * y74 (ix2 e h) * x2 (ix1 e) := by
  pointwise []

theorem form_v88 (n : Fin 100000) (h : Fin 8) (c : Fin 16) :
    ((broadcastInDim S100000x8x16 ![] bcast_S_S100000x8x16 (constant S_ .f32 0x00000000#32 : FVec Ideal S_ .f32) : FVec Ideal S100000x8x16 .f32) (ix3 n h c) : EReal)
      = 0 := by
  pointwise []

theorem form_v94 (n : Fin 100000) (k : Fin 128) (x8 : FVec Ideal S128 .f32) (y90 : FVec Ideal S100000x8x16 .f32) :
    ((addf (shapeCast _ y90 shapeCasts_S100000x8x16_S100000x128 : FVec Ideal S100000x128 .f32) (broadcastInDim S100000x128 ![0, 1] bcast_S1x128_S100000x128_0_1 (broadcastInDim S1x128 ![1] bcast_S128_S1x128_1 (x8) : FVec Ideal S1x128 .f32) : FVec Ideal S100000x128 .f32) : FVec Ideal S100000x128 .f32) (ix2 n k) : EReal)
      = y90 (ix3 n (hd k) (ch k)) + x8 (ix1 k) := by
  pointwise []
  rfl

variable {a : Net} {x0 : Arr ⟨2, ![100000, 1]⟩} {x1 : IVec ⟨2, ![2, 1600000]⟩ 32} {x2 : Arr ⟨1, ![1600000]⟩}
  {x3 x4 : Arr ⟨1, ![1]⟩} {x5 : Arr ⟨2, ![1, 128]⟩} {x6 x7 : Arr ⟨2, ![8, 16]⟩} {x8 x9 x10 : Arr ⟨1, ![128]⟩}
  {x11 : Arr ⟨2, ![128, 32]⟩} {x12 x13 : Arr ⟨2, ![1, 32]⟩} (H : Holds a x0 x1 x2 x3 x4 x5 x6 x7 x8 x9 x10 x11 x12 x13)
include H

theorem into_v63 (n : Fin 100000) : into (val_main_v63 (F := Ideal) x1) n = a.into n := by
  ext e
  rw [mem_into, H.hinto]
  exact iff_of_eq (congrArg (fun w : BitVec 32 => w.toInt = (n.val : Int)) (word_v63 x1 e))

theorem into_v89 (n : Fin 100000) : into (val_main_v89 (F := Ideal) x1) n = a.into n := by
  ext e
  rw [mem_into, H.hinto]
  exact iff_of_eq (congrArg (fun w : BitVec 32 => w.toInt = (n.val : Int)) (word_v89 x1 e))

theorem at_v39 (e : Fin 1600000) (h : Fin 8) : ((val_main_v39 (F := Ideal) x0 x1 x3 x4 x5 x6) (ix2 e h) : EReal) = ((a.xn (a.s e) * a.cs h : ℝ) : EReal) := by
  refine (take2_apply NN_pos Facts₀.gather_S100000x8_S1600000x1_S1600000x8_1_0_n_n_0_1_18_wf (val_main_v28 (F := Ideal) x0 x3 x4 x5 x6) (val_main_v38 (F := Ideal) x1) e h).trans ?_
  rw [show (val_main_v38 (F := Ideal) x1) (ix2 e 0) = wrap (x1 (ix2 0 e)) from word_v38 x1 e,
    show row 100000 NN_pos (wrap (x1 (ix2 0 e))) = a.s e from H.hsrc e, at_v28 H]

theorem at_v46 (e : Fin 1600000) (h : Fin 8) : ((val_main_v46 (F := Ideal) x0 x1 x3 x4 x5 x7) (ix2 e h) : EReal) = ((a.xn (a.d e) * a.cd h : ℝ) : EReal) := by
  refine (take2_apply NN_pos Facts₀.gather_S100000x8_S1600000x1_S1600000x8_1_0_n_n_0_1_18_wf (val_main_v32 (F := Ideal) x0 x3 x4 x5 x7) (val_main_v45 (F := Ideal) x1) e h).trans ?_
  rw [show (val_main_v45 (F := Ideal) x1) (ix2 e 0) = wrap (x1 (ix2 1 e)) from word_v45 x1 e,
    show row 100000 NN_pos (wrap (x1 (ix2 1 e))) = a.d e from H.hdst e, at_v32 H]

theorem at_v54 (h : Fin 8) : ((val_main_v54 (F := Ideal) x0 x3 x4 x5 x6) (ix1 h) : EReal) = ((top fun n => |a.xn n * a.cs h| : ℝ) : EReal) := by
  refine (form_v54 h (val_main_v28 (F := Ideal) x0 x3 x4 x5 x6)).trans ?_
  rw [word_bot]
  exact fold_real fun n => by rw [at_v28 H, abs_real]

theorem at_v56 (h : Fin 8) : ((val_main_v56 (F := Ideal) x0 x3 x4 x5 x7) (ix1 h) : EReal) = ((top fun n => |a.xn n * a.cd h| : ℝ) : EReal) := by
  refine (form_v56 h (val_main_v32 (F := Ideal) x0 x3 x4 x5 x7)).trans ?_
  rw [word_bot]
  exact fold_real fun n => by rw [at_v32 H, abs_real]

theorem at_v58 : ((val_main_v58 (F := Ideal) x0 x3 x4 x5 x6 x7) (ix0) : EReal) = ((a.m1 : ℝ) : EReal) := by
  refine (form_v58 (val_main_v54 (F := Ideal) x0 x3 x4 x5 x6) (val_main_v56 (F := Ideal) x0 x3 x4 x5 x7)).trans ?_
  rw [word_bot, ← a.bound_eq]
  exact fold_real fun h => by rw [at_v54 H, at_v56 H, EReal.coe_add]

theorem at_v61 (e : Fin 1600000) (h : Fin 8) : ((val_main_v61 (F := Ideal) x0 x1 x3 x4 x5 x6 x7) (ix2 e h) : EReal) = ((a.ex1 e h : ℝ) : EReal) := by
  refine (form_v61 e h (val_main_v39 (F := Ideal) x0 x1 x3 x4 x5 x6) (val_main_v46 (F := Ideal) x0 x1 x3 x4 x5 x7) (val_main_v58 (F := Ideal) x0 x3 x4 x5 x6 x7)).trans ?_
  rw [at_v39 H, at_v46 H, at_v58 H, word_slope, ← H.hr, ← EReal.coe_add, leaky_ge, ← EReal.coe_sub, exp_real]
  rfl

theorem at_v64 (n : Fin 100000) (h : Fin 8) : ((val_main_v64 (F := Ideal) x0 x1 x3 x4 x5 x6 x7) (ix2 n h) : EReal) = ((a.den1 n h : ℝ) : EReal) := by
  refine (segment2_apply Facts₀.scatter_S100000x8_S1600000x1_S1600000x8_1_0_0_1_wf (val_main_v62 (F := Ideal)) (val_main_v63 (F := Ideal) x1) (val_main_v61 (F := Ideal) x0 x1 x3 x4 x5 x6 x7) n h).trans ?_
  rw [into_v63 H, show (val_main_v62 (F := Ideal)) (ix2 n h) = (0 : EReal) from form_v62 n h, zero_add]
  exact sum_real fun e _ => at_v61 H e h

theorem at_v71 (e : Fin 1600000) (h : Fin 8) : ((val_main_v71 (F := Ideal) x0 x1 x3 x4 x5 x6 x7) (ix2 e h) : EReal) = ((a.den1 (a.d e) h : ℝ) : EReal) := by
  refine (take2_apply NN_pos Facts₀.gather_S100000x8_S1600000x1_S1600000x8_1_0_n_n_0_1_18_wf (val_main_v64 (F := Ideal) x0 x1 x3 x4 x5 x6 x7) (val_main_v70 (F := Ideal) x1) e h).trans ?_
  rw [show (val_main_v70 (F := Ideal) x1) (ix2 e 0) = wrap (x1 (ix2 1 e)) from word_v70 x1 e,
    show row 100000 NN_pos (wrap (x1 (ix2 1 e))) = a.d e from H.hdst e, at_v64 H]

theorem at_v74 (e : Fin 1600000) (h : Fin 8) : ((val_main_v74 (F := Ideal) x0 x1 x3 x4 x5 x6 x7) (ix2 e h) : EReal) = ((a.ex1 e h / (a.den1 (a.d e) h + a.e16) : ℝ) : EReal) := by
  refine (form_v74 e h (val_main_v61 (F := Ideal) x0 x1 x3 x4 x5 x6 x7) (val_main_v71 (F := Ideal) x0 x1 x3 x4 x5 x6 x7)).trans ?_
  rw [at_v61 H, at_v71 H, word_e16, ← H.he16]
  exact quot_real _ _ _ (a.den1_pos _ _)

theorem at_v81 (e : Fin 1600000) (h : Fin 8) (c : Fin 16) : ((val_main_v81 (F := Ideal) x0 x1 x3 x4 x5) (ix3 e h c) : EReal) = ((a.xn (a.s e) * a.W1 h c : ℝ) : EReal) := by
  refine (take3_apply NN_pos Facts₀.gather_S100000x8x16_S1600000x1_S1600000x8x16_12_0_n_n_0_1_1816_wf (val_main_v20 (F := Ideal) x0 x3 x4 x5) (val_main_v80 (F := Ideal) x1) e h c).trans ?_
  rw [show (val_main_v80 (F := Ideal) x1) (ix2 e 0) = wrap (x1 (ix2 0 e)) from word_v80 x1 e,
    show row 100000 NN_pos (wrap (x1 (ix2 0 e))) = a.s e from H.hsrc e, at_v20 H]

theorem at_v87 (e : Fin 1600000) (h : Fin 8) (c : Fin 16) : ((val_main_v87 (F := Ideal) x0 x1 x2 x3 x4 x5 x6 x7) (ix3 e h c) : EReal) = ((a.xn (a.s e) * a.W1 h c * (a.ex1 e h / (a.den1 (a.d e) h + a.e16)) * a.ew e : ℝ) : EReal) := by
  refine (form_v87 e h c x2 (val_main_v74 (F := Ideal) x0 x1 x3 x4 x5 x6 x7) (val_main_v81 (F := Ideal) x0 x1 x3 x4 x5)).trans ?_
  rw [at_v81 H, at_v74 H, H.h2]
  simp only [EReal.coe_mul]

theorem at_v90 (n : Fin 100000) (h : Fin 8) (c : Fin 16) : ((val_main_v90 (F := Ideal) x0 x1 x2 x3 x4 x5 x6 x7) (ix3 n h c) : EReal) = ((a.W1 h c * a.s1 n h : ℝ) : EReal) := by
  refine (segment3_apply Facts₀.scatter_S100000x8x16_S1600000x1_S1600000x8x16_12_0_0_1_wf (val_main_v88 (F := Ideal)) (val_main_v89 (F := Ideal) x1) (val_main_v87 (F := Ideal) x0 x1 x2 x3 x4 x5 x6 x7) n h c).trans ?_
  rw [into_v89 H, show (val_main_v88 (F := Ideal)) (ix3 n h c) = (0 : EReal) from form_v88 n h c, zero_add]
  rw [← a.layer1_eq]
  exact sum_real fun e _ => at_v87 H e h c

theorem at_v94 (n : Fin 100000) (k : Fin 128) : ((val_main_v94 (F := Ideal) x0 x1 x2 x3 x4 x5 x6 x7 x8) (ix2 n k) : EReal) = ((a.o1 n k : ℝ) : EReal) := by
  refine (form_v94 n k x8 (val_main_v90 (F := Ideal) x0 x1 x2 x3 x4 x5 x6 x7)).trans ?_
  rw [at_v90 H, H.flat8, ← EReal.coe_add]
  rfl

end Cert.Graph
-- ==== Proof.RefNorm.lean ====
/- The reference's second batch norm and layer 2's features. -/
module

public import proofs.«01_k».proof.Proof.Gen.ReferenceIdeal.Read
public import proofs.«01_k».proof.Proof.Inputs
public import proofs.«01_k».proof.Proof.Formulas
public import proofs.«01_k».proof.Proof.RefLayer1
public import Idealize.ShloMosaic.Lib.Pointwise

@[expose] public section

noncomputable section

namespace Cert.Graph

open Idealize.ShloMosaic Cert.ReferenceIdeal Cert.ReferenceIdeal.Gen Cert.ReferenceIdeal.Read
open scoped BigOperators

theorem form_v97 (k : Fin 128) (y94 : FVec Ideal S100000x128 .f32) :
    ((Host.divf (Host.reduceAdd y94 (constant S_ .f32 0x00000000#32 : FVec Ideal S_ .f32) reducesTo_S100000x128_S128_d0 h_S_ : FVec Ideal S128 .f32) (broadcastInDim S128 ![] bcast_S_S128 (constant S_ .f32 0x47C35000#32 : FVec Ideal S_ .f32) : FVec Ideal S128 .f32) : FVec Ideal S128 .f32) (ix1 k) : EReal)
      = Ideal.div (∑ x, y94 (ix2 x k)) (Ideal.ofBits FTy.f32 0x47C35000#32) := by
  pointwise []

theorem form_v98 (k : Fin 128) (y94 : FVec Ideal S100000x128 .f32) :
    ((select (broadcastInDim S128 ![] bcast_S_S128 (cmpf .ogt (subf (constant S_ .f32 0x47C35000#32 : FVec Ideal S_ .f32) (sitofp .f32 (constantI S_ 32 0#32 : IVec S_ 32) : FVec Ideal S_ .f32) : FVec Ideal S_ .f32) (constant S_ .f32 0x00000000#32 : FVec Ideal S_ .f32) : IVec S_ 1)) (Host.divf (Host.reduceAdd (mulf (subf y94 (broadcastInDim S100000x128 ![0, 1] bcast_S1x128_S100000x128_0_1 (Host.divf (broadcastInDim S1x128 ![1] bcast_S128_S1x128_1 (Host.reduceAdd y94 (constant S_ .f32 0x00000000#32 : FVec Ideal S_ .f32) reducesTo_S100000x128_S128_d0 h_S_ : FVec Ideal S128 .f32) : FVec Ideal S1x128 .f32) (broadcastInDim S1x128 ![] bcast_S_S1x128 (constant S_ .f32 0x47C35000#32 : FVec Ideal S_ .f32) : FVec Ideal S1x128 .f32) : FVec Ideal S1x128 .f32) : FVec Ideal S100000x128 .f32) : FVec Ideal S100000x128 .f32) (subf y94 (broadcastInDim S100000x128 ![0, 1] bcast_S1x128_S100000x128_0_1 (Host.divf (broadcastInDim S1x128 ![1] bcast_S128_S1x128_1 (Host.reduceAdd y94 (constant S_ .f32 0x00000000#32 : FVec Ideal S_ .f32) reducesTo_S100000x128_S128_d0 h_S_ : FVec Ideal S128 .f32) : FVec Ideal S1x128 .f32) (broadcastInDim S1x128 ![] bcast_S_S1x128 (constant S_ .f32 0x47C35000#32 : FVec Ideal S_ .f32) : FVec Ideal S1x128 .f32) : FVec Ideal S1x128 .f32) : FVec Ideal S100000x128 .f32) : FVec Ideal S100000x128 .f32) : FVec Ideal S100000x128 .f32) (constant S_ .f32 0x00000000#32 : FVec Ideal S_ .f32) reducesTo_S100000x128_S128_d0 h_S_ : FVec Ideal S128 .f32) (broadcastInDim S128 ![] bcast_S_S128 (subf (constant S_ .f32 0x47C35000#32 : FVec Ideal S_ .f32) (sitofp .f32 (constantI S_ 32 0#32 : IVec S_ 32) : FVec Ideal S_ .f32) : FVec Ideal S_ .f32) : FVec Ideal S128 .f32) : FVec Ideal S128 .f32) (broadcastInDim S128 ![] bcast_S_S128 (id (constant S_ .f32 0x7FC00000#32 : FVec Ideal S_ .f32) : FVec Ideal S_ .f32) : FVec Ideal S128 .f32) : FVec Ideal S128 .f32) (ix1 k) : EReal)
      = (if 0 < Ideal.ofBits FTy.f32 0x47C35000#32 - FloatOps.sitofp (F := Ideal) FTy.f32 0#32 then Ideal.div (∑ x, (y94 (ix2 x k) - Ideal.div (∑ x, y94 (ix2 x k)) (Ideal.ofBits FTy.f32 0x47C35000#32)) * (y94 (ix2 x k) - Ideal.div (∑ x, y94 (ix2 x k)) (Ideal.ofBits FTy.f32 0x47C35000#32))) (Ideal.ofBits FTy.f32 0x47C35000#32 - FloatOps.sitofp (F := Ideal) FTy.f32 0#32) else id (constant (F := Ideal) S_ FTy.f32 0x7FC00000#32) ix0) := by
  pointwise []

theorem form_v115 (n : Fin 100000) (k : Fin 128) (x9 : FVec Ideal S128 .f32) (x10 : FVec Ideal S128 .f32) (y94 : FVec Ideal S100000x128 .f32) (y97 : FVec Ideal S128 .f32) (y98 : FVec Ideal S128 .f32) :
    ((maximumf (addf (mulf (Host.divf (subf y94 (broadcastInDim S100000x128 ![0, 1] bcast_S1x128_S100000x128_0_1 (broadcastInDim S1x128 ![1] bcast_S128_S1x128_1 y97 : FVec Ideal S1x128 .f32) : FVec Ideal S100000x128 .f32) : FVec Ideal S100000x128 .f32) (broadcastInDim S100000x128 ![0, 1] bcast_S1x128_S100000x128_0_1 (broadcastInDim S1x128 ![1] bcast_S128_S1x128_1 (Host.sqrt (addf y98 (broadcastInDim S128 ![] bcast_S_S128 (constant S_ .f32 0x3727C5AC#32 : FVec Ideal S_ .f32) : FVec Ideal S128 .f32) : FVec Ideal S128 .f32) : FVec Ideal S128 .f32) : FVec Ideal S1x128 .f32) : FVec Ideal S100000x128 .f32) : FVec Ideal S100000x128 .f32) (broadcastInDim S100000x128 ![0, 1] bcast_S1x128_S100000x128_0_1 (broadcastInDim S1x128 ![1] bcast_S128_S1x128_1 (x9) : FVec Ideal S1x128 .f32) : FVec Ideal S100000x128 .f32) : FVec Ideal S100000x128 .f32) (broadcastInDim S100000x128 ![0, 1] bcast_S1x128_S100000x128_0_1 (broadcastInDim S1x128 ![1] bcast_S128_S1x128_1 (x10) : FVec Ideal S1x128 .f32) : FVec Ideal S100000x128 .f32) : FVec Ideal S100000x128 .f32) (broadcastInDim S100000x128 ![] bcast_S_S100000x128 (constant S_ .f32 0x00000000#32 : FVec Ideal S_ .f32) : FVec Ideal S100000x128 .f32) : FVec Ideal S100000x128 .f32) (ix2 n k) : EReal)
      = max (Ideal.div (y94 (ix2 n k) - y97 (ix1 k)) (Ideal.sqrt (y98 (ix1 k) + Ideal.ofBits FTy.f32 0x3727C5AC#32)) * x9 (ix1 k) + x10 (ix1 k)) 0 := by
  pointwise []

theorem form_v117 (n : Fin 100000) (o : Fin 32) (x11 : FVec Ideal S128x32 .f32) (y115 : FVec Ideal S100000x128 .f32) :
    ((shapeCast _ (Host.dotGeneral dot_S100000x128_S128x32_S100000x32_1_0_0_1_n_n none y115 (x11) : FVec Ideal S100000x32 .f32) shapeCasts_S100000x32_S100000x1x32 : FVec Ideal S100000x1x32 .f32) (ix3 n 0 o) : EReal)
      = ∑ x, y115 (ix2 n x) * x11 (ix2 x o) := by
  pointwise []

theorem form_v125 (n : Fin 100000) (x12 : FVec Ideal S1x32 .f32) (y117 : FVec Ideal S100000x1x32 .f32) :
    ((Host.reduceAdd (mulf y117 (broadcastInDim S100000x1x32 ![0, 1, 2] bcast_S1x1x32_S100000x1x32_0_1_2 (broadcastInDim S1x1x32 ![1, 2] bcast_S1x32_S1x1x32_1_2 (x12) : FVec Ideal S1x1x32 .f32) : FVec Ideal S100000x1x32 .f32) : FVec Ideal S100000x1x32 .f32) (constant S_ .f32 0x00000000#32 : FVec Ideal S_ .f32) reducesTo_S100000x1x32_S100000x1_d2 h_S_ : FVec Ideal S100000x1 .f32) (ix2 n 0) : EReal)
      = ∑ x, y117 (ix3 n 0 x) * x12 (ix2 0 x) := by
  pointwise []

theorem form_v129 (n : Fin 100000) (x13 : FVec Ideal S1x32 .f32) (y117 : FVec Ideal S100000x1x32 .f32) :
    ((Host.reduceAdd (mulf y117 (broadcastInDim S100000x1x32 ![0, 1, 2] bcast_S1x1x32_S100000x1x32_0_1_2 (broadcastInDim S1x1x32 ![1, 2] bcast_S1x32_S1x1x32_1_2 (x13) : FVec Ideal S1x1x32 .f32) : FVec Ideal S100000x1x32 .f32) : FVec Ideal S100000x1x32 .f32) (constant S_ .f32 0x00000000#32 : FVec Ideal S_ .f32) reducesTo_S100000x1x32_S100000x1_d2 h_S_ : FVec Ideal S100000x1 .f32) (ix2 n 0) : EReal)
      = ∑ x, y117 (ix3 n 0 x) * x13 (ix2 0 x) := by
  pointwise []

variable {a : Net} {x0 : Arr ⟨2, ![100000, 1]⟩} {x1 : IVec ⟨2, ![2, 1600000]⟩ 32} {x2 : Arr ⟨1, ![1600000]⟩}
  {x3 x4 : Arr ⟨1, ![1]⟩} {x5 : Arr ⟨2, ![1, 128]⟩} {x6 x7 : Arr ⟨2, ![8, 16]⟩} {x8 x9 x10 : Arr ⟨1, ![128]⟩}
  {x11 : Arr ⟨2, ![128, 32]⟩} {x12 x13 : Arr ⟨2, ![1, 32]⟩} (H : Holds a x0 x1 x2 x3 x4 x5 x6 x7 x8 x9 x10 x11 x12 x13)
include H

theorem at_v97 (k : Fin 128) : ((val_main_v97 (F := Ideal) x0 x1 x2 x3 x4 x5 x6 x7 x8) (ix1 k) : EReal) = ((mean fun n => a.o1 n k : ℝ) : EReal) := by
  refine (form_v97 k (val_main_v94 (F := Ideal) x0 x1 x2 x3 x4 x5 x6 x7 x8)).trans ?_
  exact mean_real fun n => at_v94 H n k

theorem at_v98 (k : Fin 128) : ((val_main_v98 (F := Ideal) x0 x1 x2 x3 x4 x5 x6 x7 x8) (ix1 k) : EReal) = ((var fun n => a.o1 n k : ℝ) : EReal) := by
  refine (form_v98 k (val_main_v94 (F := Ideal) x0 x1 x2 x3 x4 x5 x6 x7 x8)).trans ?_
  exact var_real (fun n => at_v94 H n k) _

theorem at_v115 (n : Fin 100000) (k : Fin 128) : ((val_main_v115 (F := Ideal) x0 x1 x2 x3 x4 x5 x6 x7 x8 x9 x10) (ix2 n k) : EReal) = ((a.h2 n (hd k) (ch k) : ℝ) : EReal) := by
  refine (form_v115 n k x9 x10 (val_main_v94 (F := Ideal) x0 x1 x2 x3 x4 x5 x6 x7 x8) (val_main_v97 (F := Ideal) x0 x1 x2 x3 x4 x5 x6 x7 x8) (val_main_v98 (F := Ideal) x0 x1 x2 x3 x4 x5 x6 x7 x8)).trans ?_
  rw [at_v94 H, at_v97 H, at_v98 H, H.flat9, H.flat10, word_e5, ← H.he5, norm_real _ _ _ _ _ _ (a.var_o1_pos k), max_real_zero, a.norm_o1]

theorem at_v117 (n : Fin 100000) (o : Fin 32) : ((val_main_v117 (F := Ideal) x0 x1 x2 x3 x4 x5 x6 x7 x8 x9 x10 x11) (ix3 n 0 o) : EReal) = ((a.h2w n o : ℝ) : EReal) := by
  refine (form_v117 n o x11 (val_main_v115 (F := Ideal) x0 x1 x2 x3 x4 x5 x6 x7 x8 x9 x10)).trans ?_
  exact sum_real fun k _ => by rw [at_v115 H, H.h11, EReal.coe_mul]

theorem at_v125 (n : Fin 100000) : ((val_main_v125 (F := Ideal) x0 x1 x2 x3 x4 x5 x6 x7 x8 x9 x10 x11 x12) (ix2 n 0) : EReal) = ((a.asv n : ℝ) : EReal) := by
  refine (form_v125 n x12 (val_main_v117 (F := Ideal) x0 x1 x2 x3 x4 x5 x6 x7 x8 x9 x10 x11)).trans ?_
  exact sum_real fun o _ => by rw [at_v117 H, H.h12, EReal.coe_mul]

theorem at_v129 (n : Fin 100000) : ((val_main_v129 (F := Ideal) x0 x1 x2 x3 x4 x5 x6 x7 x8 x9 x10 x11 x13) (ix2 n 0) : EReal) = ((a.adv n : ℝ) : EReal) := by
  refine (form_v129 n x13 (val_main_v117 (F := Ideal) x0 x1 x2 x3 x4 x5 x6 x7 x8 x9 x10 x11)).trans ?_
  exact sum_real fun o _ => by rw [at_v117 H, H.h13, EReal.coe_mul]

end Cert.Graph
-- ==== Proof.RefLayer2.lean ====
/- The reference's second attention layer. -/
module

public import proofs.«01_k».proof.Proof.Gen.ReferenceIdeal.Read
public import proofs.«01_k».proof.Proof.Inputs
public import proofs.«01_k».proof.Proof.Formulas
public import proofs.«01_k».proof.Proof.RefNorm
public import Idealize.ShloMosaic.Lib.Pointwise

@[expose] public section

noncomputable section

namespace Cert.Graph

open Idealize.ShloMosaic Cert.ReferenceIdeal Cert.ReferenceIdeal.Gen Cert.ReferenceIdeal.Read
open scoped BigOperators

theorem word_v135 (x1 : IVec S2x1600000 32) (e : Fin 1600000) : (broadcastInDim S1600000x1 ![0] bcast_S1600000_S1600000x1_0 (select (cmpi .slt (shapeCast _ (extractStridedSlice S1x1600000 ![0, 0] (x1) slices_S2x1600000_S1x1600000_0_0 : IVec S1x1600000 32) shapeCasts_S1x1600000_S1600000 : IVec S1600000 32) (broadcastInDim S1600000 ![] bcast_S_S1600000 (constantI S_ 32 0#32 : IVec S_ 32) : IVec S1600000 32) : IVec S1600000 1) (addi (shapeCast _ (extractStridedSlice S1x1600000 ![0, 0] (x1) slices_S2x1600000_S1x1600000_0_0 : IVec S1x1600000 32) shapeCasts_S1x1600000_S1600000 : IVec S1600000 32) (broadcastInDim S1600000 ![] bcast_S_S1600000 (constantI S_ 32 100000#32 : IVec S_ 32) : IVec S1600000 32) : IVec S1600000 32) (shapeCast _ (extractStridedSlice S1x1600000 ![0, 0] (x1) slices_S2x1600000_S1x1600000_0_0 : IVec S1x1600000 32) shapeCasts_S1x1600000_S1600000 : IVec S1600000 32) : IVec S1600000 32) : IVec S1600000x1 32) (ix2 e 0) = wrap (x1 (ix2 0 e)) := by
  pointwise []
  rfl

theorem word_v142 (x1 : IVec S2x1600000 32) (e : Fin 1600000) : (broadcastInDim S1600000x1 ![0] bcast_S1600000_S1600000x1_0 (select (cmpi .slt (shapeCast _ (extractStridedSlice S1x1600000 ![1, 0] (x1) slices_S2x1600000_S1x1600000_1_0 : IVec S1x1600000 32) shapeCasts_S1x1600000_S1600000 : IVec S1600000 32) (broadcastInDim S1600000 ![] bcast_S_S1600000 (constantI S_ 32 0#32 : IVec S_ 32) : IVec S1600000 32) : IVec S1600000 1) (addi (shapeCast _ (extractStridedSlice S1x1600000 ![1, 0] (x1) slices_S2x1600000_S1x1600000_1_0 : IVec S1x1600000 32) shapeCasts_S1x1600000_S1600000 : IVec S1600000 32) (broadcastInDim S1600000 ![] bcast_S_S1600000 (constantI S_ 32 100000#32 : IVec S_ 32) : IVec S1600000 32) : IVec S1600000 32) (shapeCast _ (extractStridedSlice S1x1600000 ![1, 0] (x1) slices_S2x1600000_S1x1600000_1_0 : IVec S1x1600000 32) shapeCasts_S1x1600000_S1600000 : IVec S1600000 32) : IVec S1600000 32) : IVec S1600000x1 32) (ix2 e 0) = wrap (x1 (ix2 1 e)) := by
  pointwise []
  rfl

theorem word_v167 (x1 : IVec S2x1600000 32) (e : Fin 1600000) : (broadcastInDim S1600000x1 ![0] bcast_S1600000_S1600000x1_0 (select (cmpi .slt (shapeCast _ (extractStridedSlice S1x1600000 ![1, 0] (x1) slices_S2x1600000_S1x1600000_1_0 : IVec S1x1600000 32) shapeCasts_S1x1600000_S1600000 : IVec S1600000 32) (broadcastInDim S1600000 ![] bcast_S_S1600000 (constantI S_ 32 0#32 : IVec S_ 32) : IVec S1600000 32) : IVec S1600000 1) (addi (shapeCast _ (extractStridedSlice S1x1600000 ![1, 0] (x1) slices_S2x1600000_S1x1600000_1_0 : IVec S1x1600000 32) shapeCasts_S1x1600000_S1600000 : IVec S1600000 32) (broadcastInDim S1600000 ![] bcast_S_S1600000 (constantI S_ 32 100000#32 : IVec S_ 32) : IVec S1600000 32) : IVec S1600000 32) (shapeCast _ (extractStridedSlice S1x1600000 ![1, 0] (x1) slices_S2x1600000_S1x1600000_1_0 : IVec S1x1600000 32) shapeCasts_S1x1600000_S1600000 : IVec S1600000 32) : IVec S1600000 32) : IVec S1600000x1 32) (ix2 e 0) = wrap (x1 (ix2 1 e)) := by
  pointwise []
  rfl

theorem word_v177 (x1 : IVec S2x1600000 32) (e : Fin 1600000) : (broadcastInDim S1600000x1 ![0] bcast_S1600000_S1600000x1_0 (select (cmpi .slt (shapeCast _ (extractStridedSlice S1x1600000 ![0, 0] (x1) slices_S2x1600000_S1x1600000_0_0 : IVec S1x1600000 32) shapeCasts_S1x1600000_S1600000 : IVec S1600000 32) (broadcastInDim S1600000 ![] bcast_S_S1600000 (constantI S_ 32 0#32 : IVec S_ 32) : IVec S1600000 32) : IVec S1600000 1) (addi (shapeCast _ (extractStridedSlice S1x1600000 ![0, 0] (x1) slices_S2x1600000_S1x1600000_0_0 : IVec S1x1600000 32) shapeCasts_S1x1600000_S1600000 : IVec S1600000 32) (broadcastInDim S1600000 ![] bcast_S_S1600000 (constantI S_ 32 100000#32 : IVec S_ 32) : IVec S1600000 32) : IVec S1600000 32) (shapeCast _ (extractStridedSlice S1x1600000 ![0, 0] (x1) slices_S2x1600000_S1x1600000_0_0 : IVec S1x1600000 32) shapeCasts_S1x1600000_S1600000 : IVec S1600000 32) : IVec S1600000 32) : IVec S1600000x1 32) (ix2 e 0) = wrap (x1 (ix2 0 e)) := by
  pointwise []
  rfl

theorem word_v160 (x1 : IVec S2x1600000 32) (e : Fin 1600000) : (broadcastInDim S1600000x1 ![0] bcast_S1600000_S1600000x1_0 (shapeCast _ (extractStridedSlice S1x1600000 ![1, 0] (x1) slices_S2x1600000_S1x1600000_1_0 : IVec S1x1600000 32) shapeCasts_S1x1600000_S1600000 : IVec S1600000 32) : IVec S1600000x1 32) (ix2 e 0) = (x1 (ix2 1 e)) := by
  pointwise []

theorem word_v186 (x1 : IVec S2x1600000 32) (e : Fin 1600000) : (broadcastInDim S1600000x1 ![0] bcast_S1600000_S1600000x1_0 (shapeCast _ (extractStridedSlice S1x1600000 ![1, 0] (x1) slices_S2x1600000_S1x1600000_1_0 : IVec S1x1600000 32) shapeCasts_S1x1600000_S1600000 : IVec S1600000 32) : IVec S1600000x1 32) (ix2 e 0) = (x1 (ix2 1 e)) := by
  pointwise []

theorem form_v150 (y125 : FVec Ideal S100000x1 .f32) :
    ((Host.reduce FloatOps.maximumf y125 (constant S_ .f32 0xFF800000#32 : FVec Ideal S_ .f32) reducesTo_S100000x1_S1_d0 h_S_ : FVec Ideal S1 .f32) (ix1 0) : EReal)
      = Finset.fold max (Ideal.ofBits FTy.f32 0xFF800000#32) (fun x => y125 (ix2 x 0)) Finset.univ := by
  pointwise []

theorem form_v151 (y129 : FVec Ideal S100000x1 .f32) :
    ((Host.reduce FloatOps.maximumf y129 (constant S_ .f32 0xFF800000#32 : FVec Ideal S_ .f32) reducesTo_S100000x1_S1_d0 h_S_ : FVec Ideal S1 .f32) (ix1 0) : EReal)
      = Finset.fold max (Ideal.ofBits FTy.f32 0xFF800000#32) (fun x => y129 (ix2 x 0)) Finset.univ := by
  pointwise []

theorem form_v155 (y150 : FVec Ideal S1 .f32) (y151 : FVec Ideal S1 .f32) :
    ((Host.reduce FloatOps.maximumf (maximumf (addf y150 y151 : FVec Ideal S1 .f32) (broadcastInDim S1 ![] bcast_S_S1 (constant S_ .f32 0x00000000#32 : FVec Ideal S_ .f32) : FVec Ideal S1 .f32) : FVec Ideal S1 .f32) (constant S_ .f32 0xFF800000#32 : FVec Ideal S_ .f32) reducesTo_S1_S_d0 h_S_ : FVec Ideal S_ .f32) (ix0) : EReal)
      = Finset.fold max (Ideal.ofBits FTy.f32 0xFF800000#32) (fun k => max (y150 (ix1 k) + y151 (ix1 k)) 0) Finset.univ := by
  pointwise []

theorem form_v158 (e : Fin 1600000) (y136 : FVec Ideal S1600000x1 .f32) (y143 : FVec Ideal S1600000x1 .f32) (y155 : FVec Ideal S_ .f32) :
    ((Host.exp (subf (select (cmpf .oge (addf y136 y143 : FVec Ideal S1600000x1 .f32) (broadcastInDim S1600000x1 ![] bcast_S_S1600000x1 (constant S_ .f32 0x00000000#32 : FVec Ideal S_ .f32) : FVec Ideal S1600000x1 .f32) : IVec S1600000x1 1) (addf y136 y143 : FVec Ideal S1600000x1 .f32) (mulf (broadcastInDim S1600000x1 ![] bcast_S_S1600000x1 (constant S_ .f32 0x3E4CCCCD#32 : FVec Ideal S_ .f32) : FVec Ideal S1600000x1 .f32) (addf y136 y143 : FVec Ideal S1600000x1 .f32) : FVec Ideal S1600000x1 .f32) : FVec Ideal S1600000x1 .f32) (broadcastInDim S1600000x1 ![] bcast_S_S1600000x1 y155 : FVec Ideal S1600000x1 .f32) : FVec Ideal S1600000x1 .f32) : FVec Ideal S1600000x1 .f32) (ix2 e 0) : EReal)
      = Ideal.exp ((if 0 ≤ (y136 (ix2 e 0) + y143 (ix2 e 0)) then (y136 (ix2 e 0) + y143 (ix2 e 0)) else Ideal.ofBits FTy.f32 0x3E4CCCCD#32 * (y136 (ix2 e 0) + y143 (ix2 e 0))) - y155 ix0) := by
  pointwise []

theorem form_v159 (n : Fin 100000) :
    ((broadcastInDim S100000x1 ![] bcast_S_S100000x1 (constant S_ .f32 0x00000000#32 : FVec Ideal S_ .f32) : FVec Ideal S100000x1 .f32) (ix2 n 0) : EReal)
      = 0 := by
  pointwise []

theorem form_v171 (e : Fin 1600000) (y158 : FVec Ideal S1600000x1 .f32) (y168 : FVec Ideal S1600000x1 .f32) :
    ((Host.divf y158 (addf y168 (broadcastInDim S1600000x1 ![] bcast_S_S1600000x1 (constant S_ .f32 0x24E69595#32 : FVec Ideal S_ .f32) : FVec Ideal S1600000x1 .f32) : FVec Ideal S1600000x1 .f32) : FVec Ideal S1600000x1 .f32) (ix2 e 0) : EReal)
      = Ideal.div (y158 (ix2 e 0)) (y168 (ix2 e 0) + Ideal.ofBits .f32 0x24E69595#32) := by
  pointwise []

theorem form_v184 (e : Fin 1600000) (o : Fin 32) (x2 : FVec Ideal S1600000 .f32) (y171 : FVec Ideal S1600000x1 .f32) (y178 : FVec Ideal S1600000x1x32 .f32) :
    ((mulf (mulf y178 (broadcastInDim S1600000x1x32 ![0, 1, 2] bcast_S1600000x1x1_S1600000x1x32_0_1_2 (broadcastInDim S1600000x1x1 ![0, 1] bcast_S1600000x1_S1600000x1x1_0_1 y171 : FVec Ideal S1600000x1x1 .f32) : FVec Ideal S1600000x1x32 .f32) : FVec Ideal S1600000x1x32 .f32) (broadcastInDim S1600000x1x32 ![0, 1, 2] bcast_S1600000x1x1_S1600000x1x32_0_1_2 (broadcastInDim S1600000x1x1 ![0] bcast_S1600000_S1600000x1x1_0 (x2) : FVec Ideal S1600000x1x1 .f32) : FVec Ideal S1600000x1x32 .f32) : FVec Ideal S1600000x1x32 .f32) (ix3 e 0 o) : EReal)
      = y178 (ix3 e 0 o) * y171 (ix2 e 0) * x2 (ix1 e) := by
  pointwise []

theorem form_v185 (n : Fin 100000) (o : Fin 32) :
    ((broadcastInDim S100000x1x32 ![] bcast_S_S100000x1x32 (constant S_ .f32 0x00000000#32 : FVec Ideal S_ .f32) : FVec Ideal S100000x1x32 .f32) (ix3 n 0 o) : EReal)
      = 0 := by
  pointwise []

theorem form_v188 (n : Fin 100000) (o : Fin 32) (y187 : FVec Ideal S100000x1x32 .f32) :
    ((shapeCast _ y187 shapeCasts_S100000x1x32_S100000x32 : FVec Ideal S100000x32 .f32) (ix2 n o) : EReal)
      = y187 (ix3 n 0 o) := by
  pointwise []

variable {a : Net} {x0 : Arr ⟨2, ![100000, 1]⟩} {x1 : IVec ⟨2, ![2, 1600000]⟩ 32} {x2 : Arr ⟨1, ![1600000]⟩}
  {x3 x4 : Arr ⟨1, ![1]⟩} {x5 : Arr ⟨2, ![1, 128]⟩} {x6 x7 : Arr ⟨2, ![8, 16]⟩} {x8 x9 x10 : Arr ⟨1, ![128]⟩}
  {x11 : Arr ⟨2, ![128, 32]⟩} {x12 x13 : Arr ⟨2, ![1, 32]⟩} (H : Holds a x0 x1 x2 x3 x4 x5 x6 x7 x8 x9 x10 x11 x12 x13)
include H

theorem into_v160 (n : Fin 100000) : into (val_main_v160 (F := Ideal) x1) n = a.into n := by
  ext e
  rw [mem_into, H.hinto]
  exact iff_of_eq (congrArg (fun w : BitVec 32 => w.toInt = (n.val : Int)) (word_v160 x1 e))

theorem into_v186 (n : Fin 100000) : into (val_main_v186 (F := Ideal) x1) n = a.into n := by
  ext e
  rw [mem_into, H.hinto]
  exact iff_of_eq (congrArg (fun w : BitVec 32 => w.toInt = (n.val : Int)) (word_v186 x1 e))

theorem at_v136 (e : Fin 1600000) : ((val_main_v136 (F := Ideal) x0 x1 x2 x3 x4 x5 x6 x7 x8 x9 x10 x11 x12) (ix2 e 0) : EReal) = ((a.asv (a.s e) : ℝ) : EReal) := by
  refine (take2_apply NN_pos Facts₀.gather_S100000x1_S1600000x1_S1600000x1_1_0_n_n_0_1_11_wf (val_main_v125 (F := Ideal) x0 x1 x2 x3 x4 x5 x6 x7 x8 x9 x10 x11 x12) (val_main_v135 (F := Ideal) x1) e 0).trans ?_
  rw [show (val_main_v135 (F := Ideal) x1) (ix2 e 0) = wrap (x1 (ix2 0 e)) from word_v135 x1 e,
    show row 100000 NN_pos (wrap (x1 (ix2 0 e))) = a.s e from H.hsrc e, at_v125 H]

theorem at_v143 (e : Fin 1600000) : ((val_main_v143 (F := Ideal) x0 x1 x2 x3 x4 x5 x6 x7 x8 x9 x10 x11 x13) (ix2 e 0) : EReal) = ((a.adv (a.d e) : ℝ) : EReal) := by
  refine (take2_apply NN_pos Facts₀.gather_S100000x1_S1600000x1_S1600000x1_1_0_n_n_0_1_11_wf (val_main_v129 (F := Ideal) x0 x1 x2 x3 x4 x5 x6 x7 x8 x9 x10 x11 x13) (val_main_v142 (F := Ideal) x1) e 0).trans ?_
  rw [show (val_main_v142 (F := Ideal) x1) (ix2 e 0) = wrap (x1 (ix2 1 e)) from word_v142 x1 e,
    show row 100000 NN_pos (wrap (x1 (ix2 1 e))) = a.d e from H.hdst e, at_v129 H]

theorem at_v150 : ((val_main_v150 (F := Ideal) x0 x1 x2 x3 x4 x5 x6 x7 x8 x9 x10 x11 x12) (ix1 0) : EReal) = ((top a.asv : ℝ) : EReal) := by
  refine (form_v150 (val_main_v125 (F := Ideal) x0 x1 x2 x3 x4 x5 x6 x7 x8 x9 x10 x11 x12)).trans ?_
  rw [word_bot]
  exact fold_real fun n => at_v125 H n

theorem at_v151 : ((val_main_v151 (F := Ideal) x0 x1 x2 x3 x4 x5 x6 x7 x8 x9 x10 x11 x13) (ix1 0) : EReal) = ((top a.adv : ℝ) : EReal) := by
  refine (form_v151 (val_main_v129 (F := Ideal) x0 x1 x2 x3 x4 x5 x6 x7 x8 x9 x10 x11 x13)).trans ?_
  rw [word_bot]
  exact fold_real fun n => at_v129 H n

theorem at_v155 : ((val_main_v155 (F := Ideal) x0 x1 x2 x3 x4 x5 x6 x7 x8 x9 x10 x11 x12 x13) (ix0) : EReal) = ((a.m2 : ℝ) : EReal) := by
  refine (form_v155 (val_main_v150 (F := Ideal) x0 x1 x2 x3 x4 x5 x6 x7 x8 x9 x10 x11 x12) (val_main_v151 (F := Ideal) x0 x1 x2 x3 x4 x5 x6 x7 x8 x9 x10 x11 x13)).trans ?_
  rw [word_bot]
  refine (fold_real (f := fun _ : Fin 1 => a.m2) fun k => ?_).trans ?_
  · rw [Subsingleton.elim k 0, at_v150 H, at_v151 H, ← EReal.coe_add, max_real_zero]
    rfl
  · obtain ⟨i, hi⟩ := exists_top fun _ : Fin 1 => a.m2
    rw [hi]

theorem at_v158 (e : Fin 1600000) : ((val_main_v158 (F := Ideal) x0 x1 x2 x3 x4 x5 x6 x7 x8 x9 x10 x11 x12 x13) (ix2 e 0) : EReal) = ((a.ex2 e : ℝ) : EReal) := by
  refine (form_v158 e (val_main_v136 (F := Ideal) x0 x1 x2 x3 x4 x5 x6 x7 x8 x9 x10 x11 x12) (val_main_v143 (F := Ideal) x0 x1 x2 x3 x4 x5 x6 x7 x8 x9 x10 x11 x13) (val_main_v155 (F := Ideal) x0 x1 x2 x3 x4 x5 x6 x7 x8 x9 x10 x11 x12 x13)).trans ?_
  rw [at_v136 H, at_v143 H, at_v155 H, word_slope, ← H.hr, ← EReal.coe_add, leaky_ge, ← EReal.coe_sub, exp_real]
  rfl

theorem at_v161 (n : Fin 100000) : ((val_main_v161 (F := Ideal) x0 x1 x2 x3 x4 x5 x6 x7 x8 x9 x10 x11 x12 x13) (ix2 n 0) : EReal) = ((a.den2 n : ℝ) : EReal) := by
  refine (segment2_apply Facts₀.scatter_S100000x1_S1600000x1_S1600000x1_1_0_0_1_wf (val_main_v159 (F := Ideal)) (val_main_v160 (F := Ideal) x1) (val_main_v158 (F := Ideal) x0 x1 x2 x3 x4 x5 x6 x7 x8 x9 x10 x11 x12 x13) n 0).trans ?_
  rw [into_v160 H, show (val_main_v159 (F := Ideal)) (ix2 n 0) = (0 : EReal) from form_v159 n, zero_add]
  exact sum_real fun e _ => at_v158 H e

theorem at_v168 (e : Fin 1600000) : ((val_main_v168 (F := Ideal) x0 x1 x2 x3 x4 x5 x6 x7 x8 x9 x10 x11 x12 x13) (ix2 e 0) : EReal) = ((a.den2 (a.d e) : ℝ) : EReal) := by
  refine (take2_apply NN_pos Facts₀.gather_S100000x1_S1600000x1_S1600000x1_1_0_n_n_0_1_11_wf (val_main_v161 (F := Ideal) x0 x1 x2 x3 x4 x5 x6 x7 x8 x9 x10 x11 x12 x13) (val_main_v167 (F := Ideal) x1) e 0).trans ?_
  rw [show (val_main_v167 (F := Ideal) x1) (ix2 e 0) = wrap (x1 (ix2 1 e)) from word_v167 x1 e,
    show row 100000 NN_pos (wrap (x1 (ix2 1 e))) = a.d e from H.hdst e, at_v161 H]

theorem at_v171 (e : Fin 1600000) : ((val_main_v171 (F := Ideal) x0 x1 x2 x3 x4 x5 x6 x7 x8 x9 x10 x11 x12 x13) (ix2 e 0) : EReal) = ((a.ex2 e / (a.den2 (a.d e) + a.e16) : ℝ) : EReal) := by
  refine (form_v171 e (val_main_v158 (F := Ideal) x0 x1 x2 x3 x4 x5 x6 x7 x8 x9 x10 x11 x12 x13) (val_main_v168 (F := Ideal) x0 x1 x2 x3 x4 x5 x6 x7 x8 x9 x10 x11 x12 x13)).trans ?_
  rw [at_v158 H, at_v168 H, word_e16, ← H.he16]
  exact quot_real _ _ _ (a.den2_pos _)

theorem at_v178 (e : Fin 1600000) (o : Fin 32) : ((val_main_v178 (F := Ideal) x0 x1 x2 x3 x4 x5 x6 x7 x8 x9 x10 x11) (ix3 e 0 o) : EReal) = ((a.h2w (a.s e) o : ℝ) : EReal) := by
  refine (take3_apply NN_pos Facts₀.gather_S100000x1x32_S1600000x1_S1600000x1x32_12_0_n_n_0_1_1132_wf (val_main_v117 (F := Ideal) x0 x1 x2 x3 x4 x5 x6 x7 x8 x9 x10 x11) (val_main_v177 (F := Ideal) x1) e 0 o).trans ?_
  rw [show (val_main_v177 (F := Ideal) x1) (ix2 e 0) = wrap (x1 (ix2 0 e)) from word_v177 x1 e,
    show row 100000 NN_pos (wrap (x1 (ix2 0 e))) = a.s e from H.hsrc e, at_v117 H]

theorem at_v184 (e : Fin 1600000) (o : Fin 32) : ((val_main_v184 (F := Ideal) x0 x1 x2 x3 x4 x5 x6 x7 x8 x9 x10 x11 x12 x13) (ix3 e 0 o) : EReal) = ((a.h2w (a.s e) o * (a.ex2 e / (a.den2 (a.d e) + a.e16)) * a.ew e : ℝ) : EReal) := by
  refine (form_v184 e o x2 (val_main_v171 (F := Ideal) x0 x1 x2 x3 x4 x5 x6 x7 x8 x9 x10 x11 x12 x13) (val_main_v178 (F := Ideal) x0 x1 x2 x3 x4 x5 x6 x7 x8 x9 x10 x11)).trans ?_
  rw [at_v178 H, at_v171 H, H.h2]
  simp only [EReal.coe_mul]

theorem at_v187 (n : Fin 100000) (o : Fin 32) : ((val_main_v187 (F := Ideal) x0 x1 x2 x3 x4 x5 x6 x7 x8 x9 x10 x11 x12 x13) (ix3 n 0 o) : EReal) = ((a.g n o : ℝ) : EReal) := by
  refine (segment3_apply Facts₀.scatter_S100000x1x32_S1600000x1_S1600000x1x32_12_0_0_1_wf (val_main_v185 (F := Ideal)) (val_main_v186 (F := Ideal) x1) (val_main_v184 (F := Ideal) x0 x1 x2 x3 x4 x5 x6 x7 x8 x9 x10 x11 x12 x13) n 0 o).trans ?_
  rw [into_v186 H, show (val_main_v185 (F := Ideal)) (ix3 n 0 o) = (0 : EReal) from form_v185 n o, zero_add]
  rw [← a.layer2_eq]
  exact sum_real fun e _ => at_v184 H e o

theorem at_v188 (n : Fin 100000) (o : Fin 32) : ((val_main_v188 (F := Ideal) x0 x1 x2 x3 x4 x5 x6 x7 x8 x9 x10 x11 x12 x13) (ix2 n o) : EReal) = ((a.g n o : ℝ) : EReal) := by
  refine (form_v188 n o (val_main_v187 (F := Ideal) x0 x1 x2 x3 x4 x5 x6 x7 x8 x9 x10 x11 x12 x13)).trans ?_
  exact at_v187 H n o

end Cert.Graph
-- ==== Proof.RefOut.lean ====
/- The reference's result: the two dense layers on layer 2's output. -/
module

public import proofs.«01_k».proof.Proof.Gen.ReferenceIdeal.Read
public import proofs.«01_k».proof.Proof.Inputs
public import proofs.«01_k».proof.Proof.Formulas
public import proofs.«01_k».proof.Proof.RefLayer2
public import proofs.«01_k».proof.Proof.Dense
public import Idealize.ShloMosaic.Lib.Pointwise

@[expose] public section

noncomputable section

namespace Cert.Graph

open Idealize.ShloMosaic Cert.ReferenceIdeal Cert.ReferenceIdeal.Gen Cert.ReferenceIdeal.Read
open scoped BigOperators

theorem form_v203 (n : Fin 100000) (x14 : FVec Ideal S32 .f32) (x15 : FVec Ideal S32x16 .f32) (x16 : FVec Ideal S16 .f32) (x17 : FVec Ideal S16x1 .f32) (x18 : FVec Ideal S1 .f32) (y188 : FVec Ideal S100000x32 .f32) :
    ((addf (Host.dotGeneral dot_S100000x16_S16x1_S100000x1_1_0_0_1_n_n none (maximumf (addf (Host.dotGeneral dot_S100000x32_S32x16_S100000x16_1_0_0_1_n_n none (maximumf (addf y188 (broadcastInDim S100000x32 ![0, 1] bcast_S1x32_S100000x32_0_1 (broadcastInDim S1x32 ![1] bcast_S32_S1x32_1 (x14) : FVec Ideal S1x32 .f32) : FVec Ideal S100000x32 .f32) : FVec Ideal S100000x32 .f32) (broadcastInDim S100000x32 ![] bcast_S_S100000x32 (constant S_ .f32 0x00000000#32 : FVec Ideal S_ .f32) : FVec Ideal S100000x32 .f32) : FVec Ideal S100000x32 .f32) (x15) : FVec Ideal S100000x16 .f32) (broadcastInDim S100000x16 ![0, 1] bcast_S1x16_S100000x16_0_1 (broadcastInDim S1x16 ![1] bcast_S16_S1x16_1 (x16) : FVec Ideal S1x16 .f32) : FVec Ideal S100000x16 .f32) : FVec Ideal S100000x16 .f32) (broadcastInDim S100000x16 ![] bcast_S_S100000x16 (constant S_ .f32 0x00000000#32 : FVec Ideal S_ .f32) : FVec Ideal S100000x16 .f32) : FVec Ideal S100000x16 .f32) (x17) : FVec Ideal S100000x1 .f32) (broadcastInDim S100000x1 ![0, 1] bcast_S1x1_S100000x1_0_1 (broadcastInDim S1x1 ![1] bcast_S1_S1x1_1 (x18) : FVec Ideal S1x1 .f32) : FVec Ideal S100000x1 .f32) : FVec Ideal S100000x1 .f32) (ix2 n 0) : EReal)
      = (∑ x, max (∑ x_1, max (y188 (ix2 n x_1) + x14 (ix1 x_1)) 0 * x15 (ix2 x_1 x) + x16 (ix1 x)) 0 * x17 (ix2 x 0)) + x18 (ix1 0) := by
  pointwise []

variable {a : Net} {x0 : Arr ⟨2, ![100000, 1]⟩} {x1 : IVec ⟨2, ![2, 1600000]⟩ 32} {x2 : Arr ⟨1, ![1600000]⟩}
  {x3 x4 : Arr ⟨1, ![1]⟩} {x5 : Arr ⟨2, ![1, 128]⟩} {x6 x7 : Arr ⟨2, ![8, 16]⟩} {x8 x9 x10 : Arr ⟨1, ![128]⟩}
  {x11 : Arr ⟨2, ![128, 32]⟩} {x12 x13 : Arr ⟨2, ![1, 32]⟩} (H : Holds a x0 x1 x2 x3 x4 x5 x6 x7 x8 x9 x10 x11 x12 x13)
include H

/-- The reference's result. -/
theorem at_v203 (x14 : Arr S32) (x15 : Arr S32x16) (x16 : Arr S16) (x17 : Arr S16x1) (x18 : Arr S1) (n : Fin 100000) :
    ((val_main_v203 (F := Ideal) x0 x1 x2 x3 x4 x5 x6 x7 x8 x9 x10 x11 x12 x13 x14 x15 x16 x17 x18) (ix2 n 0) : EReal) = dense (fun o => ((a.g n o : ℝ) : EReal)) x14 x15 x16 x17 x18 := by
  refine (form_v203 n x14 x15 x16 x17 x18 (val_main_v188 (F := Ideal) x0 x1 x2 x3 x4 x5 x6 x7 x8 x9 x10 x11 x12 x13)).trans ?_
  simp only [at_v188 H]
  rfl

end Cert.Graph
-- ==== Proof.Match.lean ====
/- The kernel's result and the reference's, on real inputs: one array. -/
module

public import proofs.«01_k».proof.Proof.Chain2
public import proofs.«01_k».proof.Proof.Pre
public import proofs.«01_k».proof.Proof.RefOut

@[expose] public section

noncomputable section

namespace Cert.Graph

open Idealize.ShloMosaic Cert.KernelIdeal Cert.KernelIdeal.Gen

theorem result_eq (m : (ℓ : Loc nD τ sig) → Buf (Elt Ideal) ℓ) (ρ : Dev nD → PrngReg) (c : Dev nD)
    (h : Cert.Pre_real_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) = fun _ => 1#1) :
    @Eq (FVec Ideal S100000x1 .f32) (W12 m ρ c (Proc.devRef .tc main_v115))
      (Cert.ReferenceIdeal.Read.val_main_v203 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))) := by
  obtain ⟨a, H⟩ := reals_of_pre _ _ _ _ _ _ _ _ _ _ _ _ _ _ _ _ _ _ _ h
  funext y
  have hy : y = ix2 (y 0) 0 := by
    funext i
    match i with
    | ⟨0, _⟩ => rfl
    | ⟨1, _⟩ => exact Subsingleton.elim (α := Fin 1) _ _
  rw [hy]
  exact (at12_v115 m ρ c (show HoldsV a (W0 m ρ c) from H) (y 0)).trans (at_v203 H _ _ _ _ _ (y 0)).symm

end Cert.Graph
-- ==== Proof.lean ====
/- The claims of `Defs.lean`, put together. The frames are the generated ones; the idealized program is the kernel's
   own text, so `preserves` has nothing to say; the value claim is `Match.lean`'s equation under the two runs. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_real_inputs
public import proofs.«01_k».proof.Proof.KernelRun
public import proofs.«01_k».proof.Proof.Match
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference runs to its end and leaves its arguments alone; it has no semaphores. -/
theorem frame_reference : Cert.quiescent_ReferenceIdeal (hReferenceIdeal := Cert.ReferenceIdeal.Gen.facts) :=
  fun m ρ _ => (θ_run _ _ _).mono (fun r h => ⟨fun c => (h c).2, sem_eq_zero_of_no_sems rfl r.2⟩)
    (Cert.ReferenceIdeal.Value.run m ρ)

/-- On real inputs the kernel and the reference end with one result: what the kernel's last launch leaves. -/
theorem value : Cert.algebraic_KernelIdeal_ReferenceIdeal_pre_real_inputs (hKernelIdeal := Cert.KernelIdeal.Gen.facts)
    (hReferenceIdeal := Cert.ReferenceIdeal.Gen.facts) (hPre_real_inputs := Cert.Pre_real_inputs.Gen.facts) := by
  intro m g m' g' hpre hagree
  refine ⟨fun c => Cert.KernelIdeal.Gen.W12 m g c (Proc.devRef .tc Cert.KernelIdeal.main_v115), Cert.KernelIdeal.Gen.run m g,
    (θ_run _ _ _).mono (fun r h c => ⟨(h c).1.trans ?_, (h c).2⟩) (Cert.ReferenceIdeal.Value.run m' g')⟩
  obtain ⟨h0, h1, h2, h3, h4, h5, h6, h7, h8, h9, h10, h11, h12, h13, h14, h15, h16, h17, h18⟩ := hagree c
  refine (Cert.ReferenceIdeal.Read.val_main_v203_eq (StableHlo.launchContents m' c)).trans ?_
  show Cert.ReferenceIdeal.Read.val_main_v203 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) = _
  rw [h0, h1, h2, h3, h4, h5, h6, h7, h8, h9, h10, h11, h12, h13, h14, h15, h16, h17, h18]
  exact (Cert.Graph.result_eq m g c (hpre c)).symm

theorem claim : Cert.Claim :=
  ⟨Cert.Kernel.Gen.facts, Cert.KernelIdeal.Gen.facts, Cert.ReferenceIdeal.Gen.facts, Cert.Pre_real_inputs.Gen.facts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    trivial,
    value⟩

end Cert.Proof

end
